-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S8x176x4096 : Shape := ⟨3, ![8, 176, 4096]⟩
abbrev S8x168x4096 : Shape := ⟨3, ![8, 168, 4096]⟩
abbrev S4x176x4096 : Shape := ⟨3, ![4, 176, 4096]⟩
abbrev S4x168x4096 : Shape := ⟨3, ![4, 168, 4096]⟩
abbrev S2x176x4096 : Shape := ⟨3, ![2, 176, 4096]⟩
abbrev S8x128 : Shape := ⟨2, ![8, 128]⟩
abbrev S3x7 : Shape := ⟨2, ![3, 7]⟩
abbrev S8 : Shape := ⟨1, ![8]⟩
abbrev S2 : Shape := ⟨1, ![2]⟩
abbrev S_ : Shape := ⟨0, ![]⟩
abbrev S1x1 : Shape := ⟨2, ![1, 1]⟩
abbrev S1x176x4096 : Shape := ⟨3, ![1, 176, 4096]⟩
abbrev S176x4096 : Shape := ⟨2, ![176, 4096]⟩
abbrev S1x168x4096 : Shape := ⟨3, ![1, 168, 4096]⟩
abbrev S168x4096 : Shape := ⟨2, ![168, 4096]⟩
abbrev S1 : Shape := ⟨1, ![1]⟩
abbrev S176x256 : Shape := ⟨2, ![176, 256]⟩
abbrev S1x176x256 : Shape := ⟨3, ![1, 176, 256]⟩
abbrev S1x1x1 : Shape := ⟨3, ![1, 1, 1]⟩
abbrev S168x256 : Shape := ⟨2, ![168, 256]⟩
abbrev S1x168x256 : Shape := ⟨3, ![1, 168, 256]⟩
abbrev S1x128 : Shape := ⟨2, ![1, 128]⟩
abbrev S1x8x128 : Shape := ⟨3, ![1, 8, 128]⟩

abbrev nBuf : Space → Nat
  | .hbm => 6
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .hbm, ⟨3, _⟩ => ⟨S8x176x4096, .f32⟩
  | .hbm, ⟨4, _⟩ => ⟨S8x168x4096, .f32⟩
  | .hbm, ⟨5, _⟩ => ⟨S8x168x4096, .f32⟩
  | .local _ .vmem, ⟨0, _⟩ => ⟨S4096x256, .f32⟩
  | .local _ .vmem, ⟨1, _⟩ => ⟨S4096x256, .f32⟩
  | .local _ .vmem, ⟨2, _⟩ => ⟨S4x176x4096, .f32⟩
  | .local _ .vmem, ⟨3, _⟩ => ⟨S4x168x4096, .f32⟩
  | .local _ .vmem, ⟨4, _⟩ => ⟨S4x168x4096, .f32⟩
  | .local _ .vmem, ⟨5, _⟩ => ⟨S2x176x4096, .f32⟩
  | .local _ .vmem, ⟨6, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_24 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_23 : BitVec 32 := 1#32
  let v61 : BitVec 32 := Scalar.muli v47 c1_i32_23
  let v62 : BitVec 32 := Scalar.addi c0_i32_24 v61
  v62.toNat
def k0_dev2 (d0 : Dev nD) : Nat :=
  let c0_i32_27 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_26 : BitVec 32 := 1#32
  let v63 : BitVec 32 := Scalar.muli v53 c1_i32_26
  let v64 : BitVec 32 := Scalar.addi c0_i32_27 v63
  v64.toNat
def k0_dev3 (d0 : Dev nD) : Nat :=
  let c0_i32_30 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_29 : BitVec 32 := 1#32
  let v65 : BitVec 32 := Scalar.muli v59 c1_i32_29
  let v66 : BitVec 32 := Scalar.addi c0_i32_30 v65
  v66.toNat
def k0_dev4 (d0 : Dev nD) : Nat :=
  let c0_i32_37 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_36 : BitVec 32 := 1#32
  let v67 : BitVec 32 := Scalar.muli v47 c1_i32_36
  let v68 : BitVec 32 := Scalar.addi c0_i32_37 v67
  v68.toNat
def k0_dev5 (d0 : Dev nD) : Nat :=
  let c0_i32_48 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_47 : BitVec 32 := 1#32
  let v76 : BitVec 32 := Scalar.muli v53 c1_i32_47
  let v77 : BitVec 32 := Scalar.addi c0_i32_48 v76
  v77.toNat
def k0_dev6 (d0 : Dev nD) : Nat :=
  let c0_i32_59 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_58 : BitVec 32 := 1#32
  let v85 : BitVec 32 := Scalar.muli v59 c1_i32_58
  let v86 : BitVec 32 := Scalar.addi c0_i32_59 v85
  v86.toNat
def k0_dev7 (d0 : Dev nD) : Nat :=
  let c0_i32_70 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_69 : BitVec 32 := 1#32
  let v94 : BitVec 32 := Scalar.muli v53 c1_i32_69
  let v95 : BitVec 32 := Scalar.addi c0_i32_70 v94
  v95.toNat
def k0_dev8 (d0 : Dev nD) : Nat :=
  let c0_i32_80 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_79 : BitVec 32 := 1#32
  let v103 : BitVec 32 := Scalar.muli v59 c1_i32_79
  let v104 : BitVec 32 := Scalar.addi c0_i32_80 v103
  v104.toNat
def k0_dev9 (d0 : Dev nD) : Nat :=
  let c0_i32_91 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_90 : BitVec 32 := 1#32
  let v112 : BitVec 32 := Scalar.muli v47 c1_i32_90
  let v113 : BitVec 32 := Scalar.addi c0_i32_91 v112
  v113.toNat
def k0_dev10 (d0 : Dev nD) : Nat :=
  let c0_i32_102 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_101 : BitVec 32 := 1#32
  let v121 : BitVec 32 := Scalar.muli v59 c1_i32_101
  let v122 : BitVec 32 := Scalar.addi c0_i32_102 v121
  v122.toNat
def k0_dev11 (d0 : Dev nD) : Nat :=
  let c0_i32_112 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_111 : BitVec 32 := 1#32
  let v130 : BitVec 32 := Scalar.muli v47 c1_i32_111
  let v131 : BitVec 32 := Scalar.addi c0_i32_112 v130
  v131.toNat
def k0_dev12 (d0 : Dev nD) : Nat :=
  let c0_i32_123 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_122 : BitVec 32 := 1#32
  let v139 : BitVec 32 := Scalar.muli v53 c1_i32_122
  let v140 : BitVec 32 := Scalar.addi c0_i32_123 v139
  v140.toNat
def k0_off1 (d0 : Dev nD) : Fin 2 → Nat :=
  let c4_i32_152 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v173 : BitVec 32 := Scalar.muli c4_i32_152 v19
  let c2_i32_153 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v174 : BitVec 32 := Scalar.muli c2_i32_153 v38
  let v175 : BitVec 32 := Scalar.addi v173 v174
  let c2_i32_12 : BitVec 32 := 2#32
  let v39 : BitVec 32 := Scalar.muli c2_i32_12 v38
  let v40 : BitVec 32 := Scalar.subi v21 v39
  let v41 : BitVec 32 := Scalar.xori v40 v38
  let v176 : BitVec 32 := Scalar.xori v41 v38
  let v177 : BitVec 32 := Scalar.addi v175 v176
  let c512_i32 : BitVec 32 := 512#32
  let v178 : BitVec 32 := Scalar.muli v177 c512_i32
  let c0_i32_154 : BitVec 32 := 0#32
  let v179 : BitVec 32 := Scalar.addi v178 c0_i32_154
  let v180 : Index := Scalar.indexCast v179
  let c0_155 : Index := 0#32
  ![v180.toNat, 0]
def k0_dev13 (d0 : Dev nD) : Nat :=
  let c0_i32_232 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_231 : BitVec 32 := 1#32
  let v223 : BitVec 32 := Scalar.muli v53 c1_i32_231
  let v224 : BitVec 32 := Scalar.addi c0_i32_232 v223
  v224.toNat
def k0_dev14 (d0 : Dev nD) : Nat :=
  let c0_i32_244 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_243 : BitVec 32 := 1#32
  let v233 : BitVec 32 := Scalar.muli v59 c1_i32_243
  let v234 : BitVec 32 := Scalar.addi c0_i32_244 v233
  v234.toNat
def k0_dev15 (d0 : Dev nD) : Nat :=
  let c0_i32_256 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_255 : BitVec 32 := 1#32
  let v243 : BitVec 32 := Scalar.muli v59 c1_i32_255
  let v244 : BitVec 32 := Scalar.addi c0_i32_256 v243
  v244.toNat
def k0_dev16 (d0 : Dev nD) : Nat :=
  let c0_i32_268 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_267 : BitVec 32 := 1#32
  let v253 : BitVec 32 := Scalar.muli v47 c1_i32_267
  let v254 : BitVec 32 := Scalar.addi c0_i32_268 v253
  v254.toNat
def k0_dev17 (d0 : Dev nD) : Nat :=
  let c0_i32_280 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_279 : BitVec 32 := 1#32
  let v263 : BitVec 32 := Scalar.muli v47 c1_i32_279
  let v264 : BitVec 32 := Scalar.addi c0_i32_280 v263
  v264.toNat
def k0_dev18 (d0 : Dev nD) : Nat :=
  let c0_i32_292 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_291 : BitVec 32 := 1#32
  let v273 : BitVec 32 := Scalar.muli v53 c1_i32_291
  let v274 : BitVec 32 := Scalar.addi c0_i32_292 v273
  v274.toNat
def k0_off2 (d0 : Dev nD) (c176_i32_312 : BitVec 32) : Fin 2 → Nat :=
  let c4_i32_309 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v298 : BitVec 32 := Scalar.muli c4_i32_309 v19
  let c2_i32_310 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v299 : BitVec 32 := Scalar.muli c2_i32_310 v38
  let v300 : BitVec 32 := Scalar.addi v298 v299
  let c2_i32_12 : BitVec 32 := 2#32
  let v39 : BitVec 32 := Scalar.muli c2_i32_12 v38
  let v40 : BitVec 32 := Scalar.subi v21 v39
  let v41 : BitVec 32 := Scalar.xori v40 v38
  let v301 : BitVec 32 := Scalar.xori v41 v38
  let v302 : BitVec 32 := Scalar.addi v300 v301
  let c512_i32_311 : BitVec 32 := 512#32
  let v303 : BitVec 32 := Scalar.muli v302 c512_i32_311
  let v304 : BitVec 32 := Scalar.addi v303 c176_i32_312
  let v305 : Index := Scalar.indexCast v304
  let c0_313 : Index := 0#32
  ![v305.toNat, 0]
def k0_off3 (d0 : Dev nD) : Fin 2 → Nat :=
  let c4_i32_361 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v360 : BitVec 32 := Scalar.muli c4_i32_361 v19
  let c2_i32_362 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v361 : BitVec 32 := Scalar.muli c2_i32_362 v38
  let v362 : BitVec 32 := Scalar.addi v360 v361
  let c1_i32_360 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v359 : BitVec 32 := Scalar.subi c1_i32_360 v41
  let v363 : BitVec 32 := Scalar.xori v359 v38
  let v364 : BitVec 32 := Scalar.addi v362 v363
  let c512_i32_363 : BitVec 32 := 512#32
  let v365 : BitVec 32 := Scalar.muli v364 c512_i32_363
  let c0_i32_364 : BitVec 32 := 0#32
  let v366 : BitVec 32 := Scalar.addi v365 c0_i32_364
  let v367 : Index := Scalar.indexCast v366
  let c0_365 : Index := 0#32
  ![v367.toNat, 0]
def k0_dev19 (d0 : Dev nD) : Nat :=
  let c0_i32_442 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_441 : BitVec 32 := 1#32
  let v411 : BitVec 32 := Scalar.muli v59 c1_i32_441
  let v412 : BitVec 32 := Scalar.addi c0_i32_442 v411
  v412.toNat
def k0_dev20 (d0 : Dev nD) : Nat :=
  let c0_i32_454 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_453 : BitVec 32 := 1#32
  let v421 : BitVec 32 := Scalar.muli v47 c1_i32_453
  let v422 : BitVec 32 := Scalar.addi c0_i32_454 v421
  v422.toNat
def k0_dev21 (d0 : Dev nD) : Nat :=
  let c0_i32_466 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_465 : BitVec 32 := 1#32
  let v431 : BitVec 32 := Scalar.muli v53 c1_i32_465
  let v432 : BitVec 32 := Scalar.addi c0_i32_466 v431
  v432.toNat
def k0_off4 (d0 : Dev nD) (c176_i32_489 : BitVec 32) : Fin 2 → Nat :=
  let c4_i32_486 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v458 : BitVec 32 := Scalar.muli c4_i32_486 v19
  let c2_i32_487 : BitVec 32 := 2#32
  let c1_i32_485 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v457 : BitVec 32 := Scalar.subi c1_i32_485 v38
  let v459 : BitVec 32 := Scalar.muli c2_i32_487 v457
  let v460 : BitVec 32 := Scalar.addi v458 v459
  let c2_i32_12 : BitVec 32 := 2#32
  let v39 : BitVec 32 := Scalar.muli c2_i32_12 v38
  let v40 : BitVec 32 := Scalar.subi v21 v39
  let v41 : BitVec 32 := Scalar.xori v40 v38
  let v461 : BitVec 32 := Scalar.xori v41 v457
  let v462 : BitVec 32 := Scalar.addi v460 v461
  let c512_i32_488 : BitVec 32 := 512#32
  let v463 : BitVec 32 := Scalar.muli v462 c512_i32_488
  let v464 : BitVec 32 := Scalar.addi v463 c176_i32_489
  let v465 : Index := Scalar.indexCast v464
  let c0_490 : Index := 0#32
  ![v465.toNat, 0]
def k0_off5 (d0 : Dev nD) (c344_i32_516 : BitVec 32) : Fin 2 → Nat :=
  let c4_i32_513 : BitVec 32 := 4#32
  let c1_i32_512 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v489 : BitVec 32 := Scalar.subi c1_i32_512 v19
  let v490 : BitVec 32 := Scalar.muli c4_i32_513 v489
  let c2_i32_514 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v491 : BitVec 32 := Scalar.muli c2_i32_514 v38
  let v492 : BitVec 32 := Scalar.addi v490 v491
  let c2_i32_12 : BitVec 32 := 2#32
  let v39 : BitVec 32 := Scalar.muli c2_i32_12 v38
  let v40 : BitVec 32 := Scalar.subi v21 v39
  let v41 : BitVec 32 := Scalar.xori v40 v38
  let v493 : BitVec 32 := Scalar.xori v41 v38
  let v494 : BitVec 32 := Scalar.addi v492 v493
  let c512_i32_515 : BitVec 32 := 512#32
  let v495 : BitVec 32 := Scalar.muli v494 c512_i32_515
  let v496 : BitVec 32 := Scalar.addi v495 c344_i32_516
  let v497 : Index := Scalar.indexCast v496
  let c0_517 : Index := 0#32
  ![v497.toNat, 0]
def k0_off6 (d0 : Dev nD) : Fin 2 → Nat :=
  let c4_i32_540 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v522 : BitVec 32 := Scalar.muli c4_i32_540 v19
  let c2_i32_541 : BitVec 32 := 2#32
  let c1_i32_539 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v521 : BitVec 32 := Scalar.subi c1_i32_539 v38
  let v523 : BitVec 32 := Scalar.muli c2_i32_541 v521
  let v524 : BitVec 32 := Scalar.addi v522 v523
  let c2_i32_12 : BitVec 32 := 2#32
  let v39 : BitVec 32 := Scalar.muli c2_i32_12 v38
  let v40 : BitVec 32 := Scalar.subi v21 v39
  let v41 : BitVec 32 := Scalar.xori v40 v38
  let v525 : BitVec 32 := Scalar.xori v41 v521
  let v526 : BitVec 32 := Scalar.addi v524 v525
  let c512_i32_542 : BitVec 32 := 512#32
  let v527 : BitVec 32 := Scalar.muli v526 c512_i32_542
  let c0_i32_543 : BitVec 32 := 0#32
  let v528 : BitVec 32 := Scalar.addi v527 c0_i32_543
  let v529 : Index := Scalar.indexCast v528
  let c0_544 : Index := 0#32
  ![v529.toNat, 0]
def k0_dev22 (d0 : Dev nD) : Nat :=
  let c0_i32_627 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v54 : BitVec 32 := Scalar.subi c1_i32_19 v19
  let v55 : BitVec 32 := Scalar.muli c4_i32_20 v54
  let c2_i32_21 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v56 : BitVec 32 := Scalar.muli c2_i32_21 v38
  let v57 : BitVec 32 := Scalar.addi v55 v56
  let c2_i32_12 : BitVec 32 := 2#32
  let v39 : BitVec 32 := Scalar.muli c2_i32_12 v38
  let v40 : BitVec 32 := Scalar.subi v21 v39
  let v41 : BitVec 32 := Scalar.xori v40 v38
  let v58 : BitVec 32 := Scalar.xori v41 v38
  let v59 : BitVec 32 := Scalar.addi v57 v58
  let c1_i32_626 : BitVec 32 := 1#32
  let v579 : BitVec 32 := Scalar.muli v59 c1_i32_626
  let v580 : BitVec 32 := Scalar.addi c0_i32_627 v579
  v580.toNat
def k0_dev23 (d0 : Dev nD) : Nat :=
  let c0_i32_639 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_14 v19
  let c2_i32_15 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v44 : BitVec 32 := Scalar.muli c2_i32_15 v38
  let v45 : BitVec 32 := Scalar.addi v43 v44
  let c1_i32_13 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v42 : BitVec 32 := Scalar.subi c1_i32_13 v41
  let v46 : BitVec 32 := Scalar.xori v42 v38
  let v47 : BitVec 32 := Scalar.addi v45 v46
  let c1_i32_638 : BitVec 32 := 1#32
  let v589 : BitVec 32 := Scalar.muli v47 c1_i32_638
  let v590 : BitVec 32 := Scalar.addi c0_i32_639 v589
  v590.toNat
def k0_dev24 (d0 : Dev nD) : Nat :=
  let c0_i32_651 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v49 : BitVec 32 := Scalar.muli c4_i32_17 v19
  let c2_i32_18 : BitVec 32 := 2#32
  let c1_i32_16 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v48 : BitVec 32 := Scalar.subi c1_i32_16 v38
  let v50 : BitVec 32 := Scalar.muli c2_i32_18 v48
  let v51 : BitVec 32 := Scalar.addi v49 v50
  let c2_i32_12 : BitVec 32 := 2#32
  let v39 : BitVec 32 := Scalar.muli c2_i32_12 v38
  let v40 : BitVec 32 := Scalar.subi v21 v39
  let v41 : BitVec 32 := Scalar.xori v40 v38
  let v52 : BitVec 32 := Scalar.xori v41 v48
  let v53 : BitVec 32 := Scalar.addi v51 v52
  let c1_i32_650 : BitVec 32 := 1#32
  let v599 : BitVec 32 := Scalar.muli v53 c1_i32_650
  let v600 : BitVec 32 := Scalar.addi c0_i32_651 v599
  v600.toNat
def k0_off7 (d0 : Dev nD) (c344_i32_701 : BitVec 32) : Fin 2 → Nat :=
  let c4_i32_698 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v658 : BitVec 32 := Scalar.muli c4_i32_698 v19
  let c2_i32_699 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v659 : BitVec 32 := Scalar.muli c2_i32_699 v38
  let v660 : BitVec 32 := Scalar.addi v658 v659
  let c1_i32_697 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v657 : BitVec 32 := Scalar.subi c1_i32_697 v41
  let v661 : BitVec 32 := Scalar.xori v657 v38
  let v662 : BitVec 32 := Scalar.addi v660 v661
  let c512_i32_700 : BitVec 32 := 512#32
  let v663 : BitVec 32 := Scalar.muli v662 c512_i32_700
  let v664 : BitVec 32 := Scalar.addi v663 c344_i32_701
  let v665 : Index := Scalar.indexCast v664
  let c0_702 : Index := 0#32
  ![v665.toNat, 0]
def k0_off8 (d0 : Dev nD) : Fin 2 → Nat :=
  let c4_i32_726 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v691 : BitVec 32 := Scalar.muli c4_i32_726 v19
  let c2_i32_727 : BitVec 32 := 2#32
  let c1_i32_725 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v690 : BitVec 32 := Scalar.subi c1_i32_725 v38
  let v692 : BitVec 32 := Scalar.muli c2_i32_727 v690
  let v693 : BitVec 32 := Scalar.addi v691 v692
  let c1_i32_724 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v689 : BitVec 32 := Scalar.subi c1_i32_724 v41
  let v694 : BitVec 32 := Scalar.xori v689 v690
  let v695 : BitVec 32 := Scalar.addi v693 v694
  let c512_i32_728 : BitVec 32 := 512#32
  let v696 : BitVec 32 := Scalar.muli v695 c512_i32_728
  let c0_i32_729 : BitVec 32 := 0#32
  let v697 : BitVec 32 := Scalar.addi v696 c0_i32_729
  let v698 : Index := Scalar.indexCast v697
  let c0_730 : Index := 0#32
  ![v698.toNat, 0]
def k0_off9 (d0 : Dev nD) (c176_i32_820 : BitVec 32) : Fin 2 → Nat :=
  let c4_i32_817 : BitVec 32 := 4#32
  let c1_i32_816 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v759 : BitVec 32 := Scalar.subi c1_i32_816 v19
  let v760 : BitVec 32 := Scalar.muli c4_i32_817 v759
  let c2_i32_818 : BitVec 32 := 2#32
  let c1_i32_815 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v758 : BitVec 32 := Scalar.subi c1_i32_815 v38
  let v761 : BitVec 32 := Scalar.muli c2_i32_818 v758
  let v762 : BitVec 32 := Scalar.addi v760 v761
  let c2_i32_12 : BitVec 32 := 2#32
  let v39 : BitVec 32 := Scalar.muli c2_i32_12 v38
  let v40 : BitVec 32 := Scalar.subi v21 v39
  let v41 : BitVec 32 := Scalar.xori v40 v38
  let v763 : BitVec 32 := Scalar.xori v41 v758
  let v764 : BitVec 32 := Scalar.addi v762 v763
  let c512_i32_819 : BitVec 32 := 512#32
  let v765 : BitVec 32 := Scalar.muli v764 c512_i32_819
  let v766 : BitVec 32 := Scalar.addi v765 c176_i32_820
  let v767 : Index := Scalar.indexCast v766
  let c0_821 : Index := 0#32
  ![v767.toNat, 0]
def k0_off10 (d0 : Dev nD) (c344_i32_841 : BitVec 32) : Fin 2 → Nat :=
  let c4_i32_838 : BitVec 32 := 4#32
  let c1_i32_836 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v785 : BitVec 32 := Scalar.subi c1_i32_836 v19
  let v787 : BitVec 32 := Scalar.muli c4_i32_838 v785
  let c2_i32_839 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v788 : BitVec 32 := Scalar.muli c2_i32_839 v38
  let v789 : BitVec 32 := Scalar.addi v787 v788
  let c1_i32_837 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v786 : BitVec 32 := Scalar.subi c1_i32_837 v41
  let v790 : BitVec 32 := Scalar.xori v786 v38
  let v791 : BitVec 32 := Scalar.addi v789 v790
  let c512_i32_840 : BitVec 32 := 512#32
  let v792 : BitVec 32 := Scalar.muli v791 c512_i32_840
  let v793 : BitVec 32 := Scalar.addi v792 c344_i32_841
  let v794 : Index := Scalar.indexCast v793
  let c0_842 : Index := 0#32
  ![v794.toNat, 0]
def k0_off11 (d0 : Dev nD) : Fin 2 → Nat :=
  let c4_i32_851 : BitVec 32 := 4#32
  let c1_i32_850 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v806 : BitVec 32 := Scalar.subi c1_i32_850 v19
  let v807 : BitVec 32 := Scalar.muli c4_i32_851 v806
  let c2_i32_852 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v808 : BitVec 32 := Scalar.muli c2_i32_852 v38
  let v809 : BitVec 32 := Scalar.addi v807 v808
  let c2_i32_12 : BitVec 32 := 2#32
  let v39 : BitVec 32 := Scalar.muli c2_i32_12 v38
  let v40 : BitVec 32 := Scalar.subi v21 v39
  let v41 : BitVec 32 := Scalar.xori v40 v38
  let v810 : BitVec 32 := Scalar.xori v41 v38
  let v811 : BitVec 32 := Scalar.addi v809 v810
  let c512_i32_853 : BitVec 32 := 512#32
  let v812 : BitVec 32 := Scalar.muli v811 c512_i32_853
  let c0_i32_854 : BitVec 32 := 0#32
  let v813 : BitVec 32 := Scalar.addi v812 c0_i32_854
  let v814 : Index := Scalar.indexCast v813
  let c0_855 : Index := 0#32
  ![v814.toNat, 0]
def k0_off12 (d0 : Dev nD) : Fin 2 → Nat :=
  let c4_i32_960 : BitVec 32 := 4#32
  let c1_i32_959 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v909 : BitVec 32 := Scalar.subi c1_i32_959 v19
  let v910 : BitVec 32 := Scalar.muli c4_i32_960 v909
  let c2_i32_961 : BitVec 32 := 2#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v911 : BitVec 32 := Scalar.muli c2_i32_961 v38
  let v912 : BitVec 32 := Scalar.addi v910 v911
  let c1_i32_958 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v908 : BitVec 32 := Scalar.subi c1_i32_958 v41
  let v913 : BitVec 32 := Scalar.xori v908 v38
  let v914 : BitVec 32 := Scalar.addi v912 v913
  let c512_i32_962 : BitVec 32 := 512#32
  let v915 : BitVec 32 := Scalar.muli v914 c512_i32_962
  let c0_i32_963 : BitVec 32 := 0#32
  let v916 : BitVec 32 := Scalar.addi v915 c0_i32_963
  let v917 : Index := Scalar.indexCast v916
  let c0_964 : Index := 0#32
  ![v917.toNat, 0]
def k0_off13 (d0 : Dev nD) (c176_i32_977 : BitVec 32) : Fin 2 → Nat :=
  let c4_i32_974 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v931 : BitVec 32 := Scalar.muli c4_i32_974 v19
  let c2_i32_975 : BitVec 32 := 2#32
  let c1_i32_972 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v929 : BitVec 32 := Scalar.subi c1_i32_972 v38
  let v932 : BitVec 32 := Scalar.muli c2_i32_975 v929
  let v933 : BitVec 32 := Scalar.addi v931 v932
  let c1_i32_973 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v930 : BitVec 32 := Scalar.subi c1_i32_973 v41
  let v934 : BitVec 32 := Scalar.xori v930 v929
  let v935 : BitVec 32 := Scalar.addi v933 v934
  let c512_i32_976 : BitVec 32 := 512#32
  let v936 : BitVec 32 := Scalar.muli v935 c512_i32_976
  let v937 : BitVec 32 := Scalar.addi v936 c176_i32_977
  let v938 : Index := Scalar.indexCast v937
  let c0_978 : Index := 0#32
  ![v938.toNat, 0]
def k0_off14 (d0 : Dev nD) : Fin 2 → Nat :=
  let c4_i32_1070 : BitVec 32 := 4#32
  let c1_i32_1069 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1014 : BitVec 32 := Scalar.subi c1_i32_1069 v19
  let v1015 : BitVec 32 := Scalar.muli c4_i32_1070 v1014
  let c2_i32_1071 : BitVec 32 := 2#32
  let c1_i32_1068 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v1013 : BitVec 32 := Scalar.subi c1_i32_1068 v38
  let v1016 : BitVec 32 := Scalar.muli c2_i32_1071 v1013
  let v1017 : BitVec 32 := Scalar.addi v1015 v1016
  let c2_i32_12 : BitVec 32 := 2#32
  let v39 : BitVec 32 := Scalar.muli c2_i32_12 v38
  let v40 : BitVec 32 := Scalar.subi v21 v39
  let v41 : BitVec 32 := Scalar.xori v40 v38
  let v1018 : BitVec 32 := Scalar.xori v41 v1013
  let v1019 : BitVec 32 := Scalar.addi v1017 v1018
  let c512_i32_1072 : BitVec 32 := 512#32
  let v1020 : BitVec 32 := Scalar.muli v1019 c512_i32_1072
  let c0_i32_1073 : BitVec 32 := 0#32
  let v1021 : BitVec 32 := Scalar.addi v1020 c0_i32_1073
  let v1022 : Index := Scalar.indexCast v1021
  let c0_1074 : Index := 0#32
  ![v1022.toNat, 0]
def k0_off15 (d0 : Dev nD) : Fin 2 → Nat :=
  let c4_i32_1181 : BitVec 32 := 4#32
  let c1_i32_1180 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1120 : BitVec 32 := Scalar.subi c1_i32_1180 v19
  let v1121 : BitVec 32 := Scalar.muli c4_i32_1181 v1120
  let c2_i32_1182 : BitVec 32 := 2#32
  let c1_i32_1179 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v1119 : BitVec 32 := Scalar.subi c1_i32_1179 v38
  let v1122 : BitVec 32 := Scalar.muli c2_i32_1182 v1119
  let v1123 : BitVec 32 := Scalar.addi v1121 v1122
  let c1_i32_1178 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v1118 : BitVec 32 := Scalar.subi c1_i32_1178 v41
  let v1124 : BitVec 32 := Scalar.xori v1118 v1119
  let v1125 : BitVec 32 := Scalar.addi v1123 v1124
  let c512_i32_1183 : BitVec 32 := 512#32
  let v1126 : BitVec 32 := Scalar.muli v1125 c512_i32_1183
  let c0_i32_1184 : BitVec 32 := 0#32
  let v1127 : BitVec 32 := Scalar.addi v1126 c0_i32_1184
  let v1128 : Index := Scalar.indexCast v1127
  let c0_1185 : Index := 0#32
  ![v1128.toNat, 0]
def k0_off16 (d0 : Dev nD) (c176_i32_1199 : BitVec 32) : Fin 2 → Nat :=
  let c4_i32_1196 : BitVec 32 := 4#32
  let c1_i32_1194 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1141 : BitVec 32 := Scalar.subi c1_i32_1194 v19
  let v1143 : BitVec 32 := Scalar.muli c4_i32_1196 v1141
  let c2_i32_1197 : BitVec 32 := 2#32
  let c1_i32_1193 : BitVec 32 := 1#32
  let c4_i32_5 : BitVec 32 := 4#32
  let v20 : BitVec 32 := Scalar.muli c4_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v1140 : BitVec 32 := Scalar.subi c1_i32_1193 v38
  let v1144 : BitVec 32 := Scalar.muli c2_i32_1197 v1140
  let v1145 : BitVec 32 := Scalar.addi v1143 v1144
  let c1_i32_1195 : BitVec 32 := 1#32
  let c2_i32_12 : BitVec 32 := 2#32
  let v39 : BitVec 32 := Scalar.muli c2_i32_12 v38
  let v40 : BitVec 32 := Scalar.subi v21 v39
  let v41 : BitVec 32 := Scalar.xori v40 v38
  let v1142 : BitVec 32 := Scalar.subi c1_i32_1195 v41
  let v1146 : BitVec 32 := Scalar.xori v1142 v1140
  let v1147 : BitVec 32 := Scalar.addi v1145 v1146
  let c512_i32_1198 : BitVec 32 := 512#32
  let v1148 : BitVec 32 := Scalar.muli v1147 c512_i32_1198
  let v1149 : BitVec 32 := Scalar.addi v1148 c176_i32_1199
  let v1150 : Index := Scalar.indexCast v1149
  let c0_1200 : Index := 0#32
  ![v1150.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1176 : Index := Scalar.indexCast v2
  let c0_1217 : Index := 0#32
  ![v1176.toNat, 0]
def k0_off18 (d0 : Dev nD) (c1_i32_1218 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1180 : BitVec 32 := Scalar.addi v2 c1_i32_1218
  let c8_i32_1219 : BitVec 32 := 8#32
  let v1181 : BitVec 32 := Scalar.remsi v1180 c8_i32_1219
  ![v1181.toNat]
def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1222 : BitVec 32 := 0#32
  ![v2.toNat, 0]
def k0_dev25 (d0 : Dev nD) : Nat :=
  let c0_i32_1221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1218 : BitVec 32 := 1#32
  let v1180 : BitVec 32 := Scalar.addi v2 c1_i32_1218
  let c8_i32_1219 : BitVec 32 := 8#32
  let v1181 : BitVec 32 := Scalar.remsi v1180 c8_i32_1219
  let c1_i32_1220 : BitVec 32 := 1#32
  let v1182 : BitVec 32 := Scalar.muli v1181 c1_i32_1220
  let v1183 : BitVec 32 := Scalar.addi c0_i32_1221 v1182
  v1183.toNat
def k0_dev26 (d0 : Dev nD) : Nat :=
  let c0_i32_1227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1224 : BitVec 32 := 2#32
  let v1190 : BitVec 32 := Scalar.addi v2 c2_i32_1224
  let c8_i32_1225 : BitVec 32 := 8#32
  let v1191 : BitVec 32 := Scalar.remsi v1190 c8_i32_1225
  let c1_i32_1226 : BitVec 32 := 1#32
  let v1192 : BitVec 32 := Scalar.muli v1191 c1_i32_1226
  let v1193 : BitVec 32 := Scalar.addi c0_i32_1227 v1192
  v1193.toNat
def k0_dev27 (d0 : Dev nD) : Nat :=
  let c0_i32_1233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1230 : BitVec 32 := 3#32
  let v1200 : BitVec 32 := Scalar.addi v2 c3_i32_1230
  let c8_i32_1231 : BitVec 32 := 8#32
  let v1201 : BitVec 32 := Scalar.remsi v1200 c8_i32_1231
  let c1_i32_1232 : BitVec 32 := 1#32
  let v1202 : BitVec 32 := Scalar.muli v1201 c1_i32_1232
  let v1203 : BitVec 32 := Scalar.addi c0_i32_1233 v1202
  v1203.toNat
def k0_dev28 (d0 : Dev nD) : Nat :=
  let c0_i32_1239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1236 : BitVec 32 := 4#32
  let v1210 : BitVec 32 := Scalar.addi v2 c4_i32_1236
  let c8_i32_1237 : BitVec 32 := 8#32
  let v1211 : BitVec 32 := Scalar.remsi v1210 c8_i32_1237
  let c1_i32_1238 : BitVec 32 := 1#32
  let v1212 : BitVec 32 := Scalar.muli v1211 c1_i32_1238
  let v1213 : BitVec 32 := Scalar.addi c0_i32_1239 v1212
  v1213.toNat
def k0_dev29 (d0 : Dev nD) : Nat :=
  let c0_i32_1245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1242 : BitVec 32 := 5#32
  let v1220 : BitVec 32 := Scalar.addi v2 c5_i32_1242
  let c8_i32_1243 : BitVec 32 := 8#32
  let v1221 : BitVec 32 := Scalar.remsi v1220 c8_i32_1243
  let c1_i32_1244 : BitVec 32 := 1#32
  let v1222 : BitVec 32 := Scalar.muli v1221 c1_i32_1244
  let v1223 : BitVec 32 := Scalar.addi c0_i32_1245 v1222
  v1223.toNat
def k0_dev30 (d0 : Dev nD) : Nat :=
  let c0_i32_1251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1248 : BitVec 32 := 6#32
  let v1230 : BitVec 32 := Scalar.addi v2 c6_i32_1248
  let c8_i32_1249 : BitVec 32 := 8#32
  let v1231 : BitVec 32 := Scalar.remsi v1230 c8_i32_1249
  let c1_i32_1250 : BitVec 32 := 1#32
  let v1232 : BitVec 32 := Scalar.muli v1231 c1_i32_1250
  let v1233 : BitVec 32 := Scalar.addi c0_i32_1251 v1232
  v1233.toNat
def k0_dev31 (d0 : Dev nD) : Nat :=
  let c0_i32_1256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v1240 : BitVec 32 := Scalar.addi v2 c7_i32
  let c8_i32_1254 : BitVec 32 := 8#32
  let v1241 : BitVec 32 := Scalar.remsi v1240 c8_i32_1254
  let c1_i32_1255 : BitVec 32 := 1#32
  let v1242 : BitVec 32 := Scalar.muli v1241 c1_i32_1255
  let v1243 : BitVec 32 := Scalar.addi c0_i32_1256 v1242
  v1243.toNat
def k0_off21 (d0 : Dev nD) (c1_i32_1280 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1278 : BitVec 32 := Scalar.addi v2 c1_i32_1280
  let c8_i32_1281 : BitVec 32 := 8#32
  let v1279 : BitVec 32 := Scalar.remsi v1278 c8_i32_1281
  let c0_i32_1284 : BitVec 32 := 0#32
  ![v1279.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 24
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .fp8e4m3⟩
  | .hbm, ⟨22, _⟩ => ⟨S1x1, .f32⟩
  | .hbm, ⟨23, _⟩ => ⟨S4096x2048, .f32⟩
  | .local _ .vmem, ⟨0, _⟩ => ⟨S4096x2048, .fp8e4m3⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Cube.lean ====
/-
The eight devices as a cube.

Device `c` sits at a corner of a 2×2×2 cube; `fl e c` is its neighbour along coordinate `e`. In the device numbering the
three neighbours differ from `c` by the bit masks 1, 3 and 4. Part `j` of every device's rows travels along the
coordinates in the order `j, j+1, j+2` (mod 3): a piece in slot `s` of part `j` on device `c` started on device
`org j s c`, where bit `t` of `s` says that coordinate `j + t` was crossed.

Transfer `i` of part `j` leaves slot `srcSlot i`, crosses coordinate `j + hop i` and arrives in slot `i + 1`.
-/
module

public import proofs.«01_k».proof.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.Cube

open Cert.KernelIdeal Cert.KernelIdeal.Gen
open Idealize.ShloMosaic

/-- The bit mask of a coordinate in the device numbering. -/
def mask : Fin 3 → ℕ | 0 => 1 | 1 => 3 | 2 => 4

/-- The neighbour of `c` along coordinate `e`. -/
def fl (e : Fin 3) (c : Dev nD) : Dev nD := ⟨(c.val ^^^ mask e) % 8, Nat.mod_lt _ (by decide)⟩

theorem fl_fl (e : Fin 3) (c : Dev nD) : fl e (fl e c) = c := by revert e c; decide
theorem fl_comm (e e' : Fin 3) (c : Dev nD) : fl e (fl e' c) = fl e' (fl e c) := by revert e e' c; decide

/-- Crossing a coordinate, as a permutation of the devices. -/
def flEquiv (e : Fin 3) : Dev nD ≃ Dev nD := ⟨fl e, fl e, fl_fl e, fl_fl e⟩

/-- Device `k` places on. -/
def rot (c : Dev nD) (k : Fin 8) : Dev nD := ⟨(c.val + k.val) % 8, Nat.mod_lt _ (by decide)⟩
/-- How many places `d` is on from `c`. -/
def unrot (c d : Dev nD) : Fin 8 := ⟨(d.val + 8 - c.val) % 8, Nat.mod_lt _ (by decide)⟩
theorem unrot_rot (c : Dev nD) (k : Fin 8) : unrot c (rot c k) = k := by revert c k; decide
theorem rot_unrot (c d : Dev nD) : rot c (unrot c d) = d := by revert c d; decide
/-- Counting places from `c`, as a permutation. -/
def rotEquiv (c : Dev nD) : Fin 8 ≃ Dev nD := ⟨rot c, unrot c, unrot_rot c, rot_unrot c⟩

/-- Where the piece in slot `s` of part `j` on device `c` started. -/
def org (j : Fin 3) (s : Fin 8) (c : Dev nD) : Dev nD :=
  let a := if s.val % 2 = 1 then fl j c else c
  let b := if (s.val / 2) % 2 = 1 then fl (j + 1) a else a
  if s.val / 4 = 1 then fl (j + 2) b else b

/-- The slot transfer `i` reads. -/
def srcSlot : Fin 7 → Fin 8 | 0 => 0 | 1 => 0 | 2 => 1 | 3 => 0 | 4 => 1 | 5 => 2 | 6 => 3
/-- The coordinate transfer `i` crosses, counted from the part's first. -/
def hop : Fin 7 → Fin 3 | 0 => 0 | 1 => 1 | 2 => 1 | 3 => 2 | 4 => 2 | 5 => 2 | 6 => 2
/-- The device transfer `i` of part `j` goes to (and comes from). -/
def peer (j : Fin 3) (i : Fin 7) (c : Dev nD) : Dev nD := fl (j + hop i) c

theorem peer_peer (j : Fin 3) (i : Fin 7) (c : Dev nD) : peer j i (peer j i c) = c := fl_fl _ c

/-- A piece keeps its origin when it moves. -/
theorem org_peer (j : Fin 3) (i : Fin 7) (c : Dev nD) : org j i.succ (peer j i c) = org j (srcSlot i) c := by
  revert j i c; decide

/-- Every device is the origin of exactly one slot of a part. -/
theorem org_surj (j : Fin 3) (c d : Dev nD) : ∃ s : Fin 8, org j s c = d := by revert j c d; decide
theorem org_inj (j : Fin 3) (c : Dev nD) (s s' : Fin 8) (h : org j s c = org j s' c) : s = s' := by revert j c s s'; decide

/-! ## The devices the kernel names -/

theorem dev1_eq (c : Dev nD) : (⟨k0_dev1 c, k0_dev1_lt c⟩ : Dev nD) = fl 0 c := by revert c; decide
theorem dev2_eq (c : Dev nD) : (⟨k0_dev2 c, k0_dev2_lt c⟩ : Dev nD) = fl 1 c := by revert c; decide
theorem dev3_eq (c : Dev nD) : (⟨k0_dev3 c, k0_dev3_lt c⟩ : Dev nD) = fl 2 c := by revert c; decide
theorem dev4_eq (c : Dev nD) : (⟨k0_dev4 c, k0_dev4_lt c⟩ : Dev nD) = peer 0 0 c := by revert c; decide
theorem dev5_eq (c : Dev nD) : (⟨k0_dev5 c, k0_dev5_lt c⟩ : Dev nD) = peer 0 1 c := by revert c; decide
theorem dev6_eq (c : Dev nD) : (⟨k0_dev6 c, k0_dev6_lt c⟩ : Dev nD) = peer 0 3 c := by revert c; decide
theorem dev7_eq (c : Dev nD) : (⟨k0_dev7 c, k0_dev7_lt c⟩ : Dev nD) = peer 1 0 c := by revert c; decide
theorem dev8_eq (c : Dev nD) : (⟨k0_dev8 c, k0_dev8_lt c⟩ : Dev nD) = peer 1 1 c := by revert c; decide
theorem dev9_eq (c : Dev nD) : (⟨k0_dev9 c, k0_dev9_lt c⟩ : Dev nD) = peer 1 3 c := by revert c; decide
theorem dev10_eq (c : Dev nD) : (⟨k0_dev10 c, k0_dev10_lt c⟩ : Dev nD) = peer 2 0 c := by revert c; decide
theorem dev11_eq (c : Dev nD) : (⟨k0_dev11 c, k0_dev11_lt c⟩ : Dev nD) = peer 2 1 c := by revert c; decide
theorem dev12_eq (c : Dev nD) : (⟨k0_dev12 c, k0_dev12_lt c⟩ : Dev nD) = peer 2 3 c := by revert c; decide
theorem dev13_eq (c : Dev nD) : (⟨k0_dev13 c, k0_dev13_lt c⟩ : Dev nD) = peer 0 2 c := by revert c; decide
theorem dev14_eq (c : Dev nD) : (⟨k0_dev14 c, k0_dev14_lt c⟩ : Dev nD) = peer 0 4 c := by revert c; decide
theorem dev15_eq (c : Dev nD) : (⟨k0_dev15 c, k0_dev15_lt c⟩ : Dev nD) = peer 1 2 c := by revert c; decide
theorem dev16_eq (c : Dev nD) : (⟨k0_dev16 c, k0_dev16_lt c⟩ : Dev nD) = peer 1 4 c := by revert c; decide
theorem dev17_eq (c : Dev nD) : (⟨k0_dev17 c, k0_dev17_lt c⟩ : Dev nD) = peer 2 2 c := by revert c; decide
theorem dev18_eq (c : Dev nD) : (⟨k0_dev18 c, k0_dev18_lt c⟩ : Dev nD) = peer 2 4 c := by revert c; decide
theorem dev19_eq (c : Dev nD) : (⟨k0_dev19 c, k0_dev19_lt c⟩ : Dev nD) = peer 0 5 c := by revert c; decide
theorem dev20_eq (c : Dev nD) : (⟨k0_dev20 c, k0_dev20_lt c⟩ : Dev nD) = peer 1 5 c := by revert c; decide
theorem dev21_eq (c : Dev nD) : (⟨k0_dev21 c, k0_dev21_lt c⟩ : Dev nD) = peer 2 5 c := by revert c; decide
theorem dev22_eq (c : Dev nD) : (⟨k0_dev22 c, k0_dev22_lt c⟩ : Dev nD) = peer 0 6 c := by revert c; decide
theorem dev23_eq (c : Dev nD) : (⟨k0_dev23 c, k0_dev23_lt c⟩ : Dev nD) = peer 1 6 c := by revert c; decide
theorem dev24_eq (c : Dev nD) : (⟨k0_dev24 c, k0_dev24_lt c⟩ : Dev nD) = peer 2 6 c := by revert c; decide
theorem dev25_eq (c : Dev nD) : (⟨k0_dev25 c, k0_dev25_lt c⟩ : Dev nD) = rot c 1 := by revert c; decide
theorem dev26_eq (c : Dev nD) : (⟨k0_dev26 c, k0_dev26_lt c⟩ : Dev nD) = rot c 2 := by revert c; decide
theorem dev27_eq (c : Dev nD) : (⟨k0_dev27 c, k0_dev27_lt c⟩ : Dev nD) = rot c 3 := by revert c; decide
theorem dev28_eq (c : Dev nD) : (⟨k0_dev28 c, k0_dev28_lt c⟩ : Dev nD) = rot c 4 := by revert c; decide
theorem dev29_eq (c : Dev nD) : (⟨k0_dev29 c, k0_dev29_lt c⟩ : Dev nD) = rot c 5 := by revert c; decide
theorem dev30_eq (c : Dev nD) : (⟨k0_dev30 c, k0_dev30_lt c⟩ : Dev nD) = rot c 6 := by revert c; decide
theorem dev31_eq (c : Dev nD) : (⟨k0_dev31 c, k0_dev31_lt c⟩ : Dev nD) = rot c 7 := by revert c; decide

/-! ## The rows the kernel addresses -/

/-- The first row of part `j` of a device's 512 rows. -/
def base : Fin 3 → ℕ | 0 => 0 | 1 => 176 | 2 => 344
/-- The first row, in the result, of what slot `s` of part `j` on device `c` contributes. -/
def rowOf (j : Fin 3) (s : Fin 8) (c : Dev nD) : ℕ := 512 * (org j s c).val + base j

theorem off1_eq (c : Dev nD) : k0_off1 c = ![rowOf 0 0 c, 0] := by revert c; decide
theorem off2_176_eq (c : Dev nD) : k0_off2 c 176#32 = ![rowOf 1 0 c, 0] := by revert c; decide
theorem off2_344_eq (c : Dev nD) : k0_off2 c 344#32 = ![rowOf 2 0 c, 0] := by revert c; decide
theorem off3_eq (c : Dev nD) : k0_off3 c = ![rowOf 0 1 c, 0] := by revert c; decide
theorem off4_176_eq (c : Dev nD) : k0_off4 c 176#32 = ![rowOf 1 1 c, 0] := by revert c; decide
theorem off5_344_eq (c : Dev nD) : k0_off5 c 344#32 = ![rowOf 2 1 c, 0] := by revert c; decide
theorem off6_eq (c : Dev nD) : k0_off6 c = ![rowOf 0 2 c, 0] := by revert c; decide
theorem off5_176_eq (c : Dev nD) : k0_off5 c 176#32 = ![rowOf 1 2 c, 0] := by revert c; decide
theorem off7_344_eq (c : Dev nD) : k0_off7 c 344#32 = ![rowOf 2 2 c, 0] := by revert c; decide
theorem off8_eq (c : Dev nD) : k0_off8 c = ![rowOf 0 3 c, 0] := by revert c; decide
theorem off9_176_eq (c : Dev nD) : k0_off9 c 176#32 = ![rowOf 1 3 c, 0] := by revert c; decide
theorem off10_344_eq (c : Dev nD) : k0_off10 c 344#32 = ![rowOf 2 3 c, 0] := by revert c; decide
theorem off11_eq (c : Dev nD) : k0_off11 c = ![rowOf 0 4 c, 0] := by revert c; decide
theorem off7_176_eq (c : Dev nD) : k0_off7 c 176#32 = ![rowOf 1 4 c, 0] := by revert c; decide
theorem off4_344_eq (c : Dev nD) : k0_off4 c 344#32 = ![rowOf 2 4 c, 0] := by revert c; decide
theorem off12_eq (c : Dev nD) : k0_off12 c = ![rowOf 0 5 c, 0] := by revert c; decide
theorem off13_176_eq (c : Dev nD) : k0_off13 c 176#32 = ![rowOf 1 5 c, 0] := by revert c; decide
theorem off9_344_eq (c : Dev nD) : k0_off9 c 344#32 = ![rowOf 2 5 c, 0] := by revert c; decide
theorem off14_eq (c : Dev nD) : k0_off14 c = ![rowOf 0 6 c, 0] := by revert c; decide
theorem off10_176_eq (c : Dev nD) : k0_off10 c 176#32 = ![rowOf 1 6 c, 0] := by revert c; decide
theorem off13_344_eq (c : Dev nD) : k0_off13 c 344#32 = ![rowOf 2 6 c, 0] := by revert c; decide
theorem off15_eq (c : Dev nD) : k0_off15 c = ![rowOf 0 7 c, 0] := by revert c; decide
theorem off16_176_eq (c : Dev nD) : k0_off16 c 176#32 = ![rowOf 1 7 c, 0] := by revert c; decide
theorem off16_344_eq (c : Dev nD) : k0_off16 c 344#32 = ![rowOf 2 7 c, 0] := by revert c; decide
theorem off17_eq (c : Dev nD) : k0_off17 c = ![c.val, 0] := by revert c; decide
theorem off18_eq (c : Dev nD) (r : Fin 7) : k0_off18 c (BitVec.ofNat 32 (1 + r.val)) = ![(rot c r.succ).val] := by revert c r; decide
theorem off19_eq (c : Dev nD) : k0_off19 c = ![c.val] := by revert c; decide
theorem off20_eq (c : Dev nD) : k0_off20 c = ![c.val, 0] := by revert c; decide
theorem off21_eq (c : Dev nD) (r : Fin 7) : k0_off21 c (BitVec.ofNat 32 (1 + r.val)) = ![(rot c r.succ).val, 0] := by revert c r; decide

end Cert.Cube

end
-- ==== Proof.Contents.lean ====
/-
The memory the kernel moves through, and what each piece of it holds.

A device's 512 rows are cut into three parts of 176, 168 and 168 rows. Every piece that travels is one part of one
device's rows; `XP m j d` is part `j` of device `d`'s rows, as they stand in memory at launch. From such a piece and the
device's own columns of the weights (`wst`) the kernel computes one block of its result, `yD`; `run` is the running
maximum after so many blocks, `rowVal` the row of 128 equal numbers a device sends to the others, and `outFin` the
block of the result a device ends with.
-/
module

public import proofs.«01_k».proof.Proof.Cube

@[expose] public section

noncomputable section

namespace Cert.Cube

open Cert.KernelIdeal Cert.KernelIdeal.Gen
open Idealize.ShloMosaic
open Idealize.ShloMosaic.TcCoe

variable {F : FTy → Type} [FloatOps F]

/-! ## The pieces of the buffers -/

/-- The shape of part `j` of a device's rows; -/
abbrev sh : Fin 3 → Shape | 0 => S176x4096 | 1 => S168x4096 | 2 => S168x4096
/-- of the block of the result it gives. -/
abbrev shO : Fin 3 → Shape | 0 => S176x256 | 1 => S168x256 | 2 => S168x256

/-- Part `j` of the device's own rows. -/
abbrev xM : (j : Fin 3) → Memref sig .tc .hbm (sh j) .f32
  | 0 => (Memref.whole main_arg0 : Memref sig .tc .hbm S512x4096 .f32).slice
      (Rect.unit (s := S512x4096) ![0, 0] S176x4096.size inb_S512x4096_S176x4096_0_0) (fun _ => rfl)
  | 1 => (Memref.whole main_arg0 : Memref sig .tc .hbm S512x4096 .f32).slice
      (Rect.unit (s := S512x4096) ![176, 0] S168x4096.size inb_S512x4096_S168x4096_176_0) (fun _ => rfl)
  | 2 => (Memref.whole main_arg0 : Memref sig .tc .hbm S512x4096 .f32).slice
      (Rect.unit (s := S512x4096) ![344, 0] S168x4096.size inb_S512x4096_S168x4096_344_0) (fun _ => rfl)

theorem inbA (n : ℕ) (k : Fin n) (a : Fin 3) :
    (![k.val, 0, 0] : Fin 3 → Nat) a + S1x176x4096.size a ≤ (![n, 176, 4096] : Fin 3 → ℕ) a := by
  fin_cases a
  · exact k.isLt
  · exact le_refl _
  · exact le_refl _
theorem inbB (n : ℕ) (k : Fin n) (a : Fin 3) :
    (![k.val, 0, 0] : Fin 3 → Nat) a + S1x168x4096.size a ≤ (![n, 168, 4096] : Fin 3 → ℕ) a := by
  fin_cases a
  · exact k.isLt
  · exact le_refl _
  · exact le_refl _
theorem inbC (k : Fin 2) (a : Fin 3) :
    (![k.val, 0, 0] : Fin 3 → Nat) a + S1x168x4096.size a ≤ (![2, 176, 4096] : Fin 3 → ℕ) a := by
  fin_cases a
  · exact k.isLt
  · show 0 + 168 ≤ 176; decide
  · exact le_refl _
theorem inbR (k : Fin 8) (a : Fin 2) : (![k.val, 0] : Fin 2 → Nat) a + S1x128.size a ≤ S8x128.size a := by
  fin_cases a
  · exact k.isLt
  · exact le_refl _

/-- Slot `k` of the buffer that collects part `j` in main memory. -/
abbrev partM : (j : Fin 3) → Fin 8 → Memref sig .tc .hbm (sh j) .f32
  | 0, k => ((Memref.whole main_v1_1 : Memref sig .tc .hbm S8x176x4096 .f32).slice
      (Rect.unit (s := S8x176x4096) ![k.val, 0, 0] S1x176x4096.size (inbA 8 k)) (fun _ => rfl)).squeeze S176x4096 squeezes_S1x176x4096_S176x4096
  | 1, k => ((Memref.whole main_v1_2 : Memref sig .tc .hbm S8x168x4096 .f32).slice
      (Rect.unit (s := S8x168x4096) ![k.val, 0, 0] S1x168x4096.size (inbB 8 k)) (fun _ => rfl)).squeeze S168x4096 squeezes_S1x168x4096_S168x4096
  | 2, k => ((Memref.whole main_v1_3 : Memref sig .tc .hbm S8x168x4096 .f32).slice
      (Rect.unit (s := S8x168x4096) ![k.val, 0, 0] S1x168x4096.size (inbB 8 k)) (fun _ => rfl)).squeeze S168x4096 squeezes_S1x168x4096_S168x4096

/-- Slot `k` of the landing buffer of part `j`. -/
abbrev landM : (j : Fin 3) → Fin 4 → Memref sig .tc .vmem (sh j) .f32
  | 0, k => ((Memref.whole cc0_scratch0 : Memref sig .tc .vmem S4x176x4096 .f32).slice
      (Rect.unit (s := S4x176x4096) ![k.val, 0, 0] S1x176x4096.size (inbA 4 k)) (fun _ => rfl)).squeeze S176x4096 squeezes_S1x176x4096_S176x4096
  | 1, k => ((Memref.whole cc0_scratch1 : Memref sig .tc .vmem S4x168x4096 .f32).slice
      (Rect.unit (s := S4x168x4096) ![k.val, 0, 0] S1x168x4096.size (inbB 4 k)) (fun _ => rfl)).squeeze S168x4096 squeezes_S1x168x4096_S168x4096
  | 2, k => ((Memref.whole cc0_scratch2 : Memref sig .tc .vmem S4x168x4096 .f32).slice
      (Rect.unit (s := S4x168x4096) ![k.val, 0, 0] S1x168x4096.size (inbB 4 k)) (fun _ => rfl)).squeeze S168x4096 squeezes_S1x168x4096_S168x4096

/-- Staging slot `k`, as much of it as part `j` takes. -/
abbrev stgM : (j : Fin 3) → Fin 2 → Memref sig .tc .vmem (sh j) .f32
  | 0, k => ((Memref.whole cc0_scratch3 : Memref sig .tc .vmem S2x176x4096 .f32).slice
      (Rect.unit (s := S2x176x4096) ![k.val, 0, 0] S1x176x4096.size (inbA 2 k)) (fun _ => rfl)).squeeze S176x4096 squeezes_S1x176x4096_S176x4096
  | 1, k => ((Memref.whole cc0_scratch3 : Memref sig .tc .vmem S2x176x4096 .f32).slice
      (Rect.unit (s := S2x176x4096) ![k.val, 0, 0] S1x168x4096.size (inbC k)) (fun _ => rfl)).squeeze S168x4096 squeezes_S1x168x4096_S168x4096
  | 2, k => ((Memref.whole cc0_scratch3 : Memref sig .tc .vmem S2x176x4096 .f32).slice
      (Rect.unit (s := S2x176x4096) ![k.val, 0, 0] S1x168x4096.size (inbC k)) (fun _ => rfl)).squeeze S168x4096 squeezes_S1x168x4096_S168x4096

/-- Row `t` of the buffer of maxima. -/
abbrev rowM (t : Fin 8) : Memref sig .tc .vmem S1x128 .f32 :=
  (Memref.whole cc0_scratch4 : Memref sig .tc .vmem S8x128 .f32).slice (Rect.unit (s := S8x128) ![t.val, 0] S1x128.size (inbR t)) (fun _ => rfl)

/-- What transfer out of slot `s` of part `j` reads: the device's own rows, or the collecting buffer. -/
abbrev srcM (j : Fin 3) : Fin 8 → Memref sig .tc .hbm (sh j) .f32
  | 0 => xM j
  | ⟨k + 1, h⟩ => partM j ⟨k + 1, h⟩

/-- A piece of some memory of a device. -/
abbrev Piece (s : Shape) : Type := Σ sp : Space, Memref sig .tc sp s .f32

/-- Where transfer `i` of part `j` lands. -/
abbrev dstM (j : Fin 3) : Fin 7 → Piece (sh j)
  | 0 => ⟨.hbm, partM j 1⟩
  | 1 => ⟨.hbm, partM j 2⟩
  | 2 => ⟨.hbm, partM j 3⟩
  | 3 => ⟨.vmem, landM j 0⟩
  | 4 => ⟨.vmem, landM j 1⟩
  | 5 => ⟨.vmem, landM j 2⟩
  | 6 => ⟨.vmem, landM j 3⟩

/-! ## What they hold -/

variable (m : (ℓ : Loc nD τ sig) → Buf (Elt F) ℓ)

/-- Part `j` of device `d`'s rows at launch. -/
def XP : (j : Fin 3) → (d : Dev nD) → (sh j).Idx → Elt F .f32
  | 0, d => (xM 0).view.read (Elt F) (m ((d : Thread nD τ).loc main_arg0))
  | 1, d => (xM 1).view.read (Elt F) (m ((d : Thread nD τ).loc main_arg0))
  | 2, d => (xM 2).view.read (Elt F) (m ((d : Thread nD τ).loc main_arg0))

/-- Device `c`'s columns of the weights, as staged. -/
def wst (c : Dev nD) : Vec F S4096x256 .f32 := (win0_0.blk (0 : Fin 1)).view.read (Elt F) (m ((c : Thread nD τ).loc main_arg1))

/-- A piece as the kernel loads it: with a leading axis of one. -/
def up0 (X : S176x4096.Idx → Elt F .f32) : Vec F S1x176x4096 .f32 := shapeCast S1x176x4096 X (by decide)
def up1 (X : S168x4096.Idx → Elt F .f32) : Vec F S1x168x4096 .f32 := shapeCast S1x168x4096 X (by decide)

/-- The block of device `c`'s result that part `j` of device `d`'s rows gives. -/
def yD (c : Dev nD) : (j : Fin 3) → (d : Dev nD) → FVec F (shO j) .f32
  | 0, d => k0_pay2 (up0 (XP m 0 d)) (wst m c)
  | 1, d => k0_pay4 (up1 (XP m 1 d)) (wst m c)
  | 2, d => k0_pay4 (up1 (XP m 2 d)) (wst m c)

/-- The running maximum taken on over one more block. -/
def stepMax (c : Dev nD) (acc : F .f32) : (j : Fin 3) → (d : Dev nD) → F .f32
  | 0, d => k0_pay9 acc (up0 (XP m 0 d)) (wst m c)
  | 1, d => k0_pay5 acc (up1 (XP m 1 d)) (wst m c)
  | 2, d => k0_pay5 acc (up1 (XP m 2 d)) (wst m c)

/-- The part and the slot of the `n`-th block computed. -/
abbrev uj (n : ℕ) : Fin 3 := ⟨n % 3, Nat.mod_lt _ (by decide)⟩
abbrev us (n : ℕ) : Fin 8 := ⟨n / 3 % 8, Nat.mod_lt _ (by decide)⟩

/-- The running maximum after `n` blocks. -/
def run (c : Dev nD) : ℕ → F .f32
  | 0 => Scalar.ofBits .f32 0x00000000#32
  | n + 1 => stepMax m c (run c n) (uj n) (org (uj n) (us n) c)

/-- The row device `c` sends to the others. -/
def rowVal (c : Dev nD) : S1x128.Idx → Elt F .f32 := k0_pay51 (run m c 24)
/-- All eight rows. -/
def rowsAll : S8x128.Idx → Elt F .f32 := fun i => rowVal m (⟨(i 0).val, (i 0).isLt⟩ : Fin 8) (fun a => match a with | 0 => ⟨0, by decide⟩ | 1 => i 1)
/-- The maximum over everything. -/
def top : F .f32 := k0_pay52 (rowsAll m)

/-- Where in the result the block of slot `s` of part `j` goes. -/
theorem org_le (j : Fin 3) (s : Fin 8) (c : Dev nD) : (org j s c).val ≤ 7 := by
  have : (org j s c).val < 8 := (org j s c).isLt
  omega
theorem inbO0 (s : Fin 8) (c : Dev nD) (a : Fin 2) : (![rowOf 0 s c, 0] : Fin 2 → ℕ) a + S176x256.size a ≤ S4096x256.size a := by
  have h := org_le 0 s c
  fin_cases a
  · show 512 * _ + 0 + 176 ≤ 4096; omega
  · exact le_refl _
theorem inbO1 (s : Fin 8) (c : Dev nD) (a : Fin 2) : (![rowOf 1 s c, 0] : Fin 2 → ℕ) a + S168x256.size a ≤ S4096x256.size a := by
  have h := org_le 1 s c
  fin_cases a
  · show 512 * _ + 176 + 168 ≤ 4096; omega
  · exact le_refl _
theorem inbO2 (s : Fin 8) (c : Dev nD) (a : Fin 2) : (![rowOf 2 s c, 0] : Fin 2 → ℕ) a + S168x256.size a ≤ S4096x256.size a := by
  have h := org_le 2 s c
  fin_cases a
  · show 512 * _ + 344 + 168 ≤ 4096; omega
  · exact le_refl _
abbrev outR : (j : Fin 3) → (s : Fin 8) → (c : Dev nD) → Rect S4096x256
  | 0, s, c => Rect.unit (s := S4096x256) ![rowOf 0 s c, 0] S176x256.size (inbO0 s c)
  | 1, s, c => Rect.unit (s := S4096x256) ![rowOf 1 s c, 0] S168x256.size (inbO1 s c)
  | 2, s, c => Rect.unit (s := S4096x256) ![rowOf 2 s c, 0] S168x256.size (inbO2 s c)

/-- The whole product on device `c`: row `r` is row `r % 512` of device `r / 512`'s rows against the columns. -/
def yAll (c : Dev nD) : S4096x256.Idx → Elt F .f32 := fun i =>
  have h4 : (i 0).val < 4096 := (i 0).isLt
  let d : Dev nD := ⟨(i 0).val / 512, by show _ < 8; omega⟩
  if h : (i 0).val % 512 < 176 then yD m c 0 d (fun a => match a with | 0 => ⟨(i 0).val % 512, h⟩ | 1 => i 1)
  else if h' : (i 0).val % 512 < 344 then yD m c 1 d (fun a => match a with | 0 => ⟨(i 0).val % 512 - 176, by show _ < 168; omega⟩ | 1 => i 1)
  else yD m c 2 d (fun a => match a with | 0 => ⟨(i 0).val % 512 - 344, by show _ < 168; omega⟩ | 1 => i 1)

/-- The contents of the result after `n` blocks. -/
def OutOk (c : Dev nD) (n : ℕ) (f : S4096x256.Idx → Elt F .f32) : Prop :=
  ∀ s : Fin 8, (3 * s.val < n → ∀ i, f ((outR 0 s c).emb i) = yD m c 0 (org 0 s c) i)
    ∧ (3 * s.val + 1 < n → ∀ i, f ((outR 1 s c).emb i) = yD m c 1 (org 1 s c) i)
    ∧ (3 * s.val + 2 < n → ∀ i, f ((outR 2 s c).emb i) = yD m c 2 (org 2 s c) i)

/-- What device `c` ends with. -/
def outFin (c : Dev nD) : S4096x256.Idx → Elt F .f32 := k0_pay1 (k0_pay53 (top m)) (k0_pay54 (top m) (yAll m c)) (k0_pay55 (F := F))

end Cert.Cube

end
-- ==== Proof.Protocol.lean ====
/-
Who signals whom.

Every device has 61 counters the others or its own transfers raise: the barrier; per part `j` and transfer `i` one that
the transfer's source raises (`send j i`) and one its landing raises (`recv j i`); the same for the row of maxima sent to
or received from device `t` (`asend t`, `arecv t`); and one per staging slot. This module gives the counters, what each
raise hands the device that waits for it, what a device owes the others in program order, and the levels that order
every wait below what is still owed.
-/
module

public import proofs.«01_k».proof.Proof.Contents
public import Idealize.ShloMosaic.Lib.Pipeline.Launch
public import Idealize.ShloMosaic.Lib.Pipeline.Kit
public import Idealize.ShloMosaic.Lib.Pipeline.BigSepL
public import Idealize.ShloMosaic.Lib.MemrefSat

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The counters -/

inductive Kd : Type
  | bar | send (j : Fin 3) (i : Fin 7) | recv (j : Fin 3) (i : Fin 7) | asend (t : Dev nD) | arecv (t : Dev nD) | stage (s : Fin 2)
  deriving DecidableEq

/-- All of them. -/
def allK : List Kd :=
  .bar :: ((List.finRange 3 ×ˢ List.finRange 7).map (fun p => .send p.1 p.2) ++ (List.finRange 3 ×ˢ List.finRange 7).map (fun p => .recv p.1 p.2)
    ++ (List.finRange 8).map (fun t => .asend t) ++ (List.finRange 8).map (fun t => .arecv t) ++ (List.finRange 2).map (fun s => .stage s))

theorem mem_allK (k : Kd) : k ∈ allK := by
  cases k with
  | bar => decide
  | send j i => revert j i; decide
  | recv j i => revert j i; decide
  | asend t => revert t; decide
  | arecv t => revert t; decide
  | stage s => revert s; decide

instance : Fintype Kd := ⟨allK.toFinset, fun k => List.mem_toFinset.mpr (mem_allK k)⟩

/-- The barrier's semaphore. -/
abbrev barS : Sem sig := (SemArray.scalar (sig.barrier 0 rfl) : Sems sig S_).sem

def semOf : Kd → SemLoc sig
  | .bar => .reg barS
  | .send j i => .dma (⟨2 + 7 * j.val + i.val, by show _ < 62; omega⟩ : Fin 62)
  | .recv j i => .dma (⟨23 + 7 * j.val + i.val, by show _ < 62; omega⟩ : Fin 62)
  | .asend t => .dma (⟨44 + t.val, by have : t.val < 8 := t.isLt; show _ < 62; omega⟩ : Fin 62)
  | .arecv t => .dma (⟨52 + t.val, by have : t.val < 8 := t.isLt; show _ < 62; omega⟩ : Fin 62)
  | .stage s => .dma (⟨60 + s.val, by show _ < 62; omega⟩ : Fin 62)

def kindOf : SemLoc sig → Option Kd
  | .reg _ => some .bar
  | .dma q =>
    if q.val < 2 then none
    else if q.val < 23 then some (.send ⟨(q.val - 2) / 7 % 3, Nat.mod_lt _ (by decide)⟩ ⟨(q.val - 2) % 7, Nat.mod_lt _ (by decide)⟩)
    else if q.val < 44 then some (.recv ⟨(q.val - 23) / 7 % 3, Nat.mod_lt _ (by decide)⟩ ⟨(q.val - 23) % 7, Nat.mod_lt _ (by decide)⟩)
    else if q.val < 52 then some (.asend ⟨(q.val - 44) % 8, Nat.mod_lt _ (by decide)⟩)
    else if q.val < 60 then some (.arecv ⟨(q.val - 52) % 8, Nat.mod_lt _ (by decide)⟩)
    else some (.stage ⟨(q.val - 60) % 2, Nat.mod_lt _ (by decide)⟩)

theorem kindOf_semOf (k : Kd) : kindOf (semOf k) = some k := by
  cases k with
  | bar => rfl
  | send j i => revert j i; decide
  | recv j i => revert j i; decide
  | asend t => revert t; decide
  | arecv t => revert t; decide
  | stage s => revert s; decide

theorem semOf_injective : Function.Injective semOf := fun a b h => by
  have := congrArg kindOf h
  rw [kindOf_semOf, kindOf_semOf] at this
  exact Option.some.inj this

/-- Counter `k` of device `c`. -/
abbrev cell (c : Dev nD) (k : Kd) : GSem nD τ sig := ((c : Thread nD τ), semOf k)

/-! ## The amounts -/

/-- What a landing of a piece of part `j` raises its counter by; -/
def credit : Fin 3 → ℕ
  | 0 => (xM 0).view.dmaCredit
  | 1 => (xM 1).view.dmaCredit
  | 2 => (xM 2).view.dmaCredit
/-- of a row of maxima. -/
def creditR : ℕ := (rowM 0).view.dmaCredit

theorem credit_part (j : Fin 3) (k : Fin 8) : (partM j k).view.dmaCredit = credit j := by fin_cases j <;> rfl
theorem credit_land (j : Fin 3) (k : Fin 4) : (landM j k).view.dmaCredit = credit j := by fin_cases j <;> rfl
theorem credit_stg (j : Fin 3) (k : Fin 2) : (stgM j k).view.dmaCredit = credit j := by fin_cases j <;> rfl
theorem credit_x (j : Fin 3) : (xM j).view.dmaCredit = credit j := by fin_cases j <;> rfl
theorem credit_row (t : Fin 8) : (rowM t).view.dmaCredit = creditR := rfl
theorem credit_src (j : Fin 3) (s : Fin 8) : (srcM j s).view.dmaCredit = credit j := by fin_cases j <;> fin_cases s <;> rfl
theorem credit_dst (j : Fin 3) (i : Fin 7) : (dstM j i).2.view.dmaCredit = credit j := by fin_cases j <;> fin_cases i <;> rfl
theorem credit_pos (j : Fin 3) : 0 < credit j := by fin_cases j <;> exact View.dmaCredit_pos _ (by decide)
theorem creditR_pos : 0 < creditR := View.dmaCredit_pos _ (by decide)

/-! ## What a raise hands over -/

variable (m : (ℓ : Loc nD τ sig) → Buf (Elt F) ℓ)

/-- A piece of a device's memory, at whatever contents. -/
def AnyP (d : Dev nD) {s : Shape} (p : Piece s) : sProp 𝕄 :=
  iprop(∃ f : Buf (Elt F) (p.2.view.loc (d : Thread nD τ)), (p.2.view.loc (d : Thread nD τ)) ↦[p.2.view.set]{fullShare} f)
/-- A piece of a device's memory, whole, holding `X`. -/
def Has (d : Dev nD) {s : Shape} (p : Piece s) (X : s.Idx → Elt F .f32) : sProp 𝕄 := owns (d : Thread nD τ) p.2 fullShare X

/-- The row for device `org 0 y c` in the buffer of device `org 0 x c`: `x`, `y` say which coordinates to cross from `c`. -/
def arow (c : Dev nD) (x y : Fin 8) : sProp 𝕄 := AnyP (F := F) (org 0 x c) ⟨.vmem, rowM (org 0 y c)⟩

/-- The shares of its row a device sends: the `k`-th transfer takes half of what is left. -/
def sr : ℕ → PosShare TreeShare
  | 0 => fullShare
  | k + 1 => (sr k).right
def sq (k : ℕ) : PosShare TreeShare := (sr k).left

/-- The transfers that cross coordinate `e`: with its signal a neighbour hands over the places they land in. -/
def barDst (e : Fin 3) : List (Fin 3 × Fin 7) := [(e, 0), (e + 2, 1), (e + 2, 2), (e + 1, 3), (e + 1, 4), (e + 1, 5), (e + 1, 6)]
/-- The rows of its own buffer a device hands its neighbour across `e`; -/
def barGive : Fin 3 → List (Fin 8) | 0 => [1, 3, 5, 7] | 1 => [2, 6] | 2 => [4]
/-- how the neighbour names them. -/
def barGet : Fin 3 → List (Fin 8 × Fin 8) | 0 => [(1, 0), (1, 2), (1, 4), (1, 6)] | 1 => [(2, 0), (2, 4)] | 2 => [(4, 0)]
/-- The rows a transfer hands on beside its piece: as the sender names them, -/
def rowGive : Fin 3 → Fin 7 → List (Fin 8 × Fin 8)
  | 0, 1 => [(1, 2), (1, 6)] | 0, 3 => [(1, 4), (2, 4)] | 0, 5 => [(3, 4)] | _, _ => []
/-- as the receiver does. -/
def rowGet : Fin 3 → Fin 7 → List (Fin 8 × Fin 8)
  | 0, 1 => [(3, 0), (3, 4)] | 0, 3 => [(5, 0), (6, 0)] | 0, 5 => [(7, 0)] | _, _ => []

/-- What the signal from `fl e c` hands `c`. -/
def barPay (c : Dev nD) (e : Fin 3) : sProp 𝕄 :=
  iprop((bigSepL (barDst e) fun p => AnyP (F := F) (fl e c) (dstM p.1 p.2)) ∗ bigSepL (barGet e) fun p => arow (F := F) c p.1 p.2)
/-- What the landing of transfer `i` of part `j` hands `c`. -/
def recvPay (c : Dev nD) (j : Fin 3) (i : Fin 7) : sProp 𝕄 :=
  iprop(Has c (dstM j i) (XP m j (org j i.succ c)) ∗ bigSepL (rowGet j i) fun p => arow (F := F) c p.1 p.2)

/-- The piece the `n`-th block is computed from. -/
abbrev unitX (c : Dev nD) (n : ℕ) : (sh (uj n)).Idx → Elt F .f32 := XP m (uj n) (org (uj n) (us n) c)
/-- The staging slot of the `n`-th block. -/
abbrev slot (n : ℕ) : Fin 2 := ⟨n % 2, Nat.mod_lt _ (by decide)⟩

def payK (c : Dev nD) : Kd → ℕ → Fin 3 → sProp 𝕄
  | .bar, _, e => barPay c e
  | .send _ _, _, _ => iprop(emp)
  | .recv j i, _, _ => recvPay m c j i
  | .asend t, _, _ => owns (c : Thread nD τ) (rowM c) (sq ((unrot c t).val - 1)) (rowVal m c)
  | .arecv t, _, _ => Has c ⟨.vmem, rowM t⟩ (rowVal m t)
  | .stage s, r, _ => Has c ⟨.vmem, stgM (uj (2 * r + s.val)) s⟩ (unitX m c (2 * r + s.val))

def dutK (c : Dev nD) : Kd → ℕ → Finset (Fin 3)
  | .bar, r => if r = 0 then Finset.univ else ∅
  | .send _ _, r => if r = 0 then {0} else ∅
  | .recv _ _, r => if r = 0 then {0} else ∅
  | .asend t, r => if r = 0 ∧ t ≠ c then {0} else ∅
  | .arecv t, r => if r = 0 ∧ t ≠ c then {0} else ∅
  | .stage _, r => if r < 6 then {0} else ∅

def amtK : Kd → ℕ → ℕ
  | .bar, _ => 1
  | .send j _, _ => credit j
  | .recv j _, _ => credit j
  | .asend _, _ => creditR
  | .arecv _, _ => creditR
  | .stage s, r => credit (uj (2 * r + s.val))

theorem amtK_pos (k : Kd) (r : ℕ) : 0 < amtK k r := by
  cases k with
  | bar => exact Nat.one_pos
  | send j i => exact credit_pos _
  | recv j i => exact credit_pos _
  | asend t => exact creditR_pos
  | arecv t => exact creditR_pos
  | stage s => exact credit_pos _

/-- The schedule: per counter and round who raises it, by how much, and what that hands over. -/
def Rd : Rounds.Schedule (GSem nD τ sig) (Fin 3) 𝕄 where
  duties g r := match kindOf g.2 with | some k => dutK g.1.1 k r | none => ∅
  unitless _ := False
  amount g r _ := match kindOf g.2 with | some k => amtK k r | none => 1
  payload g r d := match kindOf g.2 with | some k => payK m g.1.1 k r d | none => iprop(emp)
  amount_pos g r _ _ := by
    cases kindOf g.2 with
    | some k => exact amtK_pos k r
    | none => exact Nat.one_pos

theorem duties_cell (c : Dev nD) (k : Kd) (r : ℕ) : (Rd (F := F) m).duties (cell c k) r = dutK c k r := by
  show (match kindOf (semOf k) with | some k => dutK c k r | none => ∅) = _; rw [kindOf_semOf]
theorem amount_cell (c : Dev nD) (k : Kd) (r : ℕ) (d : Fin 3) : (Rd (F := F) m).amount (cell c k) r d = amtK k r := by
  show (match kindOf (semOf k) with | some k => amtK k r | none => 1) = _; rw [kindOf_semOf]
theorem payload_cell (c : Dev nD) (k : Kd) (r : ℕ) (d : Fin 3) : (Rd (F := F) m).payload (cell c k) r d = payK m c k r d := by
  show (match kindOf (semOf k) with | some k => payK m c k r d | none => iprop(emp)) = _; rw [kindOf_semOf]
theorem expect_cell (c : Dev nD) (k : Kd) (r : ℕ) : (Rd (F := F) m).expect (cell c k) r = (dutK c k r).card * amtK k r := by
  unfold Rounds.Schedule.expect Rounds.Schedule.amountOf
  rw [duties_cell, Finset.sum_congr rfl (fun d _ => amount_cell m c k r d), Finset.sum_const, smul_eq_mul]

instance AnyP_storable (d : Dev nD) {s : Shape} (p : Piece s) : BI.Storable (upEmb : UEmb _ 𝕄) (AnyP (F := F) d p) := by unfold AnyP; infer_instance
instance Has_storable (d : Dev nD) {s : Shape} (p : Piece s) (X) : BI.Storable (upEmb : UEmb _ 𝕄) (Has (F := F) d p X) := by unfold Has; infer_instance
instance arow_storable (c : Dev nD) (x y : Fin 8) : BI.Storable (upEmb : UEmb _ 𝕄) (arow (F := F) c x y) := by unfold arow; infer_instance
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => show BI.Storable (upEmb : UEmb _ 𝕄) iprop(emp); infer_instance
  | cons a l ih => have := h a; rw [bigSepL_cons']; infer_instance

instance payK_storable (c : Dev nD) (k : Kd) (r : ℕ) (d : Fin 3) : BI.Storable (upEmb : UEmb _ 𝕄) (payK (F := F) m c k r d) := by
  cases k with
  | bar =>
    show BI.Storable (upEmb : UEmb _ 𝕄) (barPay c d)
    unfold barPay
    have := bigSepL_storable (barDst d) (fun p => AnyP (F := F) (fl d c) (dstM p.1 p.2)) (fun _ => inferInstance)
    have := bigSepL_storable (barGet d) (fun p => arow (F := F) c p.1 p.2) (fun _ => inferInstance)
    infer_instance
  | send j i => show BI.Storable (upEmb : UEmb _ 𝕄) iprop(emp); infer_instance
  | recv j i =>
    show BI.Storable (upEmb : UEmb _ 𝕄) (recvPay m c j i)
    unfold recvPay
    have := bigSepL_storable (rowGet j i) (fun p => arow (F := F) c p.1 p.2) (fun _ => inferInstance)
    infer_instance
  | asend t => show BI.Storable (upEmb : UEmb _ 𝕄) (owns _ _ _ _); infer_instance
  | arecv t => show BI.Storable (upEmb : UEmb _ 𝕄) (Has _ _ _); infer_instance
  | stage s => show BI.Storable (upEmb : UEmb _ 𝕄) (Has _ _ _); infer_instance

instance Rd_storable (g : GSem nD τ sig) (r : ℕ) (d : Fin 3) : BI.Storable (upEmb : UEmb _ 𝕄) ((Rd (F := F) m).payload g r d) := by
  show BI.Storable (upEmb : UEmb _ 𝕄) (match kindOf g.2 with | some k => payK m g.1.1 k r d | none => iprop(emp))
  cases kindOf g.2 <;> dsimp only <;> infer_instance

/-! ## What is owed, and the levels -/

/-- What a device owes the others: a signal across `e`, the landing of transfer `i` of part `j`, its row to the `k`-th other device. -/
inductive Due : Type
  | sig (e : Fin 3) | tr (j : Fin 3) (i : Fin 7) | am (k : Fin 8)
  deriving DecidableEq

namespace Due
def dev (c : Dev nD) : Due → Dev nD | sig e => fl e c | tr j i => peer j i c | am k => rot c k
def kd (c : Dev nD) : Due → Kd | sig _ => .bar | tr j i => .recv j i | am _ => .arecv c
def amt : Due → ℕ | sig _ => 1 | tr j _ => credit j | am _ => creditR
def lvl : Due → ℕ | sig _ => 1 | tr _ i => 2 + min i.val 3 | am _ => 6
end Due

/-- In program order. -/
def dueList : List Due :=
  [.sig 0, .sig 1, .sig 2,
   .tr 0 0, .tr 0 1, .tr 0 3, .tr 1 0, .tr 1 1, .tr 1 3, .tr 2 0, .tr 2 1, .tr 2 3,
   .tr 0 2, .tr 0 4, .tr 1 2, .tr 1 4, .tr 2 2, .tr 2 4,
   .tr 0 5, .tr 1 5, .tr 2 5, .tr 0 6, .tr 1 6, .tr 2 6,
   .am 1, .am 2, .am 3, .am 4, .am 5, .am 6, .am 7]

def owedL (c : Dev nD) : List Due → CellTallies nD τ sig Unit
  | [] => 0
  | d :: l => owedL c l + tallyAt (cell (d.dev c) (d.kd c)) () d.amt

/-- What device `c` still owes after `k` of them. -/
def owedAt (c : Dev nD) (k : ℕ) : CellTallies nD τ sig Unit := owedL c (dueList.drop k)

def lvK : Kd → ℕ | .bar => 1 | .recv _ i => 2 + min i.val 3 | .arecv _ => 6 | _ => 0
def L (g : GSem nD τ sig) : Finset Unit := if g.1.2 = .tc then {()} else ∅
def lv (g : GSem nD τ sig) (_ : Unit) : ℕ := match kindOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (cell c k) u = lvK k := by
  show (match kindOf (semOf k) with | some k => lvK k | none => 0) = _; rw [kindOf_semOf]
theorem lvK_due (c : Dev nD) (d : Due) : lvK (d.kd c) = d.lvl := by cases d <;> rfl

theorem owedL_pos (c : Dev nD) (l : List Due) {g : GSem nD τ sig} {u : Unit} (h : 0 < owedL c l g u) :
    ∃ d ∈ l, g = cell (d.dev c) (d.kd c) := by
  induction l with
  | nil => exact absurd h (Nat.lt_irrefl 0)
  | cons d l ih =>
    by_cases hg : g = cell (d.dev c) (d.kd c) ∧ u = ()
    · exact ⟨d, List.mem_cons_self, hg.1⟩
    · have h' : 0 < owedL c l g u := by
        have e : owedL c (d :: l) g u = owedL c l g u + tallyAt (cell (d.dev c) (d.kd c)) () d.amt g u := rfl
        rw [e, tallyAt_apply, if_neg hg] at h
        exact h
      obtain ⟨d', hd', e⟩ := ih h'
      exact ⟨d', List.mem_cons_of_mem _ hd', e⟩

/-- A wait on a counter below everything still owed. -/
theorem mayWait (c : Dev nD) (sm : SemLoc sig) (v k : ℕ) (hv : lv ((c : Thread nD τ), sm) () ≤ v) (h : ∀ d ∈ dueList.drop k, v < d.lvl) :
    (levAts L lv : sProp 𝕄) ⊢ MayWait (c : Thread nD τ) sm () (owedAt c k) :=
  MayOwe.of_cut (L := L) (lev := lv) v (fun p hp => by rw [Finset.mem_singleton.mp hp, L_tc]; exact Finset.mem_singleton_self _)
    (fun g u hg => by obtain ⟨d, _, rfl⟩ := owedL_pos c _ hg; rw [L_tc]; exact Finset.mem_singleton_self _)
    (fun p hp => by rw [Finset.mem_singleton.mp hp]; exact hv)
    (fun g u hg => by obtain ⟨d, hd, rfl⟩ := owedL_pos c _ hg; rw [lv_cell, lvK_due]; exact h d hd)

end Cert.Cube

end
-- ==== Proof.Machine.lean ====
/-
The run of one device as a list of steps.

`Res` names what a device can hold at a moment of its run (`res` says what each name stands for), `Step` one effect of the
kernel; `need` and `give` are what a step takes and leaves. A state is how many of its debts the device has paid and the
list of what it holds. `okS` is the check a step must pass in a state and `nxt` the state after it, so that a whole run is
checked by computation. `St` is the assertion a state stands for.
-/
module

public import proofs.«01_k».proof.Proof.Protocol

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What a device holds -/

inductive Res : Type
  | sigk (e : Fin 3)                 -- the right to signal across `e`
  | bark                             -- the wait on its own barrier
  | own (j : Fin 3) (i : Fin 7)      -- its own place for transfer `i` of part `j`
  | dest (j : Fin 3) (i : Fin 7)     -- the neighbour's place for it
  | arow (x y : Fin 8)               -- a row of a buffer of maxima
  | skit (j : Fin 3) (i : Fin 7)     -- the right to issue transfer `i` of part `j`
  | sent (j : Fin 3) (i : Fin 7)     -- the wait for its source
  | rkit (j : Fin 3) (i : Fin 7)     -- the wait for the landing of the one it receives
  | src (j : Fin 3) (s : Fin 8)      -- a piece in main memory, to read
  | land (j : Fin 3) (k : Fin 4)     -- a piece that has landed in fast memory
  | idle (s : Fin 2) (r : ℕ)         -- a staging slot at its round `r`
  | stok (n : ℕ)                     -- the right to stage the `n`-th block's piece
  | busy (n : ℕ)                     -- the staging under way
  | full (n : ℕ)                     -- the staged piece
  | wts                              -- the staged weights
  | out (n : ℕ)                      -- the result after `n` blocks
  | aself                            -- the two counters of its own row, which nothing raises
  | askit (k : Fin 8) | asent (k : Fin 8) | arkit (k : Fin 8)  -- as above, for its row to, or the row from, the `k`-th other device
  | drow (k : Fin 8)                 -- the place of its row there
  | rowSh (k : ℕ) | rowBack (k : Fin 8)  -- what it keeps of its row after `k` transfers; what transfer `k` returns
  | rowIn (k : Fin 8)                -- the row received
  | rows                             -- all eight
  | cbar | csend (j : Fin 3) (i : Fin 7) | crecv (j : Fin 3) (i : Fin 7) | cstage (s : Fin 2) | casend (k : Fin 8) | carecv (k : Fin 8)  -- a counter done with, at zero
  | slots (s : Fin 2)                -- a staging slot, done with
  deriving DecidableEq

/-- The rest of staging slot `s` beside a piece of part `j`. -/
def stRest (c : Dev nD) : Fin 3 → Fin 2 → sProp 𝕄
  | 0, s => iprop(∃ f : Buf (Elt F) ((c : Thread nD τ).loc cc0_scratch3), ((c : Thread nD τ).loc cc0_scratch3) ↦[(stgM 0 s).view.set \ (stgM 0 s).view.set]{fullShare} f)
  | 1, s => iprop(∃ f : Buf (Elt F) ((c : Thread nD τ).loc cc0_scratch3), ((c : Thread nD τ).loc cc0_scratch3) ↦[(stgM 0 s).view.set \ (stgM 1 s).view.set]{fullShare} f)
  | 2, s => iprop(∃ f : Buf (Elt F) ((c : Thread nD τ).loc cc0_scratch3), ((c : Thread nD τ).loc cc0_scratch3) ↦[(stgM 0 s).view.set \ (stgM 2 s).view.set]{fullShare} f)

def res (c : Dev nD) : Res → sProp 𝕄
  | .sigk e => dutyTok ER (cell (fl e c) .bar) 0 e
  | .bark => iprop(atPos ER (cell c .bar) 0 ∅ 0 ∗ cred (tallyAt (cell c .bar) () 3))
  | .own j i => AnyP c (dstM j i)
  | .dest j i => AnyP (peer j i c) (dstM j i)
  | .arow x y => arow c x y
  | .skit j i => iprop(atPos ER (cell c (.send j i)) 0 ∅ 0 ∗ dutyTok ER (cell c (.send j i)) 0 0 ∗ dutyTok ER (cell (peer j i c) (.recv j i)) 0 0)
  | .sent j i => iprop(atPos ER (cell c (.send j i)) 0 ∅ 0 ∗ cred (tallyAt (cell c (.send j i)) () (credit j)))
  | .rkit j i => iprop(atPos ER (cell c (.recv j i)) 0 ∅ 0 ∗ cred (tallyAt (cell c (.recv j i)) () (credit j)))
  | .src j s => iprop(∃ q, owns (c : Thread nD τ) (srcM j s) q (XP m j (org j s c)))
  | .land j k => Has c ⟨.vmem, landM j k⟩ (XP m j (org j ⟨k.val + 4, by omega⟩ c))
  | .idle s r => iprop(AnyP (F := F) c ⟨.vmem, stgM 0 s⟩ ∗ atPos ER (cell c (.stage s)) r ∅ 0 ∗ reached ER (cell c (.stage s)) r)
  | .stok n => dutyTok ER (cell c (.stage (slot n))) (n / 2) 0
  | .busy n => iprop(stRest (F := F) c (uj n) (slot n) ∗ atPos ER (cell c (.stage (slot n))) (n / 2) ∅ 0 ∗ cred (tallyAt (cell c (.stage (slot n))) () (credit (uj n))))
  | .full n => iprop(Has c ⟨.vmem, stgM (uj n) (slot n)⟩ (unitX m c n) ∗ stRest (F := F) c (uj n) (slot n)
      ∗ atPos ER (cell c (.stage (slot n))) (n / 2 + 1) ∅ 0 ∗ reached ER (cell c (.stage (slot n))) (n / 2 + 1))
  | .wts => iprop(((c : Thread nD τ).loc cc0_stg0_0) ↦{fullShare} (wst m c : Buf (Elt F) ((c : Thread nD τ).loc cc0_stg0_0)))
  | .out n => iprop(∃ f : Buf (Elt F) ((c : Thread nD τ).loc cc0_stg1_0), ⌜OutOk m c n f⌝ ∗ (((c : Thread nD τ).loc cc0_stg1_0) ↦{fullShare} f))
  | .aself => iprop(atPos ER (cell c (.asend c)) 0 ∅ 0 ∗ atPos ER (cell c (.arecv c)) 0 ∅ 0)
  | .askit k => iprop(atPos ER (cell c (.asend (rot c k))) 0 ∅ 0 ∗ dutyTok ER (cell c (.asend (rot c k))) 0 0 ∗ dutyTok ER (cell (rot c k) (.arecv c)) 0 0)
  | .asent k => iprop(atPos ER (cell c (.asend (rot c k))) 0 ∅ 0 ∗ cred (tallyAt (cell c (.asend (rot c k))) () creditR))
  | .arkit k => iprop(atPos ER (cell c (.arecv (rot c k))) 0 ∅ 0 ∗ cred (tallyAt (cell c (.arecv (rot c k))) () creditR))
  | .drow k => AnyP (rot c k) ⟨.vmem, rowM c⟩
  | .rowSh k => owns (c : Thread nD τ) (rowM c) (sr k) (rowVal m c)
  | .rowBack k => owns (c : Thread nD τ) (rowM c) (sq (k.val - 1)) (rowVal m c)
  | .rowIn k => Has c ⟨.vmem, rowM (rot c k)⟩ (rowVal m (rot c k))
  | .rows => owns (c : Thread nD τ) (Memref.whole cc0_scratch4 : Memref sig .tc .vmem S8x128 .f32) fullShare (rowsAll m)
  | .cbar => semVal (cell c .bar) 0
  | .csend j i => semVal (cell c (.send j i)) 0
  | .crecv j i => semVal (cell c (.recv j i)) 0
  | .cstage s => semVal (cell c (.stage s)) 0
  | .casend k => semVal (cell c (.asend (rot c k))) 0
  | .carecv k => semVal (cell c (.arecv (rot c k))) 0
  | .slots s => AnyP (F := F) c ⟨.vmem, stgM 0 s⟩

/-! ## The steps -/

inductive Step : Type
  | sig (e : Fin 3) | barW | send (j : Fin 3) (i : Fin 7) | waitS (j : Fin 3) (i : Fin 7) | waitR (j : Fin 3) (i : Fin 7)
  | copy (n : ℕ) | waitC (n : ℕ) | ldS (n : ℕ) | ldL (j : Fin 3) (k : Fin 4) | ldW | peek (n : ℕ) | st (n : ℕ)
  | closeA | gather | rowLd | rowSt | asend (k : Fin 8) | waitAS (k : Fin 8) | waitAR (k : Fin 8) | joinR | ldR | closeS (s : Fin 2)

namespace Step

/-- The piece the landing of transfer `i` of part `j` leaves. -/
def got (j : Fin 3) : Fin 7 → Res
  | 0 => .src j 1 | 1 => .src j 2 | 2 => .src j 3 | 3 => .land j 0 | 4 => .land j 1 | 5 => .land j 2 | 6 => .land j 3

def need : Step → List Res
  | sig e => .sigk e :: ((barDst e).map (fun p => .own p.1 p.2) ++ (barGive e).map (fun y => .arow 0 y))
  | barW => [.bark]
  | send j i => .skit j i :: .src j (srcSlot i) :: .dest j i :: (rowGive j i).map (fun p => .arow p.1 p.2)
  | waitS j i => [.sent j i]
  | waitR j i => [.rkit j i]
  | copy n => [.idle (slot n) (n / 2), .stok n, .src (uj n) (us n)]
  | waitC n => [.busy n]
  | ldS n => [.full n]
  | ldL j k => [.land j k]
  | ldW => [.wts]
  | peek n => [.out n]
  | st n => [.out n]
  | closeA => [.aself]
  | gather => [.arow 1 0, .arow 2 0, .arow 3 0, .arow 4 0, .arow 5 0, .arow 6 0, .arow 7 0]
  | rowLd => [.arow 0 0]
  | rowSt => [.arow 0 0]
  | asend k => [.rowSh (k.val - 1), .askit k, .drow k]
  | waitAS k => [.asent k]
  | waitAR k => [.arkit k]
  | joinR => [.rowSh 7, .rowBack 7, .rowBack 6, .rowBack 5, .rowBack 4, .rowBack 3, .rowBack 2, .rowBack 1,
      .rowIn 1, .rowIn 2, .rowIn 3, .rowIn 4, .rowIn 5, .rowIn 6, .rowIn 7]
  | ldR => [.rows]
  | closeS s => [.idle s 6]

def give : Step → List Res
  | sig _ => []
  | barW => .cbar :: ((((barDst 0).map fun p => .dest p.1 p.2) ++ (barGet 0).map fun p => .arow p.1 p.2)
      ++ (((barDst 1).map fun p => .dest p.1 p.2) ++ (barGet 1).map fun p => .arow p.1 p.2)
      ++ (((barDst 2).map fun p => .dest p.1 p.2) ++ (barGet 2).map fun p => .arow p.1 p.2))
  | send j i => [.sent j i, .src j (srcSlot i)]
  | waitS j i => [.csend j i]
  | waitR j i => .crecv j i :: got j i :: (rowGet j i).map (fun p => .arow p.1 p.2)
  | copy n => [.busy n, .src (uj n) (us n)]
  | waitC n => [.full n]
  | ldS n => [.idle (slot n) (n / 2 + 1)]
  | ldL j k => [.land j k]
  | ldW => [.wts]
  | peek n => [.out n]
  | st n => [.out (n + 1)]
  | closeA => [.casend 0, .carecv 0]
  | gather => [.drow 1, .drow 2, .drow 3, .drow 4, .drow 5, .drow 6, .drow 7]
  | rowLd => [.arow 0 0]
  | rowSt => [.rowSh 0]
  | asend k => [.rowSh k.val, .asent k]
  | waitAS k => [.casend k, .rowBack k]
  | waitAR k => [.carecv k, .rowIn k]
  | joinR => [.rows]
  | ldR => [.rows]
  | closeS s => [.cstage s, .slots s]

/-- The debt a step pays. -/
def due : Step → Option Due
  | sig e => some (.sig e)
  | send j i => some (.tr j i)
  | asend k => some (.am k)
  | _ => none

/-- The level of the counter a step waits on. -/
def wait : Step → Option ℕ
  | barW => some 1
  | waitS _ _ => some 0
  | waitR _ i => some (2 + min i.val 3)
  | waitC _ => some 0
  | waitAS _ => some 0
  | waitAR _ => some 6
  | _ => none

end Step

abbrev State : Type := ℕ × List Res

def dueOk : Option Due → ℕ → Bool
  | none, _ => true
  | some d, k => decide (dueList[k]? = some d)
def waitOk : Option ℕ → ℕ → Bool
  | none, _ => true
  | some v, k => (dueList.drop k).all fun d => decide (v < d.lvl)
def after : Option Due → ℕ → ℕ
  | none, k => k
  | some _, k => k + 1

/-- The check a step must pass, -/
def okS (s : Step) (st : State) : Bool :=
  (s.need.all fun x => decide (s.need.count x ≤ st.2.count x)) && (dueOk s.due st.1 && waitOk s.wait st.1)
/-- and the state after it. -/
def nxt (s : Step) (st : State) : State := (after s.due st.1, s.give ++ st.2.diff s.need)

def valid : List Step → State → Prop
  | [], _ => True
  | s :: l, st => okS s st = true ∧ valid l (nxt s st)
def exec : List Step → State → State
  | [], st => st
  | s :: l, st => exec l (nxt s st)

theorem valid_append (l l' : List Step) (st : State) : valid (l ++ l') st ↔ valid l st ∧ valid l' (exec l st) := by
  induction l generalizing st with
  | nil => exact ⟨fun h => ⟨trivial, h⟩, fun h => h.2⟩
  | cons s l ih => exact ⟨fun h => ⟨⟨h.1, ((ih _).mp h.2).1⟩, ((ih _).mp h.2).2⟩, fun h => ⟨h.1.1, (ih _).mpr ⟨h.1.2, h.2⟩⟩⟩

/-- How many steps of a list pass their checks. -/
def passes : List Step → State → ℕ → ℕ
  | [], _, n => n
  | s :: l, st, n => if okS s st then passes l (nxt s st) (n + 1) else n

theorem valid_of_passes (l : List Step) (st : State) (n : ℕ) (h : passes l st n = n + l.length) : valid l st := by
  induction l generalizing st n with
  | nil => trivial
  | cons s l ih =>
    unfold passes at h
    rw [List.length_cons] at h
    split at h
    · rename_i hs
      exact ⟨hs, ih _ (n + 1) (by omega)⟩
    · omega

/-! ## What a state stands for -/

/-- The counters' invariants under the names `K`, that every counter has reached its round 0, and the levels. -/
def Ctx (K : Dev nD × Kd → ℕ) : sProp 𝕄 :=
  iprop((bigSep Finset.univ fun ck : Dev nD × Kd => cellInv ER (Rd m) (K ck) (cell ck.1 ck.2))
    ∗ (bigSep Finset.univ fun ck : Dev nD × Kd => reached ER (cell ck.1 ck.2) 0) ∗ levAts L lv)

instance Ctx_persistent (K : Dev nD × Kd → ℕ) : BI.Persistent (Ctx m K) := by unfold Ctx; infer_instance

theorem Ctx_inv (K : Dev nD × Kd → ℕ) (c : Dev nD) (k : Kd) : Ctx m K ⊢ cellInv ER (Rd m) (K (c, k)) (cell c k) := by
  unfold Ctx
  iintro ⟨H, -, -⟩
  ihave H' := (show (bigSep Finset.univ fun ck : Dev nD × Kd => cellInv ER (Rd m) (K ck) (cell ck.1 ck.2)) ⊢ cellInv ER (Rd m) (K (c, k)) (cell c k) from
    bigSep_elim (Finset.mem_univ (c, k))) $$ H
  iexact H'
theorem Ctx_reached (K : Dev nD × Kd → ℕ) (c : Dev nD) (k : Kd) : Ctx m K ⊢ reached ER (cell c k) 0 := by
  unfold Ctx
  iintro ⟨-, H, -⟩
  ihave H' := (show (bigSep Finset.univ fun ck : Dev nD × Kd => (reached ER (cell ck.1 ck.2) 0 : sProp 𝕄)) ⊢ reached ER (cell c k) 0 from
    bigSep_elim (Finset.mem_univ (c, k))) $$ H
  iexact H'
theorem Ctx_lev (K : Dev nD × Kd → ℕ) : Ctx m K ⊢ levAts L lv := by
  unfold Ctx
  iintro ⟨-, -, H⟩
  iexact H

/-- What device `c` owes after `k` payments, whatever it has waited on. -/
def Ow (c : Dev nD) (k : ℕ) : sProp 𝕄 := iprop(∃ W, owes (c : Thread nD τ) (owedAt c k) W)

def St (K : Dev nD × Kd → ℕ) (c : Dev nD) (st : State) : sProp 𝕄 := iprop(Ctx m K ∗ Ow c st.1 ∗ bigSepL st.2 (res m c))

theorem bigSepL_of_perm {I : Type} {l l' : List I} (h : l.Perm l') (Φ : I → sProp 𝕄) : bigSepL l Φ ⊢ bigSepL l' Φ := by
  induction h with
  | nil => exact Entails.refl _
  | cons a _ ih => rw [bigSepL_cons', bigSepL_cons']; exact sep_mono_right ih
  | swap a b l =>
    rw [bigSepL_cons', bigSepL_cons', bigSepL_cons', bigSepL_cons']
    iintro ⟨H1, H2, H3⟩
    isplitl [H2]; · iexact H2
    isplitl [H1] <;> iassumption
  | trans _ _ ih1 ih2 => exact ih1.trans ih2

theorem take_out {l n : List Res} (h : (n.all fun x => decide (n.count x ≤ l.count x)) = true) (Φ : Res → sProp 𝕄) :
    bigSepL l Φ ⊢ iprop(bigSepL n Φ ∗ bigSepL (l.diff n) Φ) := by
  rw [← bigSepL_append]
  refine bigSepL_of_perm (List.subperm_append_diff_self_of_count_le fun x hx => ?_).symm Φ
  exact of_decide_eq_true (List.all_eq_true.mp h x hx)

section Rule

variable {m} {K : Dev nD × Kd → ℕ} {c : Dev nD}

theorem okS_due {s : Step} {st : State} (h : okS s st = true) {d : Due} (hd : s.due = some d) :
    owedAt c st.1 = owedAt c (st.1 + 1) + tallyAt (cell (d.dev c) (d.kd c)) () d.amt := by
  have h2 : dueOk s.due st.1 = true := (Bool.and_eq_true_iff.mp (Bool.and_eq_true_iff.mp h).2).1
  rw [hd] at h2
  have h3 : dueList[st.1]? = some d := of_decide_eq_true h2
  unfold owedAt
  obtain ⟨hl, he⟩ := List.getElem?_eq_some_iff.mp h3
  rw [List.drop_eq_getElem_cons hl, he]
  rfl

theorem okS_wait {s : Step} {st : State} (h : okS s st = true) {v : ℕ} (hv : s.wait = some v) : ∀ d ∈ dueList.drop st.1, v < d.lvl := by
  have h2 : waitOk s.wait st.1 = true := (Bool.and_eq_true_iff.mp (Bool.and_eq_true_iff.mp h).2).2
  rw [hv] at h2
  exact fun d hd => of_decide_eq_true (List.all_eq_true.mp h2 d hd)

/-- A step that turns what it needs into what it gives. -/
theorem St_step {s : Step} {st : State} (h : okS s st = true) {P P' : sProp 𝕄}
    (hs : iprop(Ctx m K ∗ Ow c st.1 ∗ bigSepL s.need (res m c)) ⊢ iprop(((Ow c (nxt s st).1 ∗ bigSepL s.give (res m c)) -∗ P') -∗ P))
    (hk : St m K c (nxt s st) ⊢ P') : St m K c st ⊢ P := by
  unfold St
  iintro ⟨#HC, HO, Hl⟩
  ihave H := (take_out (Bool.and_eq_true_iff.mp h).1 (res m c)) $$ Hl
  icases H with ⟨Hn, Hr⟩
  iapply hs $$ [HO Hn]
  · isplitr; · iexact HC
    isplitl [HO] <;> iassumption
  iintro ⟨HO, Hg⟩
  iapply hk
  unfold St
  isplitr; · iexact HC
  isplitl [HO]; · iexact HO
  rw [show (nxt s st).2 = s.give ++ st.2.diff s.need from rfl, bigSepL_append]
  isplitl [Hg] <;> iassumption

end Rule

end Cert.Cube

end
-- ==== Proof.Plan.lean ====
/-
The whole run of a device, part by part in the order of the kernel's text, checked by computation.
-/
module

public import proofs.«01_k».proof.Proof.Machine

@[expose] public section

noncomputable section

namespace Cert.Cube

open Step

def P2 : List Step := [sig 0, sig 1, sig 2, barW]
def P3 : List Step := [send 0 0, send 0 1, send 0 3]
def P4 : List Step := [send 1 0, send 1 1, send 1 3]
def P5 : List Step := [send 2 0, send 2 1, send 2 3]
def P6 : List Step := [copy 0, copy 1, waitC 0, ldS 0, ldW]
def P7 : List Step := [peek 0, st 0, copy 2, waitS 0 0, waitR 0 0]
def P8 : List Step := [waitS 1 0, waitR 1 0, waitS 2 0]
def P9 : List Step := [waitR 2 0, send 0 2, send 0 4]
def P10 : List Step := [send 1 2, send 1 4, send 2 2]
def P11 : List Step := [send 2 4, waitC 1, ldS 1, ldW]
def P12 : List Step := [peek 1, st 1, copy 3, waitC 2, ldS 2, ldW]
def P13 : List Step := [peek 2, st 2, copy 4, waitC 3, ldS 3, ldW]
def P14 : List Step := [peek 3, st 3, copy 5, waitS 0 1, waitR 0 1]
def P15 : List Step := [waitS 1 1, waitR 1 1, waitS 2 1]
def P16 : List Step := [waitR 2 1, send 0 5, send 1 5]
def P17 : List Step := [send 2 5, waitC 4, ldS 4, ldW]
def P18 : List Step := [peek 4, st 4, copy 6, waitC 5, ldS 5, ldW]
def P19 : List Step := [peek 5, st 5, copy 7, waitC 6, ldS 6, ldW]
def P20 : List Step := [peek 6, st 6, copy 8, waitS 0 2, waitR 0 2]
def P21 : List Step := [waitS 1 2, waitR 1 2, waitS 2 2]
def P22 : List Step := [waitR 2 2, send 0 6]
def P23 : List Step := [send 1 6, send 2 6, waitC 7, ldS 7, ldW]
def P24 : List Step := [peek 7, st 7, copy 9, waitC 8, ldS 8, ldW]
def P25 : List Step := [peek 8, st 8, copy 10, waitC 9, ldS 9, ldW]
def P26 : List Step := [peek 9, st 9, copy 11, waitS 0 3]
def P27 : List Step := [waitR 0 3, waitS 1 3, waitR 1 3]
def P28 : List Step := [waitS 2 3, waitR 2 3, waitC 10, ldS 10, ldW]
def P29 : List Step := [peek 10, st 10, waitC 11, ldS 11, ldW, peek 11, st 11]
def P30 : List Step := [ldL 0 0, ldW, peek 12, st 12, ldL 1 0, ldW]
def P31 : List Step := [peek 13, st 13, ldL 2 0, ldW, peek 14, st 14, waitS 0 4]
def P32 : List Step := [waitR 0 4, waitS 1 4, waitR 1 4]
def P33 : List Step := [waitS 2 4, waitR 2 4, ldL 0 1, ldW]
def P34 : List Step := [peek 15, st 15, ldL 1 1, ldW, peek 16, st 16, ldL 2 1, ldW]
def P35 : List Step := [peek 17, st 17, waitS 0 5]
def P36 : List Step := [waitR 0 5, waitS 1 5, waitR 1 5]
def P37 : List Step := [waitS 2 5, waitR 2 5, ldL 0 2, ldW, peek 18, st 18]
def P38 : List Step := [ldL 1 2, ldW, peek 19, st 19, ldL 2 2, ldW]
def P39 : List Step := [peek 20, st 20, waitS 0 6, waitR 0 6]
def P40 : List Step := [waitS 1 6, waitR 1 6, waitS 2 6]
def P41 : List Step := [waitR 2 6, ldL 0 3, ldW, peek 21, st 21, ldL 1 3, ldW]
def P42 : List Step := [peek 22, st 22, ldL 2 3, ldW]
def P43 : List Step := [peek 23, st 23, gather, rowLd, rowSt, asend 1, asend 2]
def P44 : List Step := [asend 3, asend 4, asend 5, asend 6]
def P45 : List Step := [asend 7, waitAS 1, waitAS 2, waitAS 3, waitAS 4, waitAS 5, waitAS 6]
def P46 : List Step := [waitAS 7, waitAR 1, waitAR 2, waitAR 3]
def P47 : List Step := [waitAR 4, waitAR 5, waitAR 6, waitAR 7, joinR, ldR]
def P48 : List Step := [closeA, closeS 0, closeS 1, peek 24]

def plan : List (List Step) :=
  [P2, P3, P4, P5, P6, P7, P8, P9, P10, P11, P12, P13, P14, P15, P16, P17, P18, P19, P20, P21, P22, P23, P24, P25, P26, P27, P28, P29, P30,
   P31, P32, P33, P34, P35, P36, P37, P38, P39, P40, P41, P42, P43, P44, P45, P46, P47, P48]

/-- The parts and transfers, in order; -/
def allJI : List (Fin 3 × Fin 7) := List.finRange 3 ×ˢ List.finRange 7
/-- the other devices; -/
def others : List (Fin 8) := [1, 2, 3, 4, 5, 6, 7]

/-- What a device holds at the start. -/
def start₀ : List Res :=
  [.sigk 0, .sigk 1, .sigk 2, .bark] ++ allJI.map (fun p => .own p.1 p.2) ++ (List.finRange 8).map (fun y => .arow 0 y)
    ++ allJI.map (fun p => .skit p.1 p.2) ++ allJI.map (fun p => .rkit p.1 p.2)
    ++ [.src 0 0, .src 1 0, .src 2 0, .idle 0 0, .idle 1 0] ++ (List.range 12).map (fun n => .stok n) ++ [.wts, .out 0, .aself]
    ++ others.map (fun k => .askit k) ++ others.map (fun k => .arkit k)

/-- What of it a device must have at the end: its own memory and its counters at zero. -/
def end₀ : List Res :=
  [.wts, .out 24, .rows, .slots 0, .slots 1, .cbar, .cstage 0, .cstage 1]
    ++ ((List.finRange 3 ×ˢ List.finRange 4).map fun p => .land p.1 p.2)
    ++ allJI.map (fun p => .csend p.1 p.2) ++ allJI.map (fun p => .crecv p.1 p.2)
    ++ (List.finRange 8).map (fun k => .casend k) ++ (List.finRange 8).map (fun k => .carecv k)

/-- The run keeps to the protocol, -/
theorem plan_valid : valid plan.flatten (0, start₀) := valid_of_passes _ _ 0 (by decide +kernel)

/-- pays every debt -/
theorem plan_paid : (exec plan.flatten (0, start₀)).1 = 31 := by decide +kernel

/-- and ends with what a device must have. -/
theorem plan_end : (end₀.all fun x => decide (end₀.count x ≤ (exec plan.flatten (0, start₀)).2.count x)) = true := by decide +kernel

end Cert.Cube

end
-- ==== Proof.Steps.lean ====
/-
One rule per effect on the counters: what a signal, a transfer between devices and a wait take from the state and leave.
-/
module

public import proofs.«01_k».proof.Proof.Plan

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {m : (ℓ : Loc nD τ sig) → Buf (Elt F) ℓ} {K : Dev nD × Kd → ℕ} {c : Dev nD} {st : State}
variable {α : Type} {Q : α → sProp (MT nD τ sig Unit (Elt F) ℕ UU ℕ)}

/-! ## Waits -/

theorem rest_one {k : Kd} {r : ℕ} (hd : dutK c k r = {0}) :
    bigSep ((Rd m).duties (cell c k) r \ ∅) (fun d => (Rd m).payload (cell c k) r d) = payK m c k r 0 := by
  rw [duties_cell, hd, Finset.sdiff_empty, bigSep_singleton, payload_cell]

/-- A wait for the one duty of a round. -/
theorem wait_one {k : Kd} {r n v N : ℕ} {w : TpuEff nD τ sig (Elt F) Λ₀ .tc PUnit} {p : PUnit → Prog (TpuEff nD τ sig (Elt F) Λ₀ .tc) α}
    (hw : ∀ Φ : PUnit → sProp 𝕄, wpE (defs₀ (F := F)) 𝒱₀ (c : Thread nD τ) none Set.univ w Φ = waitSpec (c : Thread nD τ) Set.univ (semOf k) N Φ)
    (hd : dutK c k r = {0}) (hN : amtK k r = N) (hv : lvK k ≤ v) (hlt : ∀ d ∈ dueList.drop n, v < d.lvl) :
    iprop(Ctx m K ∗ Ow c n ∗ atPos ER (cell c k) r ∅ 0 ∗ cred (tallyAt (cell c k) () N))
      ⊢ iprop(((Ow c n ∗ atPos ER (cell c k) (r + 1) ∅ 0 ∗ reached ER (cell c k) (r + 1) ∗ payK m c k r 0) -∗ WP c (p ⟨⟩) Q) -∗ WP c (.op w p) Q) := by
  unfold Ow
  iintro ⟨#HC, ⟨%W, HO⟩, Hat, Hcr⟩ Hk
  iapply (Rounds.wp_wait_rest_token 𝒱₀ ER (Rd m) (c : Thread nD τ) none (κ := K (c, k)) hw (Set.mem_univ _) () (O := owedAt c n) (W := W) (R := r) (m := 0) (T := ∅)
      (by rw [show ((c : Thread nD τ), semOf k) = cell c k from rfl, expect_cell, hd, hN, Finset.card_singleton]; omega)) $$ [Hcr HO Hat]
  · isplitr; · iapply (Ctx_inv m K c k); iexact HC
    isplitl [Hcr]; · iexact Hcr
    isplitl [HO]; · iexact HO
    isplitr
    · iapply (mayWait c (semOf k) v n (by rw [show ((c : Thread nD τ), semOf k) = cell c k from rfl, lv_cell]; exact hv) hlt)
      iapply (Ctx_lev m K); iexact HC
    iexact Hat
  iintro ⟨HO, Hat, Hr, Hpay⟩
  ihave Hp := (Entails.of_eq (rest_one (m := m) hd)) $$ Hpay
  iapply Hk
  isplitl [HO]; · iexists _; iexact HO
  isplitl [Hat]; · iexact Hat
  isplitl [Hr] <;> iassumption

/-- A counter with no round left is at zero for good. -/
theorem close_one {k : Kd} {r : ℕ} (h : ∀ r', r ≤ r' → dutK c k r' = ∅) :
    iprop(Ctx m K ∗ atPos ER (cell c k) r ∅ 0) ⊢ (iprop(|={Set.univ}=> semVal (cell c k) 0) : sProp 𝕄) := by
  iintro ⟨#HC, Hat⟩
  iapply (Rounds.cell_close ER (Rd m) (Set.mem_univ (K (c, k))) (fun h => h) (R := r) (fun r' hr => by rw [duties_cell]; exact h r' hr))
  isplitr; · iapply (Ctx_inv m K c k); iexact HC
  iexact Hat

theorem late {r : ℕ} {p : Prop} [Decidable p] {s : Finset (Fin 3)} (h : 0 + 1 ≤ r) : (if r = 0 ∧ p then s else ∅) = ∅ := if_neg fun h' => by omega
theorem late' {r : ℕ} {s : Finset (Fin 3)} (h : 0 + 1 ≤ r) : (if r = 0 then s else ∅) = ∅ := if_neg fun h' => by omega

theorem step_waitS (j : Fin 3) (i : Fin 7) {s1 s2 : Shape} {e1 e2 : EltTy} {sp1 sp2 : Space} {a : Memref sig .tc sp1 s1 e1} {b : Memref sig .tc sp2 s2 e2} {sS : DmaSem sig}
    {ha : a.view.WordExact} {hb : b.view.WordExact} {p : PUnit → Prog (TpuEff nD τ sig (Elt F) Λ₀ .tc) α}
    (h : okS (.waitS j i) st = true) (hk : St m K c (nxt (.waitS j i) st) ⊢ WP c (p ⟨⟩) Q)
    (hS : SemLoc.dma sS = semOf (.send j i) := by rfl) (hN : b.view.dmaCredit = credit j := by rfl) :
    St m K c st ⊢ WP c (.op (.waitDma2 sS a b ha hb) p) Q := by
  refine St_step h ?_ hk
  show iprop(Ctx m K ∗ Ow c st.1 ∗ atPos ER (cell c (.send j i)) 0 ∅ 0 ∗ cred (tallyAt (cell c (.send j i)) () (credit j)))
    ⊢ iprop(((Ow c st.1 ∗ semVal (cell c (.send j i)) 0) -∗ _) -∗ _)
  iintro ⟨#HC, HO, Hat, Hcr⟩ Hk
  iapply (wait_one (m := m) (K := K) (v := 0) (k := .send j i) (r := 0) (N := credit j)
      (fun Φ => by rw [wpE_waitDma2_eq, hS, hN]) rfl rfl (le_refl _) (okS_wait h rfl)) $$ [HO Hat Hcr]
  · isplitr; · iexact HC
    isplitl [HO]; · iexact HO
    isplitl [Hat] <;> iassumption
  iintro ⟨HO, Hat, -, -⟩
  imod (close_one (m := m) (K := K) (k := .send j i) (r := 0 + 1) (fun r hr => late' hr)) $$ [Hat] with Hz
  · isplitr; · iexact HC
    iexact Hat
  iapply Hk
  isplitl [HO] <;> iassumption

theorem step_waitR (j : Fin 3) (i : Fin 7) {s1 s2 : Shape} {e1 e2 : EltTy} {sp1 sp2 : Space} {a : Memref sig .tc sp1 s1 e1} {b : Memref sig .tc sp2 s2 e2} {sR : DmaSem sig}
    {ha : a.view.WordExact} {hb : b.view.WordExact} {p : PUnit → Prog (TpuEff nD τ sig (Elt F) Λ₀ .tc) α}
    (h : okS (.waitR j i) st = true) (hk : St m K c (nxt (.waitR j i) st) ⊢ WP c (p ⟨⟩) Q)
    (hS : SemLoc.dma sR = semOf (.recv j i) := by rfl) (hN : b.view.dmaCredit = credit j := by rfl) :
    St m K c st ⊢ WP c (.op (.waitDma2 sR a b ha hb) p) Q := by
  refine St_step h ?_ hk
  rw [show Step.give (.waitR j i) = .crecv j i :: Step.got j i :: (rowGet j i).map (fun p => .arow p.1 p.2) from rfl, bigSepL_cons', bigSepL_cons', bigSepL_map]
  show iprop(Ctx m K ∗ Ow c st.1 ∗ atPos ER (cell c (.recv j i)) 0 ∅ 0 ∗ cred (tallyAt (cell c (.recv j i)) () (credit j)))
    ⊢ iprop(((Ow c st.1 ∗ semVal (cell c (.recv j i)) 0 ∗ res m c (Step.got j i) ∗ bigSepL (rowGet j i) fun p => arow c p.1 p.2) -∗ _) -∗ _)
  iintro ⟨#HC, HO, Hat, Hcr⟩ Hk
  iapply (wait_one (m := m) (K := K) (v := 2 + min i.val 3) (k := .recv j i) (r := 0) (N := credit j)
      (fun Φ => by rw [wpE_waitDma2_eq, hS, hN]) rfl rfl (le_refl _) (okS_wait h rfl)) $$ [HO Hat Hcr]
  · isplitr; · iexact HC
    isplitl [HO]; · iexact HO
    isplitl [Hat] <;> iassumption
  iintro ⟨HO, Hat, -, Hpay⟩
  imod (close_one (m := m) (K := K) (k := .recv j i) (r := 0 + 1) (fun r hr => late' hr)) $$ [Hat] with Hz
  · isplitr; · iexact HC
    iexact Hat
  ihave Hpay := (show payK m c (.recv j i) 0 0 ⊢ iprop(Has c (dstM j i) (XP m j (org j i.succ c)) ∗ bigSepL (rowGet j i) fun p => arow c p.1 p.2) from
    Entails.refl _) $$ Hpay
  icases Hpay with ⟨Hp, Hr⟩
  iapply Hk
  isplitl [HO]; · iexact HO
  isplitl [Hz]; · iexact Hz
  isplitl [Hp]
  · iapply (show Has c (dstM j i) (XP m j (org j i.succ c)) ⊢ res m c (Step.got j i) from by
      fin_cases i
      · exact exists_intro (Φ := fun q => owns (c : Thread nD τ) (srcM j 1) q (XP m j (org j 1 c))) fullShare
      · exact exists_intro (Φ := fun q => owns (c : Thread nD τ) (srcM j 2) q (XP m j (org j 2 c))) fullShare
      · exact exists_intro (Φ := fun q => owns (c : Thread nD τ) (srcM j 3) q (XP m j (org j 3 c))) fullShare
      · exact Entails.refl _
      · exact Entails.refl _
      · exact Entails.refl _
      · exact Entails.refl _)
    iexact Hp
  · iexact Hr

/-! ## The barrier -/

theorem arow_eq {c c' : Dev nD} {x y x' y' : Fin 8} (h : org 0 x c = org 0 x' c') (h' : org 0 y c = org 0 y' c') :
    arow (F := F) c x y = arow c' x' y' := by
  unfold arow; rw [h, h']

/-- The rows a signal across `e` hands over, as the neighbour names them. -/
theorem barRows (c : Dev nD) (e : Fin 3) : (bigSepL (barGive e) fun y => arow (F := F) c 0 y) = bigSepL (barGet e) fun p => arow (fl e c) p.1 p.2 := by
  fin_cases e
  · show iprop(arow c 0 1 ∗ arow c 0 3 ∗ arow c 0 5 ∗ arow c 0 7) = iprop(arow (fl 0 c) 1 0 ∗ arow (fl 0 c) 1 2 ∗ arow (fl 0 c) 1 4 ∗ arow (fl 0 c) 1 6)
    rw [arow_eq (c := c) (c' := fl 0 c) (x := 0) (y := 1) (x' := 1) (y' := 0) (by revert c; decide) (by revert c; decide),
      arow_eq (c := c) (c' := fl 0 c) (x := 0) (y := 3) (x' := 1) (y' := 2) (by revert c; decide) (by revert c; decide),
      arow_eq (c := c) (c' := fl 0 c) (x := 0) (y := 5) (x' := 1) (y' := 4) (by revert c; decide) (by revert c; decide),
      arow_eq (c := c) (c' := fl 0 c) (x := 0) (y := 7) (x' := 1) (y' := 6) (by revert c; decide) (by revert c; decide)]
  · show iprop(arow c 0 2 ∗ arow c 0 6) = iprop(arow (fl 1 c) 2 0 ∗ arow (fl 1 c) 2 4)
    rw [arow_eq (c := c) (c' := fl 1 c) (x := 0) (y := 2) (x' := 2) (y' := 0) (by revert c; decide) (by revert c; decide),
      arow_eq (c := c) (c' := fl 1 c) (x := 0) (y := 6) (x' := 2) (y' := 4) (by revert c; decide) (by revert c; decide)]
  · show arow c 0 4 = arow (fl 2 c) 4 0
    exact arow_eq (by revert c; decide) (by revert c; decide)

theorem step_sig (e : Fin 3) {n : Dev nD} {sem : Sem sig} {a : Int} {p : PUnit → Prog (TpuEff nD τ sig (Elt F) Λ₀ .tc) α}
    (h : okS (.sig e) st = true) (hn : n = fl e c) (hk : St m K c (nxt (.sig e) st) ⊢ WP c (p ⟨⟩) Q)
    (hS : SemLoc.reg sem = semOf .bar := by rfl) (ha : a = 1 := by rfl) :
    St m K c st ⊢ WP c (.op (.semSignal (n : Thread nD τ) sem a) p) Q := by
  subst hn ha
  obtain rfl : sem = barS := by injection hS
  refine St_step h ?_ hk
  rw [show Step.need (.sig e) = .sigk e :: ((barDst e).map (fun p => .own p.1 p.2) ++ (barGive e).map (fun y => .arow 0 y)) from rfl,
    bigSepL_cons', bigSepL_append, bigSepL_map, bigSepL_map]
  show iprop(Ctx m K ∗ Ow c st.1 ∗ dutyTok ER (cell (fl e c) .bar) 0 e ∗ (bigSepL (barDst e) fun p => AnyP c (dstM p.1 p.2)) ∗ bigSepL (barGive e) fun y => arow c 0 y)
    ⊢ iprop(((Ow c (st.1 + 1) ∗ emp) -∗ _) -∗ _)
  rw [barRows]
  unfold Ow
  iintro ⟨#HC, ⟨%W, HO⟩, Ht, Hp, Hr⟩ Hk
  iapply (Rounds.wp_signal 𝒱₀ ER (Rd m) (c : Thread nD τ) none (dst := (fl e c : Thread nD τ)) (κ := K (fl e c, .bar)) (r := 0)
      (d := e) (by rw [show ((fl e c : Thread nD τ), SemLoc.reg barS) = cell (fl e c) .bar from rfl, duties_cell]; exact Finset.mem_univ _)
      ((amount_cell m (fl e c) .bar 0 e).trans (by rfl)) () (owedAt c (st.1 + 1)) (okS_due h rfl)) $$ [HO Ht Hp Hr]
  · isplitr; · iapply (Ctx_inv m K (fl e c) .bar); iexact HC
    isplitl [HO]; · iexact HO
    isplitl [Ht]; · iexact Ht
    isplitl [Hp Hr]
    · iapply (show iprop((bigSepL (barDst e) fun p => AnyP c (dstM p.1 p.2)) ∗ bigSepL (barGet e) fun p => arow (fl e c) p.1 p.2)
          ⊢ (Rd m).payload ((fl e c : Thread nD τ), SemLoc.reg barS) 0 e from by
        rw [show ((fl e c : Thread nD τ), SemLoc.reg barS) = cell (fl e c) .bar from rfl, payload_cell]
        show _ ⊢ barPay (fl e c) e
        unfold barPay
        rw [fl_fl])
      isplitl [Hp] <;> iassumption
    · iapply (Ctx_reached m K (fl e c) .bar); iexact HC
  iintro HO
  iapply Hk
  isplitl [HO]; · iexists _; iexact HO
  iempintro

theorem bigSepL_congr' {I : Type} {l : List I} {Φ Ψ : I → sProp 𝕄} (h : ∀ i ∈ l, Φ i = Ψ i) : bigSepL l Φ = bigSepL l Ψ := by
  induction l with
  | nil => rfl
  | cons a l ih => rw [bigSepL_cons', bigSepL_cons', h a List.mem_cons_self, ih fun i hi => h i (List.mem_cons_of_mem _ hi)]

theorem barDst_hop (e : Fin 3) : ∀ p ∈ barDst e, p.1 + hop p.2 = e := by revert e; decide

/-- What the signal across `e` brings, in the device's own names. -/
theorem barPay_res (c : Dev nD) (e : Fin 3) :
    barPay (F := F) c e = bigSepL (((barDst e).map fun p => Res.dest p.1 p.2) ++ (barGet e).map fun p => Res.arow p.1 p.2) (res m c) := by
  rw [bigSepL_append, bigSepL_map, bigSepL_map]
  unfold barPay
  congr 1
  refine bigSepL_congr' fun p hp => ?_
  rw [← barDst_hop e p hp]
  rfl

theorem rest_bar (c : Dev nD) : bigSep ((Rd m).duties (cell c .bar) 0 \ ∅) (fun d => (Rd m).payload (cell c .bar) 0 d)
    = iprop(barPay c 0 ∗ barPay c 1 ∗ barPay c 2) := by
  rw [duties_cell, show dutK c .bar 0 = Finset.univ from rfl, Finset.sdiff_empty, bigSep_univ_eq_bigSepL [0, 1, 2] (by decide) (by decide),
    bigSepL_cons_cons, bigSepL_cons_cons, bigSepL_singleton, payload_cell, payload_cell, payload_cell]
  rfl

theorem step_barW {sem : Sem sig} {a : Int} {p : PUnit → Prog (TpuEff nD τ sig (Elt F) Λ₀ .tc) α}
    (h : okS .barW st = true) (hk : St m K c (nxt .barW st) ⊢ WP c (p ⟨⟩) Q)
    (hS : SemLoc.reg sem = semOf .bar := by rfl) (ha : a = 3 := by rfl) :
    St m K c st ⊢ WP c (.op (.semWait sem a) p) Q := by
  subst ha
  obtain rfl : sem = barS := by injection hS
  refine St_step h ?_ hk
  rw [show Step.give .barW = .cbar :: ((((barDst 0).map fun p => .dest p.1 p.2) ++ (barGet 0).map fun p => .arow p.1 p.2)
      ++ (((barDst 1).map fun p => .dest p.1 p.2) ++ (barGet 1).map fun p => .arow p.1 p.2)
      ++ (((barDst 2).map fun p => .dest p.1 p.2) ++ (barGet 2).map fun p => .arow p.1 p.2)) from rfl,
    bigSepL_cons', bigSepL_append, bigSepL_append, ← barPay_res, ← barPay_res, ← barPay_res]
  show iprop(Ctx m K ∗ Ow c st.1 ∗ atPos ER (cell c .bar) 0 ∅ 0 ∗ cred (tallyAt (cell c .bar) () 3))
    ⊢ iprop(((Ow c st.1 ∗ semVal (cell c .bar) 0 ∗ (barPay c 0 ∗ barPay c 1) ∗ barPay c 2) -∗ _) -∗ _)
  unfold Ow
  iintro ⟨#HC, ⟨%W, HO⟩, Hat, Hcr⟩ Hk
  iapply (Rounds.wp_wait_rest_token 𝒱₀ ER (Rd m) (c : Thread nD τ) none (κ := K (c, .bar)) (k' := 3) (sm := semOf .bar)
      (wpE_semWait_eq 𝒱₀ (c : Thread nD τ) none Set.univ (sem := barS) (k := 3)) (Set.mem_univ _) () (O := owedAt c st.1) (W := W) (R := 0) (m := 0) (T := ∅)
      (by rw [show ((c : Thread nD τ), semOf .bar) = cell c .bar from rfl, expect_cell]; rfl)) $$ [Hcr HO Hat]
  · isplitr; · iapply (Ctx_inv m K c .bar); iexact HC
    isplitl [Hcr]; · iexact Hcr
    isplitl [HO]; · iexact HO
    isplitr
    · iapply (mayWait c (semOf .bar) 1 st.1 (by rw [show ((c : Thread nD τ), semOf .bar) = cell c .bar from rfl, lv_cell]; exact le_refl _) (okS_wait h rfl))
      iapply (Ctx_lev m K); iexact HC
    iexact Hat
  iintro ⟨HO, Hat, -, Hpay⟩
  ihave Hp := (Entails.of_eq (rest_bar (m := m) c)) $$ Hpay
  icases Hp with ⟨H0, H1, H2⟩
  imod (close_one (m := m) (K := K) (k := .bar) (r := 0 + 1) (fun r hr => late' hr)) $$ [Hat] with Hz
  · isplitr; · iexact HC
    iexact Hat
  iapply Hk
  isplitl [HO]; · iexists _; iexact HO
  isplitl [Hz]; · iexact Hz
  isplitl [H0 H1]; · isplitl [H0] <;> iassumption
  iexact H2

/-! ## Transfers to another device -/

/-- The rows a transfer hands on, as the receiver names them. -/
theorem sendRows (c : Dev nD) (j : Fin 3) (i : Fin 7) :
    (bigSepL (rowGive j i) fun p => arow (F := F) c p.1 p.2) = bigSepL (rowGet j i) fun p => arow (peer j i c) p.1 p.2 := by
  have e : ∀ c, (rowGive j i).map (fun p => (org 0 p.1 c, org 0 p.2 c)) = (rowGet j i).map (fun p => (org 0 p.1 (peer j i c), org 0 p.2 (peer j i c))) := by
    revert j i; decide
  have h := congrArg (fun l => bigSepL l fun p : Dev nD × Dev nD => AnyP (F := F) p.1 ⟨.vmem, rowM p.2⟩) (e c)
  rw [bigSepL_map, bigSepL_map] at h
  exact h

theorem to_emp (P : sProp 𝕄) : P ⊢ (iprop(emp) : sProp 𝕄) := by
  iintro -
  iempintro

theorem step_send (j : Fin 3) (i : Fin 7) {sp : Space} {src : Memref sig .tc .hbm (sh j) .f32} {dst : Memref sig .tc sp (sh j) .f32} {n : Dev nD}
    {sS sR : SemLoc sig} {hsc : (show Memref sig (Dev.tc n : Thread nD τ).2.kind sp (sh j) .f32 from dst).view.ref.isScScratch = false} {hs : src.view.WordExact} {hd : dst.view.WordExact}
    {hm : DmaTarget.Typed .hbm sR (.remote (Dev.tc n : Thread nD τ) dst sS hsc)} {p : PUnit → Prog (TpuEff nD τ sig (Elt F) Λ₀ .tc) α}
    (h : okS (.send j i) st = true) (hn : n = peer j i c) (hk : St m K c (nxt (.send j i) st) ⊢ WP c (p ⟨⟩) Q)
    (hS : sS = semOf (.send j i) := by rfl) (hR : sR = semOf (.recv j i) := by rfl)
    (hsrc : src = srcM j (srcSlot i) := by rfl) (hdst : (⟨sp, dst⟩ : Piece (sh j)) = dstM j i := by rfl) :
    St m K c st ⊢ WP c (.op (.enqueueDma src (.remote (Dev.tc n : Thread nD τ) dst sS hsc) sR hs hd hm) p) Q := by
  subst hn hS hR hsrc
  refine St_step h ?_ hk
  rw [show Step.need (.send j i) = .skit j i :: .src j (srcSlot i) :: .dest j i :: (rowGive j i).map (fun p => .arow p.1 p.2) from rfl,
    bigSepL_cons', bigSepL_cons', bigSepL_cons', bigSepL_map]
  have hN : dst.view.amount (semOf (.recv j i)) = credit j := by
    have := credit_dst j i; rw [← hdst] at this; exact this
  show iprop(Ctx m K ∗ Ow c st.1 ∗ (atPos ER (cell c (.send j i)) 0 ∅ 0 ∗ dutyTok ER (cell c (.send j i)) 0 0 ∗ dutyTok ER (cell (peer j i c) (.recv j i)) 0 0)
      ∗ (∃ q, owns (c : Thread nD τ) (srcM j (srcSlot i)) q (XP m j (org j (srcSlot i) c))) ∗ AnyP (peer j i c) (dstM j i) ∗ bigSepL (rowGive j i) fun p => arow c p.1 p.2)
    ⊢ iprop(((Ow c (st.1 + 1) ∗ (atPos ER (cell c (.send j i)) 0 ∅ 0 ∗ cred (tallyAt (cell c (.send j i)) () (credit j)))
      ∗ ∃ q, owns (c : Thread nD τ) (srcM j (srcSlot i)) q (XP m j (org j (srcSlot i) c))) -∗ _) -∗ _)
  rw [sendRows, ← hdst]
  unfold Ow AnyP
  iintro ⟨#HC, ⟨%W, HO⟩, ⟨Hat, Ht1, Ht2⟩, ⟨%q, Hs⟩, ⟨%fd, Hd⟩, Hr⟩ Hk
  ihave Hs2 := (owns_halves (c : Thread nD τ) (srcM j (srcSlot i)) q _).1 $$ Hs
  icases Hs2 with ⟨Hl, Hs⟩
  unfold owns
  icases Hl with ⟨%fs, %hfs, Hl⟩
  iapply (Rounds.wp_send_pointsTo_with 𝒱₀ ER (Rd m) (c : Thread nD τ) none (κ₁ := K (c, .send j i)) (κ₂ := K (peer j i c, .recv j i))
    (c' := (peer j i c : Thread nD τ)) (src := srcM j (srcSlot i)) (dst := dst) (sS := semOf (.send j i)) (sem := semOf (.recv j i))
    (r₁ := 0) (r₂ := 0) (d₁ := 0) (d₂ := 0) (fd := fd) (fs := fs) (F := bigSepL (rowGet j i) fun p => arow (peer j i c) p.1 p.2)
    (by rw [show ((c : Thread nD τ), semOf (.send j i)) = cell c (.send j i) from rfl, duties_cell]; exact Finset.mem_singleton_self _)
    (by rw [show ((peer j i c : Thread nD τ), semOf (.recv j i)) = cell (peer j i c) (.recv j i) from rfl, duties_cell]; exact Finset.mem_singleton_self _)
    () () (credit j) hN (amount_cell m c (.send j i) 0 0) (amount_cell m (peer j i c) (.recv j i) 0 0) (owedAt c (st.1 + 1)) (okS_due h rfl) (W := W)
    (by rw [show ((c : Thread nD τ), semOf (.send j i)) = cell c (.send j i) from rfl, payload_cell]; exact to_emp _)
    (by
      rw [show ((peer j i c : Thread nD τ), semOf (.recv j i)) = cell (peer j i c) (.recv j i) from rfl, payload_cell]
      show _ ⊢ recvPay m (peer j i c) j i
      unfold recvPay Has
      rw [org_peer, ← hdst, ← hfs]
      refine sep_mono_left ((owns_intro _ _ _ _).trans (Entails.of_eq ?_))
      rw [View.read_write_univ])) $$ [Hl Hd Hr HO Ht1 Ht2]
  · isplitr; · iapply (Ctx_inv m K c (.send j i)); iexact HC
    isplitr; · iapply (Ctx_inv m K (peer j i c) (.recv j i)); iexact HC
    isplitl [Hl]; · iexact Hl
    isplitl [Hd Hr]; · isplitl [Hd] <;> iassumption
    isplitl [HO]; · iexact HO
    isplitl [Ht1]; · iexact Ht1
    isplitr; · iapply (Ctx_reached m K c (.send j i)); iexact HC
    isplitl [Ht2]; · iexact Ht2
    iapply (Ctx_reached m K (peer j i c) (.recv j i)); iexact HC
  iintro ⟨Hcr, HO⟩
  iapply Hk
  isplitl [HO]; · iexists _; iexact HO
  isplitl [Hat Hcr]; · isplitl [Hat] <;> iassumption
  iexists _; iexact Hs

end Cert.Cube

end
-- ==== Proof.Staging.lean ====
/-
The rules for what a device does by itself: staging a piece, loading it, loading the weights, and storing a block of the
result.
-/
module

public import proofs.«01_k».proof.Proof.Steps

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Kd → ℕ} {c : Dev nD} {st : State}
variable {α : Type} {Q : α → sProp (MT nD τ sig Unit (Elt F) ℕ UU ℕ)}

/-! ## A staging slot and what part `j` takes of it -/

theorem stg_sub (s : Fin 2) : (Rect.unit (s := S2x176x4096) ![s.val, 0, 0] S1x168x4096.size (inbC s)).set
    ⊆ (Rect.unit (s := S2x176x4096) ![s.val, 0, 0] S1x176x4096.size (inbA 2 s)).set := by
  intro i hi
  rw [Rect.mem_set_unit] at hi ⊢
  intro a
  have := hi a
  fin_cases a
  · exact this
  · refine ⟨this.1, this.2.trans_le ?_⟩
    show 0 + 168 ≤ 0 + 176; decide
  · exact this

theorem stg_set0 (s : Fin 2) : ((stgM 0 s).view.set : Finset S2x176x4096.Idx) = (Rect.unit (s := S2x176x4096) ![s.val, 0, 0] S1x176x4096.size (inbA 2 s)).set :=
  (View.set_reshape _ _).trans (View.set_slice_whole _ _)
theorem stg_set1 (s : Fin 2) : ((stgM 1 s).view.set : Finset S2x176x4096.Idx) = (Rect.unit (s := S2x176x4096) ![s.val, 0, 0] S1x168x4096.size (inbC s)).set :=
  (View.set_reshape _ _).trans (View.set_slice_whole _ _)
theorem stg_sub1 (s : Fin 2) : ((stgM 1 s).view.set : Finset S2x176x4096.Idx) ⊆ ((stgM 0 s).view.set : Finset S2x176x4096.Idx) := by
  rw [stg_set0, stg_set1]; exact stg_sub s

/-- Cutting a part of a region off, at whatever contents, -/
theorem cut_any {ℓ : Loc nD τ sig} {I S : Finset (Idx ℓ)} (h : I ⊆ S) :
    (iprop(∃ f : Buf (Elt F) ℓ, ℓ ↦[S]{fullShare} f) : sProp 𝕄)
      ⊢ iprop((∃ f : Buf (Elt F) ℓ, ℓ ↦[I]{fullShare} f) ∗ ∃ f : Buf (Elt F) ℓ, ℓ ↦[S \ I]{fullShare} f) := by
  iintro ⟨%f, H⟩
  ihave H2 := (pointsTo_split_subset h).1 $$ H
  icases H2 with ⟨H1, H2⟩
  isplitl [H1] <;> iexists f <;> iassumption
/-- and joining it again. -/
theorem join_any {ℓ : Loc nD τ sig} {I S : Finset (Idx ℓ)} (h : I ⊆ S) :
    iprop((∃ f : Buf (Elt F) ℓ, ℓ ↦[I]{fullShare} f) ∗ ∃ f : Buf (Elt F) ℓ, ℓ ↦[S \ I]{fullShare} f)
      ⊢ (iprop(∃ f : Buf (Elt F) ℓ, ℓ ↦[S]{fullShare} f) : sProp 𝕄) := by
  iintro ⟨⟨%f, H1⟩, ⟨%g, H2⟩⟩
  iexists _
  iapply (pointsTo_join_subset h)
  isplitl [H1] <;> iassumption

theorem stg_split (c : Dev nD) (j : Fin 3) (s : Fin 2) :
    AnyP (F := F) c ⟨.vmem, stgM 0 s⟩ ⊢ iprop(AnyP (F := F) c ⟨.vmem, stgM j s⟩ ∗ stRest (F := F) c j s) := by
  fin_cases j
  · exact cut_any (subset_refl _)
  · exact cut_any (stg_sub1 s)
  · exact cut_any (stg_sub1 s)
theorem stg_join (c : Dev nD) (j : Fin 3) (s : Fin 2) :
    iprop(AnyP (F := F) c ⟨.vmem, stgM j s⟩ ∗ stRest (F := F) c j s) ⊢ AnyP (F := F) c ⟨.vmem, stgM 0 s⟩ := by
  fin_cases j
  · exact join_any (subset_refl _)
  · exact join_any (stg_sub1 s)
  · exact join_any (stg_sub1 s)

theorem any_of_has (c : Dev nD) {s : Shape} (p : Piece s) (X : s.Idx → Elt F .f32) : Has c p X ⊢ AnyP (F := F) c p := by
  unfold Has AnyP owns
  iintro ⟨%f, -, H⟩
  iexists f; iexact H

/-! ## Staging -/

theorem pay_stage (c : Dev nD) (n : ℕ) : payK m c (.stage (slot n)) (n / 2) 0 = Has c ⟨.vmem, stgM (uj n) (slot n)⟩ (unitX m c n) := by
  show Has c ⟨.vmem, stgM (uj (2 * (n / 2) + n % 2)) (slot n)⟩ (unitX m c (2 * (n / 2) + n % 2)) = _
  rw [Nat.div_add_mod]
theorem amt_stage (n : ℕ) : amtK (.stage (slot n)) (n / 2) = credit (uj n) := by
  show credit (uj (2 * (n / 2) + n % 2)) = _
  rw [Nat.div_add_mod]
theorem dut_stage (c : Dev nD) {n : ℕ} (h : n < 12) : dutK c (.stage (slot n)) (n / 2) = {0} := if_pos (by omega)

theorem step_copy (n : ℕ) {src : Memref sig .tc .hbm (sh (uj n)) .f32} {dst : Memref sig .tc .vmem (sh (uj n)) .f32} {sem : SemLoc sig}
    {hs : src.view.WordExact} {hd : dst.view.WordExact} {hm : DmaTarget.Typed (nD := nD) (τ := τ) (p := .tc) .hbm sem (.here dst)} {p : PUnit → Prog (TpuEff nD τ sig (Elt F) Λ₀ .tc) α}
    (h : okS (.copy n) st = true) (hk : St m K c (nxt (.copy n) st) ⊢ WP c (p ⟨⟩) Q) (hn : n < 12 := by decide)
    (hS : sem = semOf (.stage (slot n)) := by rfl) (hsrc : src = srcM (uj n) (us n) := by rfl) (hdst : dst = stgM (uj n) (slot n) := by rfl) :
    St m K c st ⊢ WP c (.op (.enqueueDma src (.here dst) sem hs hd hm) p) Q := by
  subst hS hsrc hdst
  refine St_step h ?_ hk
  show iprop(Ctx m K ∗ Ow c st.1 ∗ (AnyP (F := F) c ⟨.vmem, stgM 0 (slot n)⟩ ∗ atPos ER (cell c (.stage (slot n))) (n / 2) ∅ 0 ∗ reached ER (cell c (.stage (slot n))) (n / 2))
      ∗ dutyTok ER (cell c (.stage (slot n))) (n / 2) 0 ∗ ∃ q, owns (c : Thread nD τ) (srcM (uj n) (us n)) q (XP m (uj n) (org (uj n) (us n) c)))
    ⊢ iprop(((Ow c st.1 ∗ (stRest (F := F) c (uj n) (slot n) ∗ atPos ER (cell c (.stage (slot n))) (n / 2) ∅ 0
      ∗ cred (tallyAt (cell c (.stage (slot n))) () (credit (uj n))))
      ∗ ∃ q, owns (c : Thread nD τ) (srcM (uj n) (us n)) q (XP m (uj n) (org (uj n) (us n) c))) -∗ _) -∗ _)
  iintro ⟨#HC, HO, ⟨Hany, Hat, Hre⟩, Ht, ⟨%q, Hs⟩⟩ Hk
  ihave Hs2 := (owns_halves (c : Thread nD τ) (srcM (uj n) (us n)) q _).1 $$ Hs
  icases Hs2 with ⟨Hl, Hs⟩
  ihave Hst := (stg_split c (uj n) (slot n)) $$ Hany
  icases Hst with ⟨Hd, Hrest⟩
  ihave Hd := (show AnyP (F := F) c ⟨.vmem, stgM (uj n) (slot n)⟩ ⊢ iprop(∃ f : Buf (Elt F) ((stgM (uj n) (slot n)).view.loc (c : Thread nD τ)),
    ((stgM (uj n) (slot n)).view.loc (c : Thread nD τ)) ↦[(stgM (uj n) (slot n)).view.set]{fullShare} f) from Entails.refl _) $$ Hd
  icases Hd with ⟨%fd, Hd⟩
  unfold owns
  icases Hl with ⟨%fs, %hfs, Hl⟩
  iapply (Rounds.wp_copy_pointsTo 𝒱₀ ER (Rd m) (c : Thread nD τ) none (κ := K (c, .stage (slot n))) (src := srcM (uj n) (us n)) (dst := stgM (uj n) (slot n))
    (sem := semOf (.stage (slot n))) (r := n / 2) (d := 0) (fs := fs) (fd := fd) (q := q.left)
    (by rw [show ((c : Thread nD τ), semOf (.stage (slot n))) = cell c (.stage (slot n)) from rfl, duties_cell, dut_stage c hn]; exact Finset.mem_singleton_self _)
    () (credit (uj n)) (credit_stg (uj n) (slot n)) ((amount_cell m c (.stage (slot n)) (n / 2) 0).trans (amt_stage n))
    (by
      rw [show ((c : Thread nD τ), semOf (.stage (slot n))) = cell c (.stage (slot n)) from rfl, payload_cell, pay_stage]
      unfold Has
      rw [show unitX m c n = _ from hfs.symm]
      iintro ⟨H, -⟩
      ihave H' := (owns_intro _ _ _ _) $$ H
      rw [View.read_write_univ]
      iexact H')) $$ [Hl Hd Ht Hre]
  · isplitr; · iapply (Ctx_inv m K c (.stage (slot n))); iexact HC
    isplitl [Hl]; · iexact Hl
    isplitl [Hd]; · iexact Hd
    isplitl [Ht] <;> iassumption
  iintro Hcr
  iapply Hk
  isplitl [HO]; · iexact HO
  isplitl [Hrest Hat Hcr]
  · isplitl [Hrest]; · iexact Hrest
    isplitl [Hat] <;> iassumption
  iexists _; iexact Hs

theorem step_waitC (n : ℕ) {s1 s2 : Shape} {e1 e2 : EltTy} {sp1 sp2 : Space} {a : Memref sig .tc sp1 s1 e1} {b : Memref sig .tc sp2 s2 e2} {sS : DmaSem sig}
    {ha : a.view.WordExact} {hb : b.view.WordExact} {p : PUnit → Prog (TpuEff nD τ sig (Elt F) Λ₀ .tc) α}
    (h : okS (.waitC n) st = true) (hk : St m K c (nxt (.waitC n) st) ⊢ WP c (p ⟨⟩) Q) (hn : n < 12 := by decide)
    (hS : SemLoc.dma sS = semOf (.stage (slot n)) := by rfl) (hN : b.view.dmaCredit = credit (uj n) := by rfl) :
    St m K c st ⊢ WP c (.op (.waitDma2 sS a b ha hb) p) Q := by
  refine St_step h ?_ hk
  show iprop(Ctx m K ∗ Ow c st.1 ∗ (stRest (F := F) c (uj n) (slot n) ∗ atPos ER (cell c (.stage (slot n))) (n / 2) ∅ 0
      ∗ cred (tallyAt (cell c (.stage (slot n))) () (credit (uj n)))))
    ⊢ iprop(((Ow c st.1 ∗ (Has c ⟨.vmem, stgM (uj n) (slot n)⟩ (unitX m c n) ∗ stRest (F := F) c (uj n) (slot n)
      ∗ atPos ER (cell c (.stage (slot n))) (n / 2 + 1) ∅ 0 ∗ reached ER (cell c (.stage (slot n))) (n / 2 + 1))) -∗ _) -∗ _)
  rw [← pay_stage]
  iintro ⟨#HC, HO, ⟨Hrest, Hat, Hcr⟩⟩ Hk
  iapply (wait_one (m := m) (K := K) (v := 0) (k := .stage (slot n)) (r := n / 2) (N := credit (uj n))
      (fun Φ => by rw [wpE_waitDma2_eq, hS, hN]) (dut_stage c hn) (amt_stage n) (le_refl _) (okS_wait h rfl)) $$ [HO Hat Hcr]
  · isplitr; · iexact HC
    isplitl [HO]; · iexact HO
    isplitl [Hat] <;> iassumption
  iintro ⟨HO, Hat, Hre, Hpay⟩
  iapply Hk
  isplitl [HO]; · iexact HO
  isplitl [Hpay]; · iexact Hpay
  isplitl [Hrest]; · iexact Hrest
  isplitl [Hat] <;> iassumption

/-! ## Loads -/

/-- A load of a piece that is a slice of a buffer without its leading axis. -/
theorem load_squeezed {s s' : Shape} {M : Memref sig .tc .vmem s .f32} {r : Rect s} {hu : ∀ a, r.stride a = 1} {hq : r.shape.Squeezes s'} {P : Memref sig .tc .vmem s' .f32}
    (hP : (M.slice r hu).squeeze s' hq = P) {hl : M.view.LoadsAt r} {p : (r.shape.Idx → Elt F .f32) → Prog (TpuEff nD τ sig (Elt F) Λ₀ .tc) α}
    (X : s'.Idx → Elt F .f32) (hc : s'.ShapeCasts r.shape) :
    Has c ⟨.vmem, P⟩ X ⊢ iprop((Has c ⟨.vmem, P⟩ X -∗ WP c (p (shapeCast r.shape X hc)) Q) -∗ WP c (.op (.load M r.toLoadRect hl) p) Q) := by
  subst hP
  unfold Has owns
  iintro ⟨%f, %hf, Hl⟩ Hk
  have hv : (M.access r).read (Elt F) f = shapeCast r.shape X hc := by
    rw [← hf]
    funext i
    show _ = (M.view.slice r).read (Elt F) f (Shape.reshapeEquiv _ (Shape.reshapeEquiv hc i))
    rw [Shape.reshapeEquiv_reshapeEquiv, Shape.reshapeEquiv_self]
  rw [← hv]
  iapply (wp_load_rect 𝒱₀ (c : Thread nD τ) none Set.univ (cs := .vmem) (m := M) (r := r) (S := ((M.slice r hu).squeeze s' hq).view.set)
    ((M.view.slice r).set_reshape hq.numel_eq).symm.subset) $$ [Hl]
  · iexact Hl
  iintro Hl
  iapply Hk
  iexists f
  isplitr; · ipureintro; exact hf
  iexact Hl

theorem step_ldS (n : ℕ) {s : Shape} {M : Memref sig .tc .vmem s .f32} {r : Rect s} {hl : M.view.LoadsAt r} {p : (r.shape.Idx → Elt F .f32) → Prog (TpuEff nD τ sig (Elt F) Λ₀ .tc) α}
    (hc : (sh (uj n)).ShapeCasts r.shape)
    (h : okS (.ldS n) st = true) (hk : St m K c (nxt (.ldS n) st) ⊢ WP c (p (shapeCast r.shape (unitX m c n) hc)) Q)
    (hM : ∃ hu hq, (M.slice r hu).squeeze (sh (uj n)) hq = stgM (uj n) (slot n) := by exact ⟨fun _ => rfl, by decide, rfl⟩) :
    St m K c st ⊢ WP c (.op (.load M r.toLoadRect hl) p) Q := by
  obtain ⟨hu, hq, hP⟩ := hM
  refine St_step h ?_ hk
  show iprop(Ctx m K ∗ Ow c st.1 ∗ (Has c ⟨.vmem, stgM (uj n) (slot n)⟩ (unitX m c n) ∗ stRest (F := F) c (uj n) (slot n)
      ∗ atPos ER (cell c (.stage (slot n))) (n / 2 + 1) ∅ 0 ∗ reached ER (cell c (.stage (slot n))) (n / 2 + 1)))
    ⊢ iprop(((Ow c st.1 ∗ (AnyP (F := F) c ⟨.vmem, stgM 0 (slot n)⟩ ∗ atPos ER (cell c (.stage (slot n))) (n / 2 + 1) ∅ 0
      ∗ reached ER (cell c (.stage (slot n))) (n / 2 + 1))) -∗ _) -∗ _)
  iintro ⟨#HC, HO, ⟨Hx, Hrest, Hat, Hre⟩⟩ Hk
  iapply (load_squeezed hP (unitX m c n) hc) $$ [Hx]
  · iexact Hx
  iintro Hx
  iapply Hk
  isplitl [HO]; · iexact HO
  isplitl [Hx Hrest]
  · iapply (stg_join c (uj n) (slot n))
    isplitl [Hx]
    · iapply (any_of_has c); iexact Hx
    iexact Hrest
  isplitl [Hat] <;> iassumption

theorem step_ldL (j : Fin 3) (k : Fin 4) {s : Shape} {M : Memref sig .tc .vmem s .f32} {r : Rect s} {hl : M.view.LoadsAt r} {p : (r.shape.Idx → Elt F .f32) → Prog (TpuEff nD τ sig (Elt F) Λ₀ .tc) α}
    (hc : (sh j).ShapeCasts r.shape)
    (h : okS (.ldL j k) st = true) (hk : St m K c (nxt (.ldL j k) st) ⊢ WP c (p (shapeCast r.shape (XP m j (org j ⟨k.val + 4, by omega⟩ c)) hc)) Q)
    (hM : ∃ hu hq, (M.slice r hu).squeeze (sh j) hq = landM j k := by exact ⟨fun _ => rfl, by decide, rfl⟩) :
    St m K c st ⊢ WP c (.op (.load M r.toLoadRect hl) p) Q := by
  obtain ⟨hu, hq, hP⟩ := hM
  refine St_step h ?_ hk
  show iprop(Ctx m K ∗ Ow c st.1 ∗ Has c ⟨.vmem, landM j k⟩ (XP m j (org j ⟨k.val + 4, by omega⟩ c)))
    ⊢ iprop(((Ow c st.1 ∗ Has c ⟨.vmem, landM j k⟩ (XP m j (org j ⟨k.val + 4, by omega⟩ c))) -∗ _) -∗ _)
  iintro ⟨#HC, HO, Hx⟩ Hk
  iapply (load_squeezed hP (XP m j (org j ⟨k.val + 4, by omega⟩ c)) hc) $$ [Hx]
  · iexact Hx
  iintro Hx
  iapply Hk
  isplitl [HO] <;> iassumption

theorem step_ldW {inb : ∀ a, (![0, 0] : Fin 2 → ℕ) a + S4096x256.size a ≤ S4096x256.size a}
    {hl : (Memref.whole cc0_stg0_0 : Memref sig .tc .vmem S4096x256 .f32).view.LoadsAt (Rect.unit (s := S4096x256) ![0, 0] S4096x256.size inb).toLoadRect}
    {p : (S4096x256.Idx → Elt F .f32) → Prog (TpuEff nD τ sig (Elt F) Λ₀ .tc) α}
    (h : okS .ldW st = true) (hk : St m K c (nxt .ldW st) ⊢ WP c (p (wst m c)) Q) :
    St m K c st ⊢ WP c (.op (.load (Memref.whole cc0_stg0_0 : Memref sig .tc .vmem S4096x256 .f32) (Rect.unit (s := S4096x256) ![0, 0] S4096x256.size inb).toLoadRect hl) p) Q := by
  refine St_step h ?_ hk
  show iprop(Ctx m K ∗ Ow c st.1 ∗ (((c : Thread nD τ).loc cc0_stg0_0) ↦{fullShare} (wst m c : Buf (Elt F) ((c : Thread nD τ).loc cc0_stg0_0))))
    ⊢ iprop(((Ow c st.1 ∗ (((c : Thread nD τ).loc cc0_stg0_0) ↦{fullShare} (wst m c : Buf (Elt F) ((c : Thread nD τ).loc cc0_stg0_0)))) -∗ _) -∗ _)
  iintro ⟨#HC, HO, Hx⟩ Hk
  iapply (wp_load 𝒱₀ (c : Thread nD τ) none Set.univ (cs := .vmem) (m := (Memref.whole cc0_stg0_0 : Memref sig .tc .vmem S4096x256 .f32)) (S := Finset.univ)
    (Finset.subset_univ _)) $$ [Hx]
  · iexact Hx
  iintro Hx
  rw [show (Memref.whole cc0_stg0_0 : Memref sig .tc .vmem S4096x256 .f32).view.readAt (Elt F) (Rect.unit (s := S4096x256) ![0, 0] S4096x256.size inb).toLoadRect (wst m c) = wst m c from
    Memref.readAt_unit_zero (Elt F) cc0_stg0_0 (by funext a; fin_cases a <;> rfl) inb (wst m c)]
  iapply Hk
  isplitl [HO] <;> iassumption

/-! ## The result -/

/-- A load of the result whose value nothing uses. -/
theorem step_peek (n : ℕ) {r : LoadRect S4096x256} {hl : (Memref.whole cc0_stg1_0 : Memref sig .tc .vmem S4096x256 .f32).view.LoadsAt r}
    {p : (r.shape.Idx → Elt F .f32) → Prog (TpuEff nD τ sig (Elt F) Λ₀ .tc) α}
    (h : okS (.peek n) st = true) (hk : ∀ w, St m K c (nxt (.peek n) st) ⊢ WP c (p w) Q) :
    St m K c st ⊢ WP c (.op (.load (Memref.whole cc0_stg1_0 : Memref sig .tc .vmem S4096x256 .f32) r hl) p) Q := by
  unfold St
  have hs : iprop(Ctx m K ∗ Ow c st.1 ∗ bigSepL (Step.peek n).need (res m c))
      ⊢ iprop((∀ w, (Ow c (nxt (.peek n) st).1 ∗ bigSepL (Step.peek n).give (res m c)) -∗ WP c (p w) Q)
        -∗ WP c (.op (.load (Memref.whole cc0_stg1_0 : Memref sig .tc .vmem S4096x256 .f32) r hl) p) Q) := by
    show iprop(Ctx m K ∗ Ow c st.1 ∗ ∃ f : Buf (Elt F) ((c : Thread nD τ).loc cc0_stg1_0), ⌜OutOk m c n f⌝ ∗ (((c : Thread nD τ).loc cc0_stg1_0) ↦{fullShare} f))
      ⊢ iprop((∀ w, (Ow c st.1 ∗ ∃ f : Buf (Elt F) ((c : Thread nD τ).loc cc0_stg1_0), ⌜OutOk m c n f⌝ ∗ (((c : Thread nD τ).loc cc0_stg1_0) ↦{fullShare} f)) -∗ WP c (p w) Q) -∗ _)
    iintro ⟨#HC, HO, ⟨%f, %hf, Hx⟩⟩ Hk
    iapply (wp_load 𝒱₀ (c : Thread nD τ) none Set.univ (cs := .vmem) (m := (Memref.whole cc0_stg1_0 : Memref sig .tc .vmem S4096x256 .f32)) (S := Finset.univ)
      (Finset.subset_univ _)) $$ [Hx]
    · iexact Hx
    iintro Hx
    iapply Hk
    isplitl [HO]; · iexact HO
    iexists f
    isplitr; · ipureintro; exact hf
    iexact Hx
  iintro ⟨#HC, HO, Hl⟩
  ihave H := (take_out (Bool.and_eq_true_iff.mp h).1 (res m c)) $$ Hl
  icases H with ⟨Hn, Hr⟩
  iapply hs $$ [HO Hn]
  · isplitr; · iexact HC
    isplitl [HO] <;> iassumption
  iintro %w ⟨HO, Hg⟩
  iapply (hk w)
  unfold St
  isplitr; · iexact HC
  isplitl [HO]; · iexact HO
  rw [show (nxt (.peek n) st).2 = (Step.peek n).give ++ st.2.diff (Step.peek n).need from rfl, bigSepL_append]
  isplitl [Hg] <;> iassumption

/-- A store of the `n`-th block. -/
theorem step_stAt (n : ℕ) {r : Rect S4096x256} {w : r.shape.Idx → Elt F .f32}
    {hx : ((Memref.whole cc0_stg1_0 : Memref sig .tc .vmem S4096x256 .f32).access r).Stores Finset.univ} {hm : (Finset.univ : Finset r.shape.Idx) = Finset.univ ∨ ∀ a, r.stride a = 1}
    {p : PUnit → Prog (TpuEff nD τ sig (Elt F) Λ₀ .tc) α}
    (h : okS (.st n) st = true) (hk : St m K c (nxt (.st n) st) ⊢ WP c (p ⟨⟩) Q)
    (hok : ∀ f : S4096x256.Idx → Elt F .f32, OutOk m c n f → OutOk m c (n + 1)
      (((Memref.whole cc0_stg1_0 : Memref sig .tc .vmem S4096x256 .f32).access r).write (Elt F) f w Finset.univ)) :
    St m K c st ⊢ WP c (.op (.store (Memref.whole cc0_stg1_0 : Memref sig .tc .vmem S4096x256 .f32) r w Finset.univ hx hm) p) Q := by
  refine St_step h ?_ hk
  show iprop(Ctx m K ∗ Ow c st.1 ∗ ∃ f : Buf (Elt F) ((c : Thread nD τ).loc cc0_stg1_0), ⌜OutOk m c n f⌝ ∗ (((c : Thread nD τ).loc cc0_stg1_0) ↦{fullShare} f))
    ⊢ iprop(((Ow c st.1 ∗ ∃ f : Buf (Elt F) ((c : Thread nD τ).loc cc0_stg1_0), ⌜OutOk m c (n + 1) f⌝ ∗ (((c : Thread nD τ).loc cc0_stg1_0) ↦{fullShare} f)) -∗ _) -∗ _)
  iintro ⟨#HC, HO, ⟨%f, %hf, Hx⟩⟩ Hk
  iapply (wp_store 𝒱₀ (c : Thread nD τ) none Set.univ (cs := .vmem) (m := (Memref.whole cc0_stg1_0 : Memref sig .tc .vmem S4096x256 .f32)) (r := r) (Mk := Finset.univ) (S := Finset.univ)
    (Finset.subset_univ _)) $$ [Hx]
  · iexact Hx
  iintro Hx
  iapply Hk
  isplitl [HO]; · iexact HO
  iexists _
  isplitr; · ipureintro; exact hok f hf
  iexact Hx

end Cert.Cube

end
-- ==== Proof.Blocks.lean ====
/-
The blocks of the result lie apart, so that storing one leaves the others as they are.
-/
module

public import proofs.«01_k».proof.Proof.Staging

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Kd → ℕ} {c : Dev nD} {st : State}
variable {α : Type} {Q : α → sProp (MT nD τ sig Unit (Elt F) ℕ UU ℕ)}

/-! ## Where the blocks lie -/

/-- The rows of a block. -/
def len : Fin 3 → ℕ | 0 => 176 | 1 => 168 | 2 => 168

theorem row_of_mem (j : Fin 3) (s : Fin 8) (c : Dev nD) {y : S4096x256.Idx} (h : y ∈ (outR j s c).set) :
    rowOf j s c ≤ (y 0).val ∧ (y 0).val < rowOf j s c + len j := by
  fin_cases j
  · exact Rect.mem_set_unit.mp h 0
  · exact Rect.mem_set_unit.mp h 0
  · exact Rect.mem_set_unit.mp h 0

/-- Two different blocks share no row. -/
theorem row_apart (c : Dev nD) {j j' : Fin 3} {s s' : Fin 8} {n : ℕ} (h : rowOf j s c ≤ n ∧ n < rowOf j s c + len j)
    (h' : rowOf j' s' c ≤ n ∧ n < rowOf j' s' c + len j') : j = j' ∧ s = s' := by
  unfold rowOf at h h'
  have hj : j = j' := by
    fin_cases j <;> fin_cases j' <;> simp only [base, len] at h h' <;> first | rfl | (exfalso; omega)
  subst hj
  refine ⟨rfl, org_inj j c s s' (Fin.ext ?_)⟩
  have hl : base j + len j ≤ 512 := (by decide : ∀ j : Fin 3, base j + len j ≤ 512) j
  omega

theorem emb_not_mem (c : Dev nD) {j j' : Fin 3} {s s' : Fin 8} (h : ¬(j = j' ∧ s = s')) (i : (outR j' s' c).shape.Idx) :
    (outR j' s' c).emb i ∉ (outR j s c).set := fun hm =>
  h (row_apart c (row_of_mem j s c hm) (row_of_mem j' s' c (LoadRect.idx_mem _ i)))

/-! ## The blocks stored so far -/

/-- That a block holds its values. -/
def OutAt (m : (ℓ : Loc nD τ sig) → Buf (Elt F) ℓ) (c : Dev nD) (f : S4096x256.Idx → Elt F .f32) : Fin 3 → Fin 8 → Prop
  | 0, s => ∀ i, f ((outR 0 s c).emb i) = yD m c 0 (org 0 s c) i
  | 1, s => ∀ i, f ((outR 1 s c).emb i) = yD m c 1 (org 1 s c) i
  | 2, s => ∀ i, f ((outR 2 s c).emb i) = yD m c 2 (org 2 s c) i

theorem outOk_iff (c : Dev nD) (n : ℕ) (f : S4096x256.Idx → Elt F .f32) :
    OutOk m c n f ↔ ∀ (j : Fin 3) (s : Fin 8), 3 * s.val + j.val < n → OutAt m c f j s := by
  constructor
  · intro h j s hn
    fin_cases j
    · exact (h s).1 hn
    · exact (h s).2.1 hn
    · exact (h s).2.2 hn
  · exact fun h s => ⟨h 0 s, h 1 s, h 2 s⟩

theorem outAt_keep {f g : S4096x256.Idx → Elt F .f32} {j j' : Fin 3} {s s' : Fin 8} (h : ¬(j = j' ∧ s = s'))
    (hold : ∀ y, y ∉ (outR j s c).set → g y = f y) (hf : OutAt m c f j' s') : OutAt m c g j' s' := by
  have hg : ∀ i, g ((outR j' s' c).emb i) = f ((outR j' s' c).emb i) := fun i => hold _ (emb_not_mem c h i)
  fin_cases j'
  · exact fun i => (hg i).trans (hf i)
  · exact fun i => (hg i).trans (hf i)
  · exact fun i => (hg i).trans (hf i)

theorem outOk_next {f g : S4096x256.Idx → Elt F .f32} {n : ℕ} {j : Fin 3} {s : Fin 8} (hn : n = 3 * s.val + j.val)
    (hnew : OutAt m c g j s) (hold : ∀ y, y ∉ (outR j s c).set → g y = f y) (hf : OutOk m c n f) : OutOk m c (n + 1) g := by
  rw [outOk_iff] at hf ⊢
  intro j' s' h
  by_cases e : j = j' ∧ s = s'
  · rw [← e.1, ← e.2]; exact hnew
  · refine outAt_keep e hold (hf j' s' ?_)
    have : ¬(j.val = j'.val ∧ s.val = s'.val) := fun h => e ⟨Fin.ext h.1, Fin.ext h.2⟩
    omega

/-- What a store through a rectangle of the result leaves, under it -/
theorem write_under (r : Rect S4096x256) (f : S4096x256.Idx → Elt F .f32) (w : r.shape.Idx → Elt F .f32) (i : r.shape.Idx) :
    (((Memref.whole cc0_stg1_0 : Memref sig .tc .vmem S4096x256 .f32).access r).write (Elt F) f w Finset.univ : S4096x256.Idx → Elt F .f32) (r.emb i) = w i :=
  View.read_slice_write_emb (v := View.whole cc0_stg1_0) (Val := Elt F) r f w (Finset.mem_univ i)
/-- and beside it. -/
theorem write_beside (r : Rect S4096x256) (f : S4096x256.Idx → Elt F .f32) (w : r.shape.Idx → Elt F .f32) {y : S4096x256.Idx} (h : y ∉ r.set) :
    (((Memref.whole cc0_stg1_0 : Memref sig .tc .vmem S4096x256 .f32).access r).write (Elt F) f w Finset.univ : S4096x256.Idx → Elt F .f32) y = f y :=
  View.read_slice_write_of_not_mem (v := View.whole cc0_stg1_0) (Val := Elt F) r f w Finset.univ (by rw [Rect.map_emb_univ]; exact h)

theorem step_st0 (n : ℕ) {off : Fin 2 → ℕ} {inb : ∀ a, off a + S176x256.size a ≤ S4096x256.size a} {w : S176x256.Idx → Elt F .f32}
    {hx : ((Memref.whole cc0_stg1_0 : Memref sig .tc .vmem S4096x256 .f32).access (Rect.unit (s := S4096x256) off S176x256.size inb)).Stores Finset.univ}
    {hm : (Finset.univ : Finset (Rect.unit (s := S4096x256) off S176x256.size inb).shape.Idx) = Finset.univ ∨ ∀ a, (Rect.unit (s := S4096x256) off S176x256.size inb).stride a = 1}
    {p : PUnit → Prog (TpuEff nD τ sig (Elt F) Λ₀ .tc) α}
    (h : okS (.st n) st = true) (hoff : off = ![rowOf 0 (us n) c, 0]) (hw : w = yD m c 0 (org 0 (us n) c))
    (hk : St m K c (nxt (.st n) st) ⊢ WP c (p ⟨⟩) Q) (hn : n = 3 * (us n).val + 0 := by rfl) :
    St m K c st ⊢ WP c (.op (.store (Memref.whole cc0_stg1_0 : Memref sig .tc .vmem S4096x256 .f32) (Rect.unit (s := S4096x256) off S176x256.size inb) w Finset.univ hx hm) p) Q := by
  subst hoff hw
  exact step_stAt n h hk fun f => outOk_next (j := 0) (s := us n) hn (fun i => write_under (outR 0 (us n) c) f _ i) fun y hy => write_beside (outR 0 (us n) c) f _ hy

theorem step_st1 (n : ℕ) {off : Fin 2 → ℕ} {inb : ∀ a, off a + S168x256.size a ≤ S4096x256.size a} {w : S168x256.Idx → Elt F .f32}
    {hx : ((Memref.whole cc0_stg1_0 : Memref sig .tc .vmem S4096x256 .f32).access (Rect.unit (s := S4096x256) off S168x256.size inb)).Stores Finset.univ}
    {hm : (Finset.univ : Finset (Rect.unit (s := S4096x256) off S168x256.size inb).shape.Idx) = Finset.univ ∨ ∀ a, (Rect.unit (s := S4096x256) off S168x256.size inb).stride a = 1}
    {p : PUnit → Prog (TpuEff nD τ sig (Elt F) Λ₀ .tc) α}
    (h : okS (.st n) st = true) (hoff : off = ![rowOf 1 (us n) c, 0]) (hw : w = yD m c 1 (org 1 (us n) c))
    (hk : St m K c (nxt (.st n) st) ⊢ WP c (p ⟨⟩) Q) (hn : n = 3 * (us n).val + 1 := by rfl) :
    St m K c st ⊢ WP c (.op (.store (Memref.whole cc0_stg1_0 : Memref sig .tc .vmem S4096x256 .f32) (Rect.unit (s := S4096x256) off S168x256.size inb) w Finset.univ hx hm) p) Q := by
  subst hoff hw
  exact step_stAt n h hk fun f => outOk_next (j := 1) (s := us n) hn (fun i => write_under (outR 1 (us n) c) f _ i) fun y hy => write_beside (outR 1 (us n) c) f _ hy

theorem step_st2 (n : ℕ) {off : Fin 2 → ℕ} {inb : ∀ a, off a + S168x256.size a ≤ S4096x256.size a} {w : S168x256.Idx → Elt F .f32}
    {hx : ((Memref.whole cc0_stg1_0 : Memref sig .tc .vmem S4096x256 .f32).access (Rect.unit (s := S4096x256) off S168x256.size inb)).Stores Finset.univ}
    {hm : (Finset.univ : Finset (Rect.unit (s := S4096x256) off S168x256.size inb).shape.Idx) = Finset.univ ∨ ∀ a, (Rect.unit (s := S4096x256) off S168x256.size inb).stride a = 1}
    {p : PUnit → Prog (TpuEff nD τ sig (Elt F) Λ₀ .tc) α}
    (h : okS (.st n) st = true) (hoff : off = ![rowOf 2 (us n) c, 0]) (hw : w = yD m c 2 (org 2 (us n) c))
    (hk : St m K c (nxt (.st n) st) ⊢ WP c (p ⟨⟩) Q) (hn : n = 3 * (us n).val + 2 := by rfl) :
    St m K c st ⊢ WP c (.op (.store (Memref.whole cc0_stg1_0 : Memref sig .tc .vmem S4096x256 .f32) (Rect.unit (s := S4096x256) off S168x256.size inb) w Finset.univ hx hm) p) Q := by
  subst hoff hw
  exact step_stAt n h hk fun f => outOk_next (j := 2) (s := us n) hn (fun i => write_under (outR 2 (us n) c) f _ i) fun y hy => write_beside (outR 2 (us n) c) f _ hy

/-! ## The whole product -/

/-- After the last block the result is the whole product. -/
theorem outOk_all {f : S4096x256.Idx → Elt F .f32} (h : OutOk m c 24 f) : f = yAll m c := by
  funext y
  have h4 : (y 0).val < 4096 := (y 0).isLt
  unfold yAll
  have hd : (y 0).val / 512 < 8 := by omega
  dsimp only
  split
  · rename_i h1
    obtain ⟨s, hs⟩ := org_surj 0 c ⟨(y 0).val / 512, hd⟩
    rw [← hs]
    refine Eq.trans (congrArg f ?_) ((h s).1 (by omega) _)
    funext a
    apply Fin.ext
    fin_cases a
    · show (y 0).val = (512 * (org 0 s c).val + 0) + 1 * ((y 0).val % 512)
      rw [hs]; show _ = 512 * ((y 0).val / 512) + 0 + 1 * _; omega
    · show (y 1).val = 0 + 1 * (y 1).val
      omega
  · split
    · rename_i h0 h1
      obtain ⟨s, hs⟩ := org_surj 1 c ⟨(y 0).val / 512, hd⟩
      rw [← hs]
      refine Eq.trans (congrArg f ?_) ((h s).2.1 (by omega) _)
      funext a
      apply Fin.ext
      fin_cases a
      · show (y 0).val = (512 * (org 1 s c).val + 176) + 1 * ((y 0).val % 512 - 176)
        rw [hs]; show _ = 512 * ((y 0).val / 512) + 176 + 1 * _; omega
      · show (y 1).val = 0 + 1 * (y 1).val
        omega
    · rename_i h0 h1
      obtain ⟨s, hs⟩ := org_surj 2 c ⟨(y 0).val / 512, hd⟩
      rw [← hs]
      refine Eq.trans (congrArg f ?_) ((h s).2.2 (by omega) _)
      funext a
      apply Fin.ext
      fin_cases a
      · show (y 0).val = (512 * (org 2 s c).val + 344) + 1 * ((y 0).val % 512 - 344)
        rw [hs]; show _ = 512 * ((y 0).val / 512) + 344 + 1 * _; omega
      · show (y 1).val = 0 + 1 * (y 1).val
        omega

end Cert.Cube

end
-- ==== Proof.Rows.lean ====
/-
The rules for the maxima: every device writes its own row, sends it to the seven others, waits for theirs, and reads all
eight.
-/
module

public import proofs.«01_k».proof.Proof.Blocks

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Kd → ℕ} {c : Dev nD} {st : State}
variable {α : Type} {Q : α → sProp (MT nD τ sig Unit (Elt F) ℕ UU ℕ)}

/-! ## Names -/

theorem rot_zero (c : Dev nD) : rot c 0 = c := by revert c; decide
theorem org_zero (c : Dev nD) : org 0 0 c = c := by revert c; decide
theorem rot_ne (c : Dev nD) {k : Fin 8} (h : k ≠ 0) : rot c k ≠ c := by revert c k; decide

theorem inb8 (t : Dev nD) (a : Fin 1) : (![t.val] : Fin 1 → ℕ) a + S1.size a ≤ S8.size a := by
  fin_cases a; exact t.isLt
theorem sem_asend' (t : Dev nD) : SemLoc.dma ((cc0_scratch7.slice (Rect.unit (s := S8) ![t.val] S1.size (inb8 t))).squeeze S_ squeezes_S1_S_).sem = semOf (.asend t) := by
  revert t; decide
theorem sem_arecv' (t : Dev nD) : SemLoc.dma ((cc0_scratch8.slice (Rect.unit (s := S8) ![t.val] S1.size (inb8 t))).squeeze S_ squeezes_S1_S_).sem = semOf (.arecv t) := by
  revert t; decide
theorem sem_asend {off : Fin 1 → ℕ} {inb : ∀ a, off a + S1.size a ≤ S8.size a} (t : Dev nD) (h : off = ![t.val]) :
    SemLoc.dma ((cc0_scratch7.slice (Rect.unit (s := S8) off S1.size inb)).squeeze S_ squeezes_S1_S_).sem = semOf (.asend t) := by
  subst h; exact sem_asend' t
theorem sem_arecv {off : Fin 1 → ℕ} {inb : ∀ a, off a + S1.size a ≤ S8.size a} (t : Dev nD) (h : off = ![t.val]) :
    SemLoc.dma ((cc0_scratch8.slice (Rect.unit (s := S8) off S1.size inb)).squeeze S_ squeezes_S1_S_).sem = semOf (.arecv t) := by
  subst h; exact sem_arecv' t
theorem row_eq {off : Fin 2 → ℕ} {inb : ∀ a, off a + S1x128.size a ≤ S8x128.size a} (t : Dev nD) (h : off = ![t.val, 0]) :
    (Memref.whole cc0_scratch4 : Memref sig .tc .vmem S8x128 .f32).slice (Rect.unit (s := S8x128) off S1x128.size inb) (fun _ => rfl) = rowM t := by
  subst h; rfl

/-! ## A step that brings in a value nothing uses -/

theorem St_step_any {β : Type} {s : Step} (h : okS s st = true) {P : sProp 𝕄} {P' : β → sProp 𝕄}
    (hs : iprop(Ctx m K ∗ Ow c st.1 ∗ bigSepL s.need (res m c)) ⊢ iprop((∀ w, (Ow c (nxt s st).1 ∗ bigSepL s.give (res m c)) -∗ P' w) -∗ P))
    (hk : ∀ w, St m K c (nxt s st) ⊢ P' w) : St m K c st ⊢ P := by
  unfold St
  iintro ⟨#HC, HO, Hl⟩
  ihave H := (take_out (Bool.and_eq_true_iff.mp h).1 (res m c)) $$ Hl
  icases H with ⟨Hn, Hr⟩
  iapply hs $$ [HO Hn]
  · isplitr; · iexact HC
    isplitl [HO] <;> iassumption
  iintro %w ⟨HO, Hg⟩
  iapply (hk w)
  unfold St
  isplitr; · iexact HC
  isplitl [HO]; · iexact HO
  rw [show (nxt s st).2 = s.give ++ st.2.diff s.need from rfl, bigSepL_append]
  isplitl [Hg] <;> iassumption

/-! ## Its own row -/

/-- The rows the device holds are one in each buffer: the places its row is to go. -/
theorem step_gather {p : Prog (TpuEff nD τ sig (Elt F) Λ₀ .tc) α}
    (h : okS .gather st = true) (hk : St m K c (nxt .gather st) ⊢ WP c p Q) : St m K c st ⊢ WP c p Q := by
  refine St_step h ?_ hk
  have e : ∀ c : Dev nD, ([1, 2, 3, 4, 5, 6, 7].map fun x => org 0 x c).Perm ([1, 2, 3, 4, 5, 6, 7].map fun k => rot c k) := by decide
  have H := bigSepL_of_perm (e c) (fun d => AnyP (F := F) d ⟨.vmem, rowM c⟩)
  rw [bigSepL_map, bigSepL_map] at H
  show iprop(Ctx m K ∗ Ow c st.1 ∗ bigSepL ([1, 2, 3, 4, 5, 6, 7].map fun x => Res.arow x 0) (res m c))
    ⊢ iprop(((Ow c st.1 ∗ bigSepL ([1, 2, 3, 4, 5, 6, 7].map fun k => Res.drow k) (res m c)) -∗ _) -∗ _)
  rw [bigSepL_map, bigSepL_map]
  have e1 : (fun x : Fin 8 => res m c (.arow x 0)) = fun x => AnyP (F := F) (org 0 x c) ⟨.vmem, rowM c⟩ := by
    funext x
    show AnyP (F := F) (org 0 x c) ⟨.vmem, rowM (org 0 0 c)⟩ = _
    rw [org_zero]
  rw [e1]
  iintro ⟨-, HO, H⟩ Hk
  iapply Hk
  isplitl [HO]; · iexact HO
  iapply (show bigSepL [1, 2, 3, 4, 5, 6, 7] (fun x => AnyP (F := F) (org 0 x c) ⟨.vmem, rowM c⟩) ⊢ bigSepL [1, 2, 3, 4, 5, 6, 7] (fun k => res m c (.drow k)) from H)
  iexact H

theorem own_row (c : Dev nD) : res m c (.arow 0 0) = AnyP (F := F) c ⟨.vmem, rowM c⟩ := by
  show AnyP (F := F) (org 0 0 c) ⟨.vmem, rowM (org 0 0 c)⟩ = _
  rw [org_zero]

theorem step_rowLd {off : Fin 2 → ℕ} {inb : ∀ a, off a + S1x128.size a ≤ S8x128.size a}
    {hl : (Memref.whole cc0_scratch4 : Memref sig .tc .vmem S8x128 .f32).view.LoadsAt (Rect.unit (s := S8x128) off S1x128.size inb).toLoadRect}
    {p : (S1x128.Idx → Elt F .f32) → Prog (TpuEff nD τ sig (Elt F) Λ₀ .tc) α}
    (h : okS .rowLd st = true) (hoff : off = ![c.val, 0]) (hk : ∀ w, St m K c (nxt .rowLd st) ⊢ WP c (p w) Q) :
    St m K c st ⊢ WP c (.op (.load (Memref.whole cc0_scratch4 : Memref sig .tc .vmem S8x128 .f32) (Rect.unit (s := S8x128) off S1x128.size inb).toLoadRect hl) p) Q := by
  subst hoff
  refine St_step_any h ?_ hk
  show iprop(Ctx m K ∗ Ow c st.1 ∗ res m c (.arow 0 0)) ⊢ iprop((∀ w, (Ow c st.1 ∗ res m c (.arow 0 0)) -∗ _) -∗ _)
  rw [own_row]
  unfold AnyP
  iintro ⟨-, HO, ⟨%f, Hx⟩⟩ Hk
  iapply (wp_load_rect 𝒱₀ (c : Thread nD τ) none Set.univ (cs := .vmem) (m := (Memref.whole cc0_scratch4 : Memref sig .tc .vmem S8x128 .f32))
    (r := Rect.unit (s := S8x128) ![c.val, 0] S1x128.size inb) (S := (rowM c).view.set) (subset_refl _)) $$ [Hx]
  · iexact Hx
  iintro Hx
  iapply Hk
  isplitl [HO]; · iexact HO
  iexists f; iexact Hx

theorem step_rowSt {off : Fin 2 → ℕ} {inb : ∀ a, off a + S1x128.size a ≤ S8x128.size a} {w : S1x128.Idx → Elt F .f32}
    {hx : ((Memref.whole cc0_scratch4 : Memref sig .tc .vmem S8x128 .f32).access (Rect.unit (s := S8x128) off S1x128.size inb)).Stores Finset.univ}
    {hm : (Finset.univ : Finset (Rect.unit (s := S8x128) off S1x128.size inb).shape.Idx) = Finset.univ ∨ ∀ a, (Rect.unit (s := S8x128) off S1x128.size inb).stride a = 1}
    {p : PUnit → Prog (TpuEff nD τ sig (Elt F) Λ₀ .tc) α}
    (h : okS .rowSt st = true) (hoff : off = ![c.val, 0]) (hw : w = rowVal m c) (hk : St m K c (nxt .rowSt st) ⊢ WP c (p ⟨⟩) Q) :
    St m K c st ⊢ WP c (.op (.store (Memref.whole cc0_scratch4 : Memref sig .tc .vmem S8x128 .f32) (Rect.unit (s := S8x128) off S1x128.size inb) w Finset.univ hx hm) p) Q := by
  subst hoff hw
  refine St_step h ?_ hk
  show iprop(Ctx m K ∗ Ow c st.1 ∗ res m c (.arow 0 0)) ⊢ iprop(((Ow c st.1 ∗ owns (c : Thread nD τ) (rowM c) fullShare (rowVal m c)) -∗ _) -∗ _)
  rw [own_row]
  unfold AnyP
  iintro ⟨-, HO, ⟨%f, Hx⟩⟩ Hk
  iapply (wp_store 𝒱₀ (c : Thread nD τ) none Set.univ (cs := .vmem) (m := (Memref.whole cc0_scratch4 : Memref sig .tc .vmem S8x128 .f32))
    (r := Rect.unit (s := S8x128) ![c.val, 0] S1x128.size inb) (Mk := Finset.univ) (S := (rowM c).view.set) (subset_refl _)) $$ [Hx]
  · iexact Hx
  iintro Hx
  iapply Hk
  isplitl [HO]; · iexact HO
  ihave H := (owns_intro (c : Thread nD τ) (rowM c) fullShare _) $$ Hx
  iapply (Entails.of_eq (congrArg (owns (c : Thread nD τ) (rowM c) fullShare) (View.read_write_univ (v := (rowM c).view) f (rowVal m c))))
  iexact H

/-! ## Sending it -/

theorem dut_asend (c : Dev nD) {k : Fin 8} (h : k ≠ 0) : dutK c (.asend (rot c k)) 0 = {0} := if_pos ⟨rfl, rot_ne c h⟩
theorem dut_arecv (c : Dev nD) {k : Fin 8} (h : k ≠ 0) : dutK c (.arecv (rot c k)) 0 = {0} := if_pos ⟨rfl, rot_ne c h⟩
theorem dut_arecv' (c : Dev nD) {k : Fin 8} (h : k ≠ 0) : dutK (rot c k) (.arecv c) 0 = {0} := if_pos ⟨rfl, fun e => rot_ne c h e.symm⟩
theorem pay_asend (c : Dev nD) (k : Fin 8) : payK m c (.asend (rot c k)) 0 0 = owns (c : Thread nD τ) (rowM c) (sq (k.val - 1)) (rowVal m c) := by
  show owns (c : Thread nD τ) (rowM c) (sq ((unrot c (rot c k)).val - 1)) (rowVal m c) = _
  rw [unrot_rot]

theorem step_asend (k : Fin 8) (hk0 : k ≠ 0) {src dst : Memref sig .tc .vmem S1x128 .f32} {n : Dev nD}
    {sS sR : SemLoc sig} {hsc : (show Memref sig (Dev.tc n : Thread nD τ).2.kind .vmem S1x128 .f32 from dst).view.ref.isScScratch = false} {hs : src.view.WordExact} {hd : dst.view.WordExact}
    {hm : DmaTarget.Typed .vmem sR (.remote (Dev.tc n : Thread nD τ) dst sS hsc)} {p : PUnit → Prog (TpuEff nD τ sig (Elt F) Λ₀ .tc) α}
    (h : okS (.asend k) st = true) (hn : n = rot c k) (hS : sS = semOf (.asend (rot c k))) (hR : sR = semOf (.arecv c)) (hsrc : src = rowM c) (hdst : dst = rowM c)
    (hk : St m K c (nxt (.asend k) st) ⊢ WP c (p ⟨⟩) Q) :
    St m K c st ⊢ WP c (.op (.enqueueDma src (.remote (Dev.tc n : Thread nD τ) dst sS hsc) sR hs hd hm) p) Q := by
  subst hn hS hR hsrc hdst
  refine St_step h ?_ hk
  have hkv : k.val - 1 + 1 = k.val := by have : k.val ≠ 0 := fun e => hk0 (Fin.ext e); omega
  show iprop(Ctx m K ∗ Ow c st.1 ∗ owns (c : Thread nD τ) (rowM c) (sr (k.val - 1)) (rowVal m c)
      ∗ (atPos ER (cell c (.asend (rot c k))) 0 ∅ 0 ∗ dutyTok ER (cell c (.asend (rot c k))) 0 0 ∗ dutyTok ER (cell (rot c k) (.arecv c)) 0 0)
      ∗ AnyP (rot c k) ⟨.vmem, rowM c⟩)
    ⊢ iprop(((Ow c (st.1 + 1) ∗ owns (c : Thread nD τ) (rowM c) (sr k.val) (rowVal m c)
      ∗ (atPos ER (cell c (.asend (rot c k))) 0 ∅ 0 ∗ cred (tallyAt (cell c (.asend (rot c k))) () creditR))) -∗ _) -∗ _)
  unfold Ow AnyP
  iintro ⟨#HC, ⟨%W, HO⟩, Hs, ⟨Hat, Ht1, Ht2⟩, ⟨%fd, Hd⟩⟩ Hk
  ihave Hs2 := (owns_halves (c : Thread nD τ) (rowM c) (sr (k.val - 1)) _).1 $$ Hs
  icases Hs2 with ⟨Hl, Hs⟩
  ihave Hl := (show owns (c : Thread nD τ) (rowM c) (sr (k.val - 1)).left (rowVal m c)
      ⊢ iprop(∃ f, ⌜(rowM c).view.read (Elt F) f = rowVal m c⌝ ∗ ((rowM c).view.loc (c : Thread nD τ) ↦[(rowM c).view.set]{(sr (k.val - 1)).left} f)) from Entails.refl _) $$ Hl
  icases Hl with ⟨%fs, %hfs, Hl⟩
  iapply (Rounds.wp_send_pointsTo_with 𝒱₀ ER (Rd m) (c : Thread nD τ) none (κ₁ := K (c, .asend (rot c k))) (κ₂ := K (rot c k, .arecv c))
    (c' := (rot c k : Thread nD τ)) (src := rowM c) (dst := rowM c) (sS := semOf (.asend (rot c k))) (sem := semOf (.arecv c))
    (r₁ := 0) (r₂ := 0) (d₁ := 0) (d₂ := 0) (fd := fd) (fs := fs) (F := iprop(emp))
    (by rw [show ((c : Thread nD τ), semOf (.asend (rot c k))) = cell c (.asend (rot c k)) from rfl, duties_cell, dut_asend c hk0]; exact Finset.mem_singleton_self _)
    (by rw [show ((rot c k : Thread nD τ), semOf (.arecv c)) = cell (rot c k) (.arecv c) from rfl, duties_cell, dut_arecv' c hk0]; exact Finset.mem_singleton_self _)
    () () creditR rfl (amount_cell m c (.asend (rot c k)) 0 0) (amount_cell m (rot c k) (.arecv c) 0 0) (owedAt c (st.1 + 1)) (okS_due h rfl) (W := W)
    (by
      rw [show ((c : Thread nD τ), semOf (.asend (rot c k))) = cell c (.asend (rot c k)) from rfl, payload_cell, pay_asend, ← hfs]
      exact owns_intro _ _ _ _)
    (by
      rw [show ((rot c k : Thread nD τ), semOf (.arecv c)) = cell (rot c k) (.arecv c) from rfl, payload_cell]
      show _ ⊢ Has (rot c k) ⟨.vmem, rowM c⟩ (rowVal m c)
      unfold Has
      rw [← hfs]
      iintro ⟨H, -⟩
      ihave H' := (owns_intro _ _ _ _) $$ H
      rw [View.read_write_univ]
      iexact H')) $$ [Hl Hd HO Ht1 Ht2]
  · isplitr; · iapply (Ctx_inv m K c (.asend (rot c k))); iexact HC
    isplitr; · iapply (Ctx_inv m K (rot c k) (.arecv c)); iexact HC
    isplitl [Hl]; · iexact Hl
    isplitl [Hd]
    · isplitl [Hd]; · iexact Hd
      iempintro
    isplitl [HO]; · iexact HO
    isplitl [Ht1]; · iexact Ht1
    isplitr; · iapply (Ctx_reached m K c (.asend (rot c k))); iexact HC
    isplitl [Ht2]; · iexact Ht2
    iapply (Ctx_reached m K (rot c k) (.arecv c)); iexact HC
  iintro ⟨Hcr, HO⟩
  iapply Hk
  isplitl [HO]; · iexists _; iexact HO
  isplitl [Hs]
  · rw [show sr k.val = (sr (k.val - 1)).right from by rw [← hkv]; rfl]
    iexact Hs
  isplitl [Hat] <;> iassumption

/-! ## Waiting -/

theorem step_waitAS (k : Fin 8) (hk0 : k ≠ 0) {s1 s2 : Shape} {e1 e2 : EltTy} {sp1 sp2 : Space} {a : Memref sig .tc sp1 s1 e1} {b : Memref sig .tc sp2 s2 e2} {sS : DmaSem sig}
    {ha : a.view.WordExact} {hb : b.view.WordExact} {p : PUnit → Prog (TpuEff nD τ sig (Elt F) Λ₀ .tc) α}
    (h : okS (.waitAS k) st = true) (hS : SemLoc.dma sS = semOf (.asend (rot c k)))
    (hk : St m K c (nxt (.waitAS k) st) ⊢ WP c (p ⟨⟩) Q) (hN : b.view.dmaCredit = creditR := by rfl) :
    St m K c st ⊢ WP c (.op (.waitDma2 sS a b ha hb) p) Q := by
  refine St_step h ?_ hk
  show iprop(Ctx m K ∗ Ow c st.1 ∗ atPos ER (cell c (.asend (rot c k))) 0 ∅ 0 ∗ cred (tallyAt (cell c (.asend (rot c k))) () creditR))
    ⊢ iprop(((Ow c st.1 ∗ semVal (cell c (.asend (rot c k))) 0 ∗ owns (c : Thread nD τ) (rowM c) (sq (k.val - 1)) (rowVal m c)) -∗ _) -∗ _)
  rw [← pay_asend]
  iintro ⟨#HC, HO, Hat, Hcr⟩ Hk
  iapply (wait_one (m := m) (K := K) (v := 0) (k := .asend (rot c k)) (r := 0) (N := creditR)
      (fun Φ => by rw [wpE_waitDma2_eq, hS, hN]) (dut_asend c hk0) rfl (le_refl _) (okS_wait h rfl)) $$ [HO Hat Hcr]
  · isplitr; · iexact HC
    isplitl [HO]; · iexact HO
    isplitl [Hat] <;> iassumption
  iintro ⟨HO, Hat, -, Hp⟩
  imod (close_one (m := m) (K := K) (k := .asend (rot c k)) (r := 0 + 1) (fun r hr => late hr)) $$ [Hat] with Hz
  · isplitr; · iexact HC
    iexact Hat
  iapply Hk
  isplitl [HO]; · iexact HO
  isplitl [Hz] <;> iassumption

theorem step_waitAR (k : Fin 8) (hk0 : k ≠ 0) {s1 s2 : Shape} {e1 e2 : EltTy} {sp1 sp2 : Space} {a : Memref sig .tc sp1 s1 e1} {b : Memref sig .tc sp2 s2 e2} {sR : DmaSem sig}
    {ha : a.view.WordExact} {hb : b.view.WordExact} {p : PUnit → Prog (TpuEff nD τ sig (Elt F) Λ₀ .tc) α}
    (h : okS (.waitAR k) st = true) (hS : SemLoc.dma sR = semOf (.arecv (rot c k)))
    (hk : St m K c (nxt (.waitAR k) st) ⊢ WP c (p ⟨⟩) Q) (hN : b.view.dmaCredit = creditR := by rfl) :
    St m K c st ⊢ WP c (.op (.waitDma2 sR a b ha hb) p) Q := by
  refine St_step h ?_ hk
  show iprop(Ctx m K ∗ Ow c st.1 ∗ atPos ER (cell c (.arecv (rot c k))) 0 ∅ 0 ∗ cred (tallyAt (cell c (.arecv (rot c k))) () creditR))
    ⊢ iprop(((Ow c st.1 ∗ semVal (cell c (.arecv (rot c k))) 0 ∗ payK m c (.arecv (rot c k)) 0 0) -∗ _) -∗ _)
  iintro ⟨#HC, HO, Hat, Hcr⟩ Hk
  iapply (wait_one (m := m) (K := K) (v := 6) (k := .arecv (rot c k)) (r := 0) (N := creditR)
      (fun Φ => by rw [wpE_waitDma2_eq, hS, hN]) (dut_arecv c hk0) rfl (le_refl _) (okS_wait h rfl)) $$ [HO Hat Hcr]
  · isplitr; · iexact HC
    isplitl [HO]; · iexact HO
    isplitl [Hat] <;> iassumption
  iintro ⟨HO, Hat, -, Hp⟩
  imod (close_one (m := m) (K := K) (k := .arecv (rot c k)) (r := 0 + 1) (fun r hr => late hr)) $$ [Hat] with Hz
  · isplitr; · iexact HC
    iexact Hat
  iapply Hk
  isplitl [HO]; · iexact HO
  isplitl [Hz] <;> iassumption

/-! ## All eight rows -/

/-- What came back of the row, joined again. -/
theorem row_back (c : Dev nD) (n : ℕ) (X : S1x128.Idx → Elt F .f32) :
    iprop(owns (c : Thread nD τ) (rowM c) (sr (n + 1)) X ∗ owns (c : Thread nD τ) (rowM c) (sq n) X) ⊢ (owns (c : Thread nD τ) (rowM c) (sr n) X : sProp 𝕄) :=
  sep_comm.1.trans (owns_halves (c : Thread nD τ) (rowM c) (sr n) X).2

theorem rows_apart (t t' : Fin 8) (h : t ≠ t') : Disjoint (Rect.unit (s := S8x128) ![t.val, 0] S1x128.size (inbR t)).set
    (Rect.unit (s := S8x128) ![t'.val, 0] S1x128.size (inbR t')).set := by
  refine Rect.unit_disjoint 0 ?_
  have : t.val ≠ t'.val := fun e => h (Fin.ext e)
  show t.val + 1 ≤ t'.val ∨ t'.val + 1 ≤ t.val
  omega

theorem rows_cover : (Finset.univ.biUnion fun t : Fin 8 => (Rect.unit (s := S8x128) ![t.val, 0] S1x128.size (inbR t)).set) = Finset.univ := by
  refine Finset.eq_univ_of_forall fun i => Finset.mem_biUnion.mpr ⟨⟨(i 0).val, (i 0).isLt⟩, Finset.mem_univ _, Rect.mem_set_unit.mpr fun a => ?_⟩
  fin_cases a
  · exact ⟨le_refl _, Nat.lt_succ_self _⟩
  · exact ⟨Nat.zero_le _, (i 1).isLt.trans_le (le_of_eq (Nat.zero_add _).symm)⟩

theorem rowsAll_row (t : Fin 8) : (fun i => rowsAll m ((Rect.unit (s := S8x128) ![t.val, 0] S1x128.size (inbR t)).emb i)) = rowVal m t := by
  funext i
  have h0 : (i 0).val = 0 := by have : (i 0).val < 1 := (i 0).isLt; omega
  have e : (⟨((Rect.unit (s := S8x128) ![t.val, 0] S1x128.size (inbR t)).emb i 0).val, ((Rect.unit (s := S8x128) ![t.val, 0] S1x128.size (inbR t)).emb i 0).isLt⟩ : Fin 8) = t :=
    Fin.ext (show t.val + 1 * (i 0).val = t.val by omega)
  unfold rowsAll
  rw [e]
  congr 1
  funext a
  apply Fin.ext
  fin_cases a
  · exact h0.symm
  · show 0 + 1 * (i 1).val = (i 1).val; omega

theorem rot_all (c : Dev nD) : (Finset.univ : Finset (Dev nD)) = ([0, 1, 2, 3, 4, 5, 6, 7].map fun k => rot c k).toFinset := by revert c; decide
theorem rot_nodup (c : Dev nD) : ([0, 1, 2, 3, 4, 5, 6, 7].map fun k => rot c k).Nodup := by revert c; decide

theorem join_rows (c : Dev nD) :
    iprop(owns (c : Thread nD τ) (rowM c) fullShare (rowVal m c) ∗ bigSepL [1, 2, 3, 4, 5, 6, 7] fun k => Has c ⟨.vmem, rowM (rot c k)⟩ (rowVal m (rot c k)))
      ⊢ (owns (c : Thread nD τ) (Memref.whole cc0_scratch4 : Memref sig .tc .vmem S8x128 .f32) fullShare (rowsAll m) : sProp 𝕄) := by
  refine BIBase.Entails.trans ?_ (owns_of_rects (c : Thread nD τ) (Memref.whole cc0_scratch4 : Memref sig .tc .vmem S8x128 .f32) fullShare
    (fun t : Fin 8 => Rect.unit (s := S8x128) ![t.val, 0] S1x128.size (inbR t)) (fun _ _ => rfl) rows_apart rows_cover (rowsAll m))
  have e : (fun t : Fin 8 => owns (c : Thread nD τ) ((Memref.whole cc0_scratch4 : Memref sig .tc .vmem S8x128 .f32).slice
        (Rect.unit (s := S8x128) ![t.val, 0] S1x128.size (inbR t)) (fun _ => rfl)) fullShare (fun i => rowsAll m ((Rect.unit (s := S8x128) ![t.val, 0] S1x128.size (inbR t)).emb i)))
      = fun t => (owns (c : Thread nD τ) (rowM t) fullShare (rowVal m t) : sProp 𝕄) := by
    funext t; rw [rowsAll_row]
  rw [e, bigSep_univ_eq_bigSepL ([0, 1, 2, 3, 4, 5, 6, 7].map fun k => rot c k) (rot_all c) (rot_nodup c), bigSepL_map]
  show _ ⊢ iprop(owns (c : Thread nD τ) (rowM (rot c 0)) fullShare (rowVal m (rot c 0)) ∗ bigSepL [1, 2, 3, 4, 5, 6, 7] fun k => Has c ⟨.vmem, rowM (rot c k)⟩ (rowVal m (rot c k)))
  rw [rot_zero]

theorem step_joinR {p : Prog (TpuEff nD τ sig (Elt F) Λ₀ .tc) α}
    (h : okS .joinR st = true) (hk : St m K c (nxt .joinR st) ⊢ WP c p Q) : St m K c st ⊢ WP c p Q := by
  refine St_step h ?_ hk
  rw [show Step.joinR.need = .rowSh 7 :: .rowBack 7 :: .rowBack 6 :: .rowBack 5 :: .rowBack 4 :: .rowBack 3 :: .rowBack 2 :: .rowBack 1
    :: [1, 2, 3, 4, 5, 6, 7].map (fun k => Res.rowIn k) from rfl, bigSepL_cons', bigSepL_cons', bigSepL_cons', bigSepL_cons', bigSepL_cons', bigSepL_cons',
    bigSepL_cons', bigSepL_cons', bigSepL_map]
  show iprop(Ctx m K ∗ Ow c st.1 ∗ owns (c : Thread nD τ) (rowM c) (sr 7) (rowVal m c) ∗ owns (c : Thread nD τ) (rowM c) (sq 6) (rowVal m c)
      ∗ owns (c : Thread nD τ) (rowM c) (sq 5) (rowVal m c) ∗ owns (c : Thread nD τ) (rowM c) (sq 4) (rowVal m c) ∗ owns (c : Thread nD τ) (rowM c) (sq 3) (rowVal m c)
      ∗ owns (c : Thread nD τ) (rowM c) (sq 2) (rowVal m c) ∗ owns (c : Thread nD τ) (rowM c) (sq 1) (rowVal m c) ∗ owns (c : Thread nD τ) (rowM c) (sq 0) (rowVal m c)
      ∗ bigSepL [1, 2, 3, 4, 5, 6, 7] fun k => Has c ⟨.vmem, rowM (rot c k)⟩ (rowVal m (rot c k)))
    ⊢ iprop(((Ow c st.1 ∗ owns (c : Thread nD τ) (Memref.whole cc0_scratch4 : Memref sig .tc .vmem S8x128 .f32) fullShare (rowsAll m)) -∗ _) -∗ _)
  iintro ⟨-, HO, H, H6, H5, H4, H3, H2, H1, H0, Hin⟩ Hk
  ihave H := (row_back c 6 (rowVal m c)) $$ [H H6]
  · isplitl [H]
    · iexact H
    · iexact H6
  ihave H := (row_back c 5 (rowVal m c)) $$ [H H5]
  · isplitl [H]
    · iexact H
    · iexact H5
  ihave H := (row_back c 4 (rowVal m c)) $$ [H H4]
  · isplitl [H]
    · iexact H
    · iexact H4
  ihave H := (row_back c 3 (rowVal m c)) $$ [H H3]
  · isplitl [H]
    · iexact H
    · iexact H3
  ihave H := (row_back c 2 (rowVal m c)) $$ [H H2]
  · isplitl [H]
    · iexact H
    · iexact H2
  ihave H := (row_back c 1 (rowVal m c)) $$ [H H1]
  · isplitl [H]
    · iexact H
    · iexact H1
  ihave H := (row_back c 0 (rowVal m c)) $$ [H H0]
  · isplitl [H]
    · iexact H
    · iexact H0
  iapply Hk
  isplitl [HO]; · iexact HO
  iapply (join_rows c)
  isplitl [H]
  · iexact H
  · iexact Hin

theorem step_ldR {inb : ∀ a, (![0, 0] : Fin 2 → ℕ) a + S8x128.size a ≤ S8x128.size a}
    {hl : (Memref.whole cc0_scratch4 : Memref sig .tc .vmem S8x128 .f32).view.LoadsAt (Rect.unit (s := S8x128) ![0, 0] S8x128.size inb).toLoadRect}
    {p : (S8x128.Idx → Elt F .f32) → Prog (TpuEff nD τ sig (Elt F) Λ₀ .tc) α}
    (h : okS .ldR st = true) (hk : St m K c (nxt .ldR st) ⊢ WP c (p (rowsAll m)) Q) :
    St m K c st ⊢ WP c (.op (.load (Memref.whole cc0_scratch4 : Memref sig .tc .vmem S8x128 .f32) (Rect.unit (s := S8x128) ![0, 0] S8x128.size inb).toLoadRect hl) p) Q := by
  refine St_step h ?_ hk
  show iprop(Ctx m K ∗ Ow c st.1 ∗ owns (c : Thread nD τ) (Memref.whole cc0_scratch4 : Memref sig .tc .vmem S8x128 .f32) fullShare (rowsAll m))
    ⊢ iprop(((Ow c st.1 ∗ owns (c : Thread nD τ) (Memref.whole cc0_scratch4 : Memref sig .tc .vmem S8x128 .f32) fullShare (rowsAll m)) -∗ _) -∗ _)
  rw [owns_whole_eq]
  iintro ⟨-, HO, ⟨%f, %hf, Hx⟩⟩ Hk
  iapply (wp_load 𝒱₀ (c : Thread nD τ) none Set.univ (cs := .vmem) (m := (Memref.whole cc0_scratch4 : Memref sig .tc .vmem S8x128 .f32)) (S := Finset.univ) (f := f)
    (Finset.subset_univ _)) $$ [Hx]
  · iexact Hx
  iintro Hx
  rw [show (Memref.whole cc0_scratch4 : Memref sig .tc .vmem S8x128 .f32).view.readAt (Elt F) (Rect.unit (s := S8x128) ![0, 0] S8x128.size inb).toLoadRect f = f from
    Memref.readAt_unit_zero (Elt F) cc0_scratch4 (by funext a; fin_cases a <;> rfl) inb f, hf]
  iapply Hk
  isplitl [HO]; · iexact HO
  iexists _
  isplitr; · ipureintro; exact rfl
  iexact Hx

/-! ## At the end -/

/-- The two counters of a device's own row are never raised. -/
theorem step_closeA {p : Prog (TpuEff nD τ sig (Elt F) Λ₀ .tc) α}
    (h : okS .closeA st = true) (hk : St m K c (nxt .closeA st) ⊢ WP c p Q) : St m K c st ⊢ WP c p Q := by
  refine St_step h ?_ hk
  show iprop(Ctx m K ∗ Ow c st.1 ∗ atPos ER (cell c (.asend c)) 0 ∅ 0 ∗ atPos ER (cell c (.arecv c)) 0 ∅ 0)
    ⊢ iprop(((Ow c st.1 ∗ semVal (cell c (.asend (rot c 0))) 0 ∗ semVal (cell c (.arecv (rot c 0))) 0) -∗ _) -∗ _)
  rw [rot_zero]
  iintro ⟨#HC, HO, H1, H2⟩ Hk
  imod (close_one (m := m) (K := K) (k := .asend c) (r := 0) (fun r hr => if_neg fun h => h.2 rfl)) $$ [H1] with Hz1
  · isplitr; · iexact HC
    iexact H1
  imod (close_one (m := m) (K := K) (k := .arecv c) (r := 0) (fun r hr => if_neg fun h => h.2 rfl)) $$ [H2] with Hz2
  · isplitr; · iexact HC
    iexact H2
  iapply Hk
  isplitl [HO]; · iexact HO
  isplitl [Hz1] <;> iassumption

/-- A staging slot after its last piece. -/
theorem step_closeS (s : Fin 2) {p : Prog (TpuEff nD τ sig (Elt F) Λ₀ .tc) α}
    (h : okS (.closeS s) st = true) (hk : St m K c (nxt (.closeS s) st) ⊢ WP c p Q) : St m K c st ⊢ WP c p Q := by
  refine St_step h ?_ hk
  show iprop(Ctx m K ∗ Ow c st.1 ∗ (AnyP (F := F) c ⟨.vmem, stgM 0 s⟩ ∗ atPos ER (cell c (.stage s)) 6 ∅ 0 ∗ reached ER (cell c (.stage s)) 6))
    ⊢ iprop(((Ow c st.1 ∗ semVal (cell c (.stage s)) 0 ∗ AnyP (F := F) c ⟨.vmem, stgM 0 s⟩) -∗ _) -∗ _)
  iintro ⟨#HC, HO, ⟨Hx, Hat, -⟩⟩ Hk
  imod (close_one (m := m) (K := K) (k := .stage s) (r := 6) (fun r hr => if_neg (Nat.not_lt.mpr hr))) $$ [Hat] with Hz
  · isplitr; · iexact HC
    iexact Hat
  iapply Hk
  isplitl [HO]; · iexact HO
  isplitl [Hz] <;> iassumption

/-- The load of the finished product. -/
theorem step_ldO {inb : ∀ a, (![0, 0] : Fin 2 → ℕ) a + S4096x256.size a ≤ S4096x256.size a}
    {hl : (Memref.whole cc0_stg1_0 : Memref sig .tc .vmem S4096x256 .f32).view.LoadsAt (Rect.unit (s := S4096x256) ![0, 0] S4096x256.size inb).toLoadRect}
    {p : (S4096x256.Idx → Elt F .f32) → Prog (TpuEff nD τ sig (Elt F) Λ₀ .tc) α}
    (h : okS (.peek 24) st = true) (hk : St m K c (nxt (.peek 24) st) ⊢ WP c (p (yAll m c)) Q) :
    St m K c st ⊢ WP c (.op (.load (Memref.whole cc0_stg1_0 : Memref sig .tc .vmem S4096x256 .f32) (Rect.unit (s := S4096x256) ![0, 0] S4096x256.size inb).toLoadRect hl) p) Q := by
  refine St_step h ?_ hk
  show iprop(Ctx m K ∗ Ow c st.1 ∗ ∃ f : Buf (Elt F) ((c : Thread nD τ).loc cc0_stg1_0), ⌜OutOk m c 24 f⌝ ∗ (((c : Thread nD τ).loc cc0_stg1_0) ↦{fullShare} f))
    ⊢ iprop(((Ow c st.1 ∗ ∃ f : Buf (Elt F) ((c : Thread nD τ).loc cc0_stg1_0), ⌜OutOk m c 24 f⌝ ∗ (((c : Thread nD τ).loc cc0_stg1_0) ↦{fullShare} f)) -∗ _) -∗ _)
  iintro ⟨-, HO, ⟨%f, %hf, Hx⟩⟩ Hk
  iapply (wp_load 𝒱₀ (c : Thread nD τ) none Set.univ (cs := .vmem) (m := (Memref.whole cc0_stg1_0 : Memref sig .tc .vmem S4096x256 .f32)) (S := Finset.univ) (f := f)
    (Finset.subset_univ _)) $$ [Hx]
  · iexact Hx
  iintro Hx
  rw [show (Memref.whole cc0_stg1_0 : Memref sig .tc .vmem S4096x256 .f32).view.readAt (Elt F) (Rect.unit (s := S4096x256) ![0, 0] S4096x256.size inb).toLoadRect f = yAll m c from
    (Memref.readAt_unit_zero (Elt F) cc0_stg1_0 (by funext a; fin_cases a <;> rfl) inb f).trans (outOk_all hf)]
  iapply Hk
  isplitl [HO]; · iexact HO
  iexists f
  isplitr; · ipureintro; exact hf
  iexact Hx

end Cert.Cube

end
-- ==== Proof.Parts1.lean ====
/-
The first parts of the kernel's text, as runs of steps: the exchange of barrier signals, the first transfers and the first
block of the result.
-/
module

public import proofs.«01_k».proof.Proof.Rows
public import proofs.«01_k».proof.Proof.Plan

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {m : (ℓ : Loc nD τ sig) → Buf (Elt F) ℓ} {K : Dev nD × Kd → ℕ} {c : Dev nD} {st : State}

theorem part_end {α : Type} {a : α} {Q : α → sProp (MT nD τ sig Unit (Elt F) ℕ UU ℕ)} (h : St m K c st ⊢ Q a) : St m K c st ⊢ WP c (.ret a) Q := by
  rw [WP, wp_ret]
  iintro H
  imodintro
  iapply h
  iexact H

/-- A program of the kernel's buffers and counters, at the ones the launch gives. -/
abbrev onArgs {β : Type 1}
    (p : (arg0 : Memref sig .tc .hbm S512x4096 .f32) → arg0.IsWhole → (arg1 : Memref sig .tc .vmem S4096x256 .f32) → arg1.IsWhole →
      (arg2 : Memref sig .tc .vmem S4096x256 .f32) → arg2.IsWhole → (arg3 : Memref sig .tc .hbm S8x176x4096 .f32) → arg3.IsWhole →
      (arg4 : Memref sig .tc .hbm S8x168x4096 .f32) → arg4.IsWhole → (arg5 : Memref sig .tc .hbm S8x168x4096 .f32) → arg5.IsWhole →
      (arg6 : Memref sig .tc .vmem S4x176x4096 .f32) → arg6.IsWhole → (arg7 : Memref sig .tc .vmem S4x168x4096 .f32) → arg7.IsWhole →
      (arg8 : Memref sig .tc .vmem S4x168x4096 .f32) → arg8.IsWhole → (arg9 : Memref sig .tc .vmem S2x176x4096 .f32) → arg9.IsWhole →
      (arg10 : Memref sig .tc .vmem S8x128 .f32) → arg10.IsWhole →
      DmaSems sig S3x7 → DmaSems sig S3x7 → DmaSems sig S8 → DmaSems sig S8 → DmaSems sig S2 → β) : β :=
  p (Memref.whole main_arg0) (Memref.isWhole_whole _) (Memref.whole cc0_stg0_0) (Memref.isWhole_whole _) (Memref.whole cc0_stg1_0) (Memref.isWhole_whole _)
    (Memref.whole main_v1_1) (Memref.isWhole_whole _) (Memref.whole main_v1_2) (Memref.isWhole_whole _) (Memref.whole main_v1_3) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9

/-! ## The barrier and the first transfers -/

theorem part2 (a b d : BitVec 32) {Kt} (hv : valid P2 st) (hK : ∀ w, St m K c (exec P2 st) ⊢ Kt w) :
    St m K c st ⊢ WP c (onArgs (k0_part2 (F := F)) c a b d) Kt := by
  obtain ⟨h1, h2, h3, h4, -⟩ := hv
  rw [k0_part2_eq_skeleton]; unfold k0_part2_skel
  simp only [semSignalWord, semWaitWord, Prog.lift, Prog.bind_op, Prog.bind_ret, Prog.pure_eq_ret]
  refine step_sig 0 h1 (dev1_eq c) ?_
  refine step_sig 1 h2 (dev2_eq c) ?_
  refine step_sig 2 h3 (dev3_eq c) ?_
  refine step_barW h4 ?_
  exact part_end (hK _)

theorem part3 (a b : BitVec 32) {Kt} (hv : valid P3 st) (hK : ∀ w, St m K c (exec P3 st) ⊢ Kt w) :
    St m K c st ⊢ WP c (onArgs (k0_part3 (F := F)) c a b) Kt := by
  obtain ⟨h1, h2, h3, -⟩ := hv
  rw [k0_part3_eq_skeleton]; unfold k0_part3_skel
  simp only [Prog.lift, Prog.bind_op, Prog.bind_ret, Prog.pure_eq_ret]
  refine step_send 0 0 h1 (dev4_eq c) ?_
  refine step_send 0 1 h2 (dev5_eq c) ?_
  refine step_send 0 3 h3 (dev6_eq c) ?_
  exact part_end (hK _)

theorem part4 (a b d : BitVec 32) {Kt} (hv : valid P4 st) (hK : ∀ w, St m K c (exec P4 st) ⊢ Kt w) :
    St m K c st ⊢ WP c (onArgs (k0_part4 (F := F)) c a b d) Kt := by
  obtain ⟨h1, h2, h3, -⟩ := hv
  rw [k0_part4_eq_skeleton]; unfold k0_part4_skel
  simp only [Prog.lift, Prog.bind_op, Prog.bind_ret, Prog.pure_eq_ret]
  refine step_send 1 0 h1 (dev7_eq c) ?_
  refine step_send 1 1 h2 (dev8_eq c) ?_
  refine step_send 1 3 h3 (dev9_eq c) ?_
  exact part_end (hK _)

theorem part5 (a b d : BitVec 32) {Kt} (hv : valid P5 st) (hK : ∀ w, St m K c (exec P5 st) ⊢ Kt w) :
    St m K c st ⊢ WP c (onArgs (k0_part5 (F := F)) c a b d) Kt := by
  obtain ⟨h1, h2, h3, -⟩ := hv
  rw [k0_part5_eq_skeleton]; unfold k0_part5_skel
  simp only [Prog.lift, Prog.bind_op, Prog.bind_ret, Prog.pure_eq_ret]
  refine step_send 2 0 h1 (dev10_eq c) ?_
  refine step_send 2 1 h2 (dev11_eq c) ?_
  refine step_send 2 3 h3 (dev12_eq c) ?_
  exact part_end (hK _)

/-! ## The first block -/

theorem part6 (a b d : BitVec 32) {Kt} (hv : valid P6 st) (hK : ∀ w, St m K c (exec P6 st) ⊢ Kt ⟨yD m c 0 (org 0 0 c), run m c 1, w⟩) :
    St m K c st ⊢ WP c (onArgs (k0_part6 (F := F)) a b d) Kt := by
  obtain ⟨h1, h2, h3, h4, h5, -⟩ := hv
  rw [k0_part6_eq_skeleton]; unfold k0_part6_skel
  simp only [Prog.lift, Prog.bind_op, Prog.bind_ret, Prog.pure_eq_ret]
  refine step_copy 0 h1 ?_
  refine step_copy 1 h2 ?_
  refine step_waitC 0 h3 ?_
  refine step_ldS 0 (by decide) h4 ?_
  refine step_ldW h5 ?_
  exact part_end (hK _)

theorem part7 (a b : BitVec 32) {Kt} (hv : valid P7 st) (hK : ∀ w, St m K c (exec P7 st) ⊢ Kt w) :
    St m K c st ⊢ WP c (onArgs (k0_part7 (F := F)) c a (yD m c 0 (org 0 0 c)) b) Kt := by
  obtain ⟨h1, h2, h3, h4, h5, -⟩ := hv
  rw [k0_part7_eq_skeleton]; unfold k0_part7_skel
  simp only [Prog.lift, Prog.bind_op, Prog.bind_ret, Prog.pure_eq_ret]
  refine step_peek 0 h1 fun _ => ?_
  refine step_st0 0 h2 (off1_eq c) rfl ?_
  refine step_copy 2 h3 ?_
  refine step_waitS 0 0 h4 ?_
  refine step_waitR 0 0 h5 ?_
  exact part_end (hK _)

theorem part8 (a b : BitVec 32) {Kt} (hv : valid P8 st) (hK : ∀ w, St m K c (exec P8 st) ⊢ Kt w) :
    St m K c st ⊢ WP c (onArgs (k0_part8 (F := F)) a b) Kt := by
  obtain ⟨h1, h2, h3, -⟩ := hv
  rw [k0_part8_eq_skeleton]; unfold k0_part8_skel
  simp only [Prog.lift, Prog.bind_op, Prog.bind_ret, Prog.pure_eq_ret]
  refine step_waitS 1 0 h1 ?_
  refine step_waitR 1 0 h2 ?_
  refine step_waitS 2 0 h3 ?_
  exact part_end (hK _)

/-! ## The second round of transfers -/

theorem part9 (a b : BitVec 32) {Kt} (hv : valid P9 st) (hK : ∀ w, St m K c (exec P9 st) ⊢ Kt w) :
    St m K c st ⊢ WP c (onArgs (k0_part9 (F := F)) c a b) Kt := by
  obtain ⟨h1, h2, h3, -⟩ := hv
  rw [k0_part9_eq_skeleton]; unfold k0_part9_skel
  simp only [Prog.lift, Prog.bind_op, Prog.bind_ret, Prog.pure_eq_ret]
  refine step_waitR 2 0 h1 ?_
  refine step_send 0 2 h2 (dev13_eq c) ?_
  refine step_send 0 4 h3 (dev14_eq c) ?_
  exact part_end (hK _)

theorem part10 (a b d : BitVec 32) {Kt} (hv : valid P10 st) (hK : ∀ w, St m K c (exec P10 st) ⊢ Kt w) :
    St m K c st ⊢ WP c (onArgs (k0_part10 (F := F)) c a b d) Kt := by
  obtain ⟨h1, h2, h3, -⟩ := hv
  rw [k0_part10_eq_skeleton]; unfold k0_part10_skel
  simp only [Prog.lift, Prog.bind_op, Prog.bind_ret, Prog.pure_eq_ret]
  refine step_send 1 2 h1 (dev15_eq c) ?_
  refine step_send 1 4 h2 (dev16_eq c) ?_
  refine step_send 2 2 h3 (dev17_eq c) ?_
  exact part_end (hK _)

end Cert.Cube

end
-- ==== Proof.Parts2.lean ====
/-
The parts of the kernel's text that compute the second to the seventh block of the result while the second round of
transfers arrives and most of the third is sent.
-/
module

public import proofs.«01_k».proof.Proof.Parts1

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {m : (ℓ : Loc nD τ sig) → Buf (Elt F) ℓ} {K : Dev nD × Kd → ℕ} {c : Dev nD} {st : State}

/-! ## Blocks 1 to 3 -/

theorem part11 (a b d e : BitVec 32) {Kt} (hv : valid P11 st)
    (hK : ∀ w w', St m K c (exec P11 st) ⊢ Kt ⟨yD m c 1 (org 1 0 c), run m c 2, w, w'⟩) :
    St m K c st ⊢ WP c (onArgs (k0_part11 (F := F)) c a b d e (run m c 1)) Kt := by
  obtain ⟨h1, h2, h3, h4, -⟩ := hv
  rw [k0_part11_eq_skeleton]; unfold k0_part11_skel
  simp only [Prog.lift, Prog.bind_op, Prog.bind_ret, Prog.pure_eq_ret]
  refine step_send 2 4 h1 (dev18_eq c) ?_
  refine step_waitC 1 h2 ?_
  refine step_ldS 1 (by decide) h3 ?_
  refine step_ldW h4 ?_
  exact part_end (hK _ _)

theorem part12 (a b d e g : BitVec 32) {Kt} (hv : valid P12 st)
    (hK : ∀ w w', St m K c (exec P12 st) ⊢ Kt ⟨yD m c 2 (org 2 0 c), run m c 3, w, w'⟩) :
    St m K c st ⊢ WP c (onArgs (k0_part12 (F := F)) c a b d (yD m c 1 (org 1 0 c)) (run m c 2) e g) Kt := by
  obtain ⟨h1, h2, h3, h4, h5, h6, -⟩ := hv
  rw [k0_part12_eq_skeleton]; unfold k0_part12_skel
  simp only [Prog.lift, Prog.bind_op, Prog.bind_ret, Prog.pure_eq_ret]
  refine step_peek 1 h1 fun _ => ?_
  refine step_st1 1 h2 (off2_176_eq c) rfl ?_
  refine step_copy 3 h3 ?_
  refine step_waitC 2 h4 ?_
  refine step_ldS 2 (by decide) h5 ?_
  refine step_ldW h6 ?_
  exact part_end (hK _ _)

theorem part13 (a b d e g : BitVec 32) {Kt} (hv : valid P13 st)
    (hK : ∀ w w', St m K c (exec P13 st) ⊢ Kt ⟨yD m c 0 (org 0 1 c), run m c 4, w, w'⟩) :
    St m K c st ⊢ WP c (onArgs (k0_part13 (F := F)) c a b d (yD m c 2 (org 2 0 c)) (run m c 3) e g) Kt := by
  obtain ⟨h1, h2, h3, h4, h5, h6, -⟩ := hv
  rw [k0_part13_eq_skeleton]; unfold k0_part13_skel
  simp only [Prog.lift, Prog.bind_op, Prog.bind_ret, Prog.pure_eq_ret]
  refine step_peek 2 h1 fun _ => ?_
  refine step_st2 2 h2 (off2_344_eq c) rfl ?_
  refine step_copy 4 h3 ?_
  refine step_waitC 3 h4 ?_
  refine step_ldS 3 (by decide) h5 ?_
  refine step_ldW h6 ?_
  exact part_end (hK _ _)

theorem part14 (a b d : BitVec 32) {Kt} (hv : valid P14 st) (hK : ∀ w, St m K c (exec P14 st) ⊢ Kt w) :
    St m K c st ⊢ WP c (onArgs (k0_part14 (F := F)) c a (yD m c 0 (org 0 1 c)) b d) Kt := by
  obtain ⟨h1, h2, h3, h4, h5, -⟩ := hv
  rw [k0_part14_eq_skeleton]; unfold k0_part14_skel
  simp only [Prog.lift, Prog.bind_op, Prog.bind_ret, Prog.pure_eq_ret]
  refine step_peek 3 h1 fun _ => ?_
  refine step_st0 3 h2 (off3_eq c) rfl ?_
  refine step_copy 5 h3 ?_
  refine step_waitS 0 1 h4 ?_
  refine step_waitR 0 1 h5 ?_
  exact part_end (hK _)

theorem part15 (a b : BitVec 32) {Kt} (hv : valid P15 st) (hK : ∀ w, St m K c (exec P15 st) ⊢ Kt w) :
    St m K c st ⊢ WP c (onArgs (k0_part15 (F := F)) a b) Kt := by
  obtain ⟨h1, h2, h3, -⟩ := hv
  rw [k0_part15_eq_skeleton]; unfold k0_part15_skel
  simp only [Prog.lift, Prog.bind_op, Prog.bind_ret, Prog.pure_eq_ret]
  refine step_waitS 1 1 h1 ?_
  refine step_waitR 1 1 h2 ?_
  refine step_waitS 2 1 h3 ?_
  exact part_end (hK _)

theorem part16 (a b d : BitVec 32) {Kt} (hv : valid P16 st) (hK : ∀ w, St m K c (exec P16 st) ⊢ Kt w) :
    St m K c st ⊢ WP c (onArgs (k0_part16 (F := F)) c a b d) Kt := by
  obtain ⟨h1, h2, h3, -⟩ := hv
  rw [k0_part16_eq_skeleton]; unfold k0_part16_skel
  simp only [Prog.lift, Prog.bind_op, Prog.bind_ret, Prog.pure_eq_ret]
  refine step_waitR 2 1 h1 ?_
  refine step_send 0 5 h2 (dev19_eq c) ?_
  refine step_send 1 5 h3 (dev20_eq c) ?_
  exact part_end (hK _)

/-! ## Blocks 4 to 6 -/

theorem part17 (a b d e : BitVec 32) {Kt} (hv : valid P17 st)
    (hK : St m K c (exec P17 st) ⊢ Kt ⟨yD m c 1 (org 1 1 c), run m c 5⟩) :
    St m K c st ⊢ WP c (onArgs (k0_part17 (F := F)) c a b d (run m c 4) e) Kt := by
  obtain ⟨h1, h2, h3, h4, -⟩ := hv
  rw [k0_part17_eq_skeleton]; unfold k0_part17_skel
  simp only [Prog.lift, Prog.bind_op, Prog.bind_ret, Prog.pure_eq_ret]
  refine step_send 2 5 h1 (dev21_eq c) ?_
  refine step_waitC 4 h2 ?_
  refine step_ldS 4 (by decide) h3 ?_
  refine step_ldW h4 ?_
  exact part_end hK

theorem part18 (a b d : BitVec 32) {Kt} (hv : valid P18 st)
    (hK : ∀ w w', St m K c (exec P18 st) ⊢ Kt ⟨yD m c 2 (org 2 1 c), run m c 6, w, w'⟩) :
    St m K c st ⊢ WP c (onArgs (k0_part18 (F := F)) c a b d (yD m c 1 (org 1 1 c)) (run m c 5)) Kt := by
  obtain ⟨h1, h2, h3, h4, h5, h6, -⟩ := hv
  rw [k0_part18_eq_skeleton]; unfold k0_part18_skel
  simp only [Prog.lift, Prog.bind_op, Prog.bind_ret, Prog.pure_eq_ret]
  refine step_peek 4 h1 fun _ => ?_
  refine step_st1 4 h2 (off4_176_eq c) rfl ?_
  refine step_copy 6 h3 ?_
  refine step_waitC 5 h4 ?_
  refine step_ldS 5 (by decide) h5 ?_
  refine step_ldW h6 ?_
  exact part_end (hK _ _)

theorem part19 (a b d e g : BitVec 32) {Kt} (hv : valid P19 st)
    (hK : ∀ w w', St m K c (exec P19 st) ⊢ Kt ⟨yD m c 0 (org 0 2 c), run m c 7, w, w'⟩) :
    St m K c st ⊢ WP c (onArgs (k0_part19 (F := F)) c a b d (yD m c 2 (org 2 1 c)) (run m c 6) e g) Kt := by
  obtain ⟨h1, h2, h3, h4, h5, h6, -⟩ := hv
  rw [k0_part19_eq_skeleton]; unfold k0_part19_skel
  simp only [Prog.lift, Prog.bind_op, Prog.bind_ret, Prog.pure_eq_ret]
  refine step_peek 5 h1 fun _ => ?_
  refine step_st2 5 h2 (off5_344_eq c) rfl ?_
  refine step_copy 7 h3 ?_
  refine step_waitC 6 h4 ?_
  refine step_ldS 6 (by decide) h5 ?_
  refine step_ldW h6 ?_
  exact part_end (hK _ _)

theorem part20 (a b d : BitVec 32) {Kt} (hv : valid P20 st) (hK : ∀ w, St m K c (exec P20 st) ⊢ Kt w) :
    St m K c st ⊢ WP c (onArgs (k0_part20 (F := F)) c a (yD m c 0 (org 0 2 c)) b d) Kt := by
  obtain ⟨h1, h2, h3, h4, h5, -⟩ := hv
  rw [k0_part20_eq_skeleton]; unfold k0_part20_skel
  simp only [Prog.lift, Prog.bind_op, Prog.bind_ret, Prog.pure_eq_ret]
  refine step_peek 6 h1 fun _ => ?_
  refine step_st0 6 h2 (off6_eq c) rfl ?_
  refine step_copy 8 h3 ?_
  refine step_waitS 0 2 h4 ?_
  refine step_waitR 0 2 h5 ?_
  exact part_end (hK _)

end Cert.Cube

end
-- ==== Proof.Parts3.lean ====
/-
The parts of the kernel's text that compute the eighth to the twelfth block of the result, and send the last of the
transfers between neighbours.
-/
module

public import proofs.«01_k».proof.Proof.Parts1

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {m : (ℓ : Loc nD τ sig) → Buf (Elt F) ℓ} {K : Dev nD × Kd → ℕ} {c : Dev nD} {st : State}

theorem part21 (a : BitVec 32) {Kt} (hv : valid P21 st) (hK : ∀ w, St m K c (exec P21 st) ⊢ Kt w) :
    St m K c st ⊢ WP c (onArgs (k0_part21 (F := F)) a) Kt := by
  obtain ⟨h1, h2, h3, -⟩ := hv
  rw [k0_part21_eq_skeleton]; unfold k0_part21_skel
  simp only [Prog.lift, Prog.bind_op, Prog.bind_ret, Prog.pure_eq_ret]
  refine step_waitS 1 2 h1 ?_
  refine step_waitR 1 2 h2 ?_
  refine step_waitS 2 2 h3 ?_
  exact part_end (hK _)

theorem part22 (a b : BitVec 32) {Kt} (hv : valid P22 st) (hK : ∀ w, St m K c (exec P22 st) ⊢ Kt w) :
    St m K c st ⊢ WP c (onArgs (k0_part22 (F := F)) c a b) Kt := by
  obtain ⟨h1, h2, -⟩ := hv
  rw [k0_part22_eq_skeleton]; unfold k0_part22_skel
  simp only [Prog.lift, Prog.bind_op, Prog.bind_ret, Prog.pure_eq_ret]
  refine step_waitR 2 2 h1 ?_
  refine step_send 0 6 h2 (dev22_eq c) ?_
  exact part_end (hK _)

/-! ## Blocks 7 to 9 -/

theorem part23 (a b : BitVec 32) {Kt} (hv : valid P23 st)
    (hK : ∀ w, St m K c (exec P23 st) ⊢ Kt ⟨yD m c 1 (org 1 2 c), run m c 8, w⟩) :
    St m K c st ⊢ WP c (onArgs (k0_part23 (F := F)) c a b (run m c 7)) Kt := by
  obtain ⟨h1, h2, h3, h4, h5, -⟩ := hv
  rw [k0_part23_eq_skeleton]; unfold k0_part23_skel
  simp only [Prog.lift, Prog.bind_op, Prog.bind_ret, Prog.pure_eq_ret]
  refine step_send 1 6 h1 (dev23_eq c) ?_
  refine step_send 2 6 h2 (dev24_eq c) ?_
  refine step_waitC 7 h3 ?_
  refine step_ldS 7 (by decide) h4 ?_
  refine step_ldW h5 ?_
  exact part_end (hK _)

theorem part24 (a b d : BitVec 32) {Kt} (hv : valid P24 st)
    (hK : St m K c (exec P24 st) ⊢ Kt ⟨yD m c 2 (org 2 2 c), run m c 9⟩) :
    St m K c st ⊢ WP c (onArgs (k0_part24 (F := F)) c a b (yD m c 1 (org 1 2 c)) (run m c 8) d) Kt := by
  obtain ⟨h1, h2, h3, h4, h5, h6, -⟩ := hv
  rw [k0_part24_eq_skeleton]; unfold k0_part24_skel
  simp only [Prog.lift, Prog.bind_op, Prog.bind_ret, Prog.pure_eq_ret]
  refine step_peek 7 h1 fun _ => ?_
  refine step_st1 7 h2 (off5_176_eq c) rfl ?_
  refine step_copy 9 h3 ?_
  refine step_waitC 8 h4 ?_
  refine step_ldS 8 (by decide) h5 ?_
  refine step_ldW h6 ?_
  exact part_end hK

theorem part25 (a b d : BitVec 32) {Kt} (hv : valid P25 st)
    (hK : St m K c (exec P25 st) ⊢ Kt ⟨yD m c 0 (org 0 3 c), k0_pay21 (up0 (XP m 0 (org 0 3 c))) (wst m c)⟩) :
    St m K c st ⊢ WP c (onArgs (k0_part25 (F := F)) c a b d (yD m c 2 (org 2 2 c))) Kt := by
  obtain ⟨h1, h2, h3, h4, h5, h6, -⟩ := hv
  rw [k0_part25_eq_skeleton]; unfold k0_part25_skel
  simp only [Prog.lift, Prog.bind_op, Prog.bind_ret, Prog.pure_eq_ret]
  refine step_peek 8 h1 fun _ => ?_
  refine step_st2 8 h2 (off7_344_eq c) rfl ?_
  refine step_copy 10 h3 ?_
  refine step_waitC 9 h4 ?_
  refine step_ldS 9 (by decide) h5 ?_
  refine step_ldW h6 ?_
  exact part_end hK

theorem part26 (a b d e : BitVec 32) {Kt} (hv : valid P26 st) (hK : St m K c (exec P26 st) ⊢ Kt (run m c 10)) :
    St m K c st ⊢ WP c (onArgs (k0_part26 (F := F)) c a b d e (run m c 9) (yD m c 0 (org 0 3 c)) (k0_pay21 (up0 (XP m 0 (org 0 3 c))) (wst m c))) Kt := by
  obtain ⟨h1, h2, h3, h4, -⟩ := hv
  rw [k0_part26_eq_skeleton]; unfold k0_part26_skel
  simp only [Prog.lift, Prog.bind_op, Prog.bind_ret, Prog.pure_eq_ret]
  refine step_peek 9 h1 fun _ => ?_
  refine step_st0 9 h2 (off8_eq c) rfl ?_
  refine step_copy 11 h3 ?_
  refine step_waitS 0 3 h4 ?_
  exact part_end hK

theorem part27 (a : BitVec 32) {Kt} (hv : valid P27 st) (hK : ∀ w, St m K c (exec P27 st) ⊢ Kt w) :
    St m K c st ⊢ WP c (onArgs (k0_part27 (F := F)) a) Kt := by
  obtain ⟨h1, h2, h3, -⟩ := hv
  rw [k0_part27_eq_skeleton]; unfold k0_part27_skel
  simp only [Prog.lift, Prog.bind_op, Prog.bind_ret, Prog.pure_eq_ret]
  refine step_waitR 0 3 h1 ?_
  refine step_waitS 1 3 h2 ?_
  refine step_waitR 1 3 h3 ?_
  exact part_end (hK _)

/-! ## Blocks 10 and 11 -/

theorem part28 (a b d : BitVec 32) {Kt} (hv : valid P28 st)
    (hK : ∀ w w', St m K c (exec P28 st) ⊢ Kt ⟨yD m c 1 (org 1 3 c), run m c 11, w, w'⟩) :
    St m K c st ⊢ WP c (onArgs (k0_part28 (F := F)) a b d (run m c 10)) Kt := by
  obtain ⟨h1, h2, h3, h4, h5, -⟩ := hv
  rw [k0_part28_eq_skeleton]; unfold k0_part28_skel
  simp only [Prog.lift, Prog.bind_op, Prog.bind_ret, Prog.pure_eq_ret]
  refine step_waitS 2 3 h1 ?_
  refine step_waitR 2 3 h2 ?_
  refine step_waitC 10 h3 ?_
  refine step_ldS 10 (by decide) h4 ?_
  refine step_ldW h5 ?_
  exact part_end (hK _ _)

theorem part29 (a b d e g : BitVec 32) {Kt} (hv : valid P29 st) (hK : St m K c (exec P29 st) ⊢ Kt (run m c 12)) :
    St m K c st ⊢ WP c (onArgs (k0_part29 (F := F)) c a b d (yD m c 1 (org 1 3 c)) (run m c 11) e g) Kt := by
  obtain ⟨h1, h2, h3, h4, h5, h6, h7, -⟩ := hv
  rw [k0_part29_eq_skeleton]; unfold k0_part29_skel
  simp only [Prog.lift, Prog.bind_op, Prog.bind_ret, Prog.pure_eq_ret]
  refine step_peek 10 h1 fun _ => ?_
  refine step_st1 10 h2 (off9_176_eq c) rfl ?_
  refine step_waitC 11 h3 ?_
  refine step_ldS 11 (by decide) h4 ?_
  refine step_ldW h5 ?_
  refine step_peek 11 h6 fun _ => ?_
  refine step_st2 11 h7 (off10_344_eq c) rfl ?_
  exact part_end hK

end Cert.Cube

end
-- ==== Proof.Parts4.lean ====
/-
The parts of the kernel's text that wait for the pieces landing in fast memory and compute the last twelve blocks of the
result from them.
-/
module

public import proofs.«01_k».proof.Proof.Parts1

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {m : (ℓ : Loc nD τ sig) → Buf (Elt F) ℓ} {K : Dev nD × Kd → ℕ} {c : Dev nD} {st : State}

/-! ## Blocks 12 to 14 -/

theorem part30 (a b d : BitVec 32) {Kt} (hv : valid P30 st)
    (hK : ∀ w, St m K c (exec P30 st) ⊢ Kt ⟨yD m c 1 (org 1 4 c), run m c 14, w⟩) :
    St m K c st ⊢ WP c (onArgs (k0_part30 (F := F)) c a b d (run m c 12)) Kt := by
  obtain ⟨h1, h2, h3, h4, h5, h6, -⟩ := hv
  rw [k0_part30_eq_skeleton]; unfold k0_part30_skel
  simp only [Prog.lift, Prog.bind_op, Prog.bind_ret, Prog.pure_eq_ret]
  refine step_ldL 0 0 (by decide) h1 ?_
  refine step_ldW h2 ?_
  refine step_peek 12 h3 fun _ => ?_
  refine step_st0 12 h4 (off11_eq c) rfl ?_
  refine step_ldL 1 0 (by decide) h5 ?_
  refine step_ldW h6 ?_
  exact part_end (hK _)

theorem part31 (a b d e : BitVec 32) {Kt} (hv : valid P31 st) (hK : St m K c (exec P31 st) ⊢ Kt (run m c 15)) :
    St m K c st ⊢ WP c (onArgs (k0_part31 (F := F)) c a b d (yD m c 1 (org 1 4 c)) (run m c 14) e) Kt := by
  obtain ⟨h1, h2, h3, h4, h5, h6, h7, -⟩ := hv
  rw [k0_part31_eq_skeleton]; unfold k0_part31_skel
  simp only [Prog.lift, Prog.bind_op, Prog.bind_ret, Prog.pure_eq_ret]
  refine step_peek 13 h1 fun _ => ?_
  refine step_st1 13 h2 (off7_176_eq c) rfl ?_
  refine step_ldL 2 0 (by decide) h3 ?_
  refine step_ldW h4 ?_
  refine step_peek 14 h5 fun _ => ?_
  refine step_st2 14 h6 (off4_344_eq c) rfl ?_
  refine step_waitS 0 4 h7 ?_
  exact part_end hK

theorem part32 (a b : BitVec 32) {Kt} (hv : valid P32 st) (hK : ∀ w, St m K c (exec P32 st) ⊢ Kt w) :
    St m K c st ⊢ WP c (onArgs (k0_part32 (F := F)) a b) Kt := by
  obtain ⟨h1, h2, h3, -⟩ := hv
  rw [k0_part32_eq_skeleton]; unfold k0_part32_skel
  simp only [Prog.lift, Prog.bind_op, Prog.bind_ret, Prog.pure_eq_ret]
  refine step_waitR 0 4 h1 ?_
  refine step_waitS 1 4 h2 ?_
  refine step_waitR 1 4 h3 ?_
  exact part_end (hK _)

/-! ## Blocks 15 to 17 -/

theorem part33 (a b d : BitVec 32) {Kt} (hv : valid P33 st)
    (hK : ∀ w w', St m K c (exec P33 st) ⊢ Kt ⟨yD m c 0 (org 0 5 c), run m c 16, w, w'⟩) :
    St m K c st ⊢ WP c (onArgs (k0_part33 (F := F)) a b d (run m c 15)) Kt := by
  obtain ⟨h1, h2, h3, h4, -⟩ := hv
  rw [k0_part33_eq_skeleton]; unfold k0_part33_skel
  simp only [Prog.lift, Prog.bind_op, Prog.bind_ret, Prog.pure_eq_ret]
  refine step_waitS 2 4 h1 ?_
  refine step_waitR 2 4 h2 ?_
  refine step_ldL 0 1 (by decide) h3 ?_
  refine step_ldW h4 ?_
  exact part_end (hK _ _)

theorem part34 (a b d e g : BitVec 32) {Kt} (hv : valid P34 st)
    (hK : St m K c (exec P34 st) ⊢ Kt ⟨run m c 17, k0_pay36 (up1 (XP m 2 (org 2 5 c))), k0_pay37 (wst m c)⟩) :
    St m K c st ⊢ WP c (onArgs (k0_part34 (F := F)) c a b d (yD m c 0 (org 0 5 c)) (run m c 16) e g) Kt := by
  obtain ⟨h1, h2, h3, h4, h5, h6, h7, h8, -⟩ := hv
  rw [k0_part34_eq_skeleton]; unfold k0_part34_skel
  simp only [Prog.lift, Prog.bind_op, Prog.bind_ret, Prog.pure_eq_ret]
  refine step_peek 15 h1 fun _ => ?_
  refine step_st0 15 h2 (off12_eq c) rfl ?_
  refine step_ldL 1 1 (by decide) h3 ?_
  refine step_ldW h4 ?_
  refine step_peek 16 h5 fun _ => ?_
  refine step_st1 16 h6 (off13_176_eq c) rfl ?_
  refine step_ldL 2 1 (by decide) h7 ?_
  refine step_ldW h8 ?_
  exact part_end hK

theorem part35 (a b d e : BitVec 32) {Kt} (hv : valid P35 st) (hK : St m K c (exec P35 st) ⊢ Kt (run m c 18)) :
    St m K c st ⊢ WP c (onArgs (k0_part35 (F := F)) c a b d e (run m c 17) (k0_pay36 (up1 (XP m 2 (org 2 5 c)))) (k0_pay37 (wst m c))) Kt := by
  obtain ⟨h1, h2, h3, -⟩ := hv
  rw [k0_part35_eq_skeleton]; unfold k0_part35_skel
  simp only [Prog.lift, Prog.bind_op, Prog.bind_ret, Prog.pure_eq_ret]
  refine step_peek 17 h1 fun _ => ?_
  refine step_st2 17 h2 (off9_344_eq c) rfl ?_
  refine step_waitS 0 5 h3 ?_
  exact part_end hK

theorem part36 (a : BitVec 32) {Kt} (hv : valid P36 st) (hK : ∀ w, St m K c (exec P36 st) ⊢ Kt w) :
    St m K c st ⊢ WP c (onArgs (k0_part36 (F := F)) a) Kt := by
  obtain ⟨h1, h2, h3, -⟩ := hv
  rw [k0_part36_eq_skeleton]; unfold k0_part36_skel
  simp only [Prog.lift, Prog.bind_op, Prog.bind_ret, Prog.pure_eq_ret]
  refine step_waitR 0 5 h1 ?_
  refine step_waitS 1 5 h2 ?_
  refine step_waitR 1 5 h3 ?_
  exact part_end (hK _)

/-! ## Blocks 18 to 20 -/

theorem part37 (a b d e : BitVec 32) {Kt} (hv : valid P37 st) (hK : St m K c (exec P37 st) ⊢ Kt (run m c 19)) :
    St m K c st ⊢ WP c (onArgs (k0_part37 (F := F)) c a b d e (run m c 18)) Kt := by
  obtain ⟨h1, h2, h3, h4, h5, h6, -⟩ := hv
  rw [k0_part37_eq_skeleton]; unfold k0_part37_skel
  simp only [Prog.lift, Prog.bind_op, Prog.bind_ret, Prog.pure_eq_ret]
  refine step_waitS 2 5 h1 ?_
  refine step_waitR 2 5 h2 ?_
  refine step_ldL 0 2 (by decide) h3 ?_
  refine step_ldW h4 ?_
  refine step_peek 18 h5 fun _ => ?_
  refine step_st0 18 h6 (off14_eq c) rfl ?_
  exact part_end hK

theorem part38 (a b d : BitVec 32) {Kt} (hv : valid P38 st)
    (hK : ∀ w x y z, St m K c (exec P38 st) ⊢ Kt ⟨yD m c 2 (org 2 6 c), run m c 21, w, x, y, z⟩) :
    St m K c st ⊢ WP c (onArgs (k0_part38 (F := F)) c a b d (run m c 19)) Kt := by
  obtain ⟨h1, h2, h3, h4, h5, h6, -⟩ := hv
  rw [k0_part38_eq_skeleton]; unfold k0_part38_skel
  simp only [Prog.lift, Prog.bind_op, Prog.bind_ret, Prog.pure_eq_ret]
  refine step_ldL 1 2 (by decide) h1 ?_
  refine step_ldW h2 ?_
  refine step_peek 19 h3 fun _ => ?_
  refine step_st1 19 h4 (off10_176_eq c) rfl ?_
  refine step_ldL 2 2 (by decide) h5 ?_
  refine step_ldW h6 ?_
  exact part_end (hK _ _ _ _)

theorem part39 (a b d e g : BitVec 32) {Kt} (hv : valid P39 st) (hK : ∀ w, St m K c (exec P39 st) ⊢ Kt w) :
    St m K c st ⊢ WP c (onArgs (k0_part39 (F := F)) c a (yD m c 2 (org 2 6 c)) b d e g) Kt := by
  obtain ⟨h1, h2, h3, h4, -⟩ := hv
  rw [k0_part39_eq_skeleton]; unfold k0_part39_skel
  simp only [Prog.lift, Prog.bind_op, Prog.bind_ret, Prog.pure_eq_ret]
  refine step_peek 20 h1 fun _ => ?_
  refine step_st2 20 h2 (off13_344_eq c) rfl ?_
  refine step_waitS 0 6 h3 ?_
  refine step_waitR 0 6 h4 ?_
  exact part_end (hK _)

theorem part40 (a b : BitVec 32) {Kt} (hv : valid P40 st) (hK : ∀ w, St m K c (exec P40 st) ⊢ Kt w) :
    St m K c st ⊢ WP c (onArgs (k0_part40 (F := F)) a b) Kt := by
  obtain ⟨h1, h2, h3, -⟩ := hv
  rw [k0_part40_eq_skeleton]; unfold k0_part40_skel
  simp only [Prog.lift, Prog.bind_op, Prog.bind_ret, Prog.pure_eq_ret]
  refine step_waitS 1 6 h1 ?_
  refine step_waitR 1 6 h2 ?_
  refine step_waitS 2 6 h3 ?_
  exact part_end (hK _)

/-! ## The last blocks -/

theorem part41 (a b d : BitVec 32) {Kt} (hv : valid P41 st)
    (hK : St m K c (exec P41 st) ⊢ Kt ⟨run m c 22, yD m c 1 (org 1 7 c), k0_pay48 (up1 (XP m 1 (org 1 7 c))) (wst m c)⟩) :
    St m K c st ⊢ WP c (onArgs (k0_part41 (F := F)) c a b d (run m c 21)) Kt := by
  obtain ⟨h1, h2, h3, h4, h5, h6, h7, -⟩ := hv
  rw [k0_part41_eq_skeleton]; unfold k0_part41_skel
  simp only [Prog.lift, Prog.bind_op, Prog.bind_ret, Prog.pure_eq_ret]
  refine step_waitR 2 6 h1 ?_
  refine step_ldL 0 3 (by decide) h2 ?_
  refine step_ldW h3 ?_
  refine step_peek 21 h4 fun _ => ?_
  refine step_st0 21 h5 (off15_eq c) rfl ?_
  refine step_ldL 1 3 (by decide) h6 ?_
  refine step_ldW h7 ?_
  exact part_end hK

theorem part42 (a b d : BitVec 32) {Kt} (hv : valid P42 st)
    (hK : St m K c (exec P42 st) ⊢ Kt ⟨yD m c 2 (org 2 7 c), run m c 24⟩) :
    St m K c st ⊢ WP c (onArgs (k0_part42 (F := F)) c a b d (run m c 22) (yD m c 1 (org 1 7 c)) (k0_pay48 (up1 (XP m 1 (org 1 7 c))) (wst m c))) Kt := by
  obtain ⟨h1, h2, h3, h4, -⟩ := hv
  rw [k0_part42_eq_skeleton]; unfold k0_part42_skel
  simp only [Prog.lift, Prog.bind_op, Prog.bind_ret, Prog.pure_eq_ret]
  refine step_peek 22 h1 fun _ => ?_
  refine step_st1 22 h2 (off16_176_eq c) rfl ?_
  refine step_ldL 2 3 (by decide) h3 ?_
  refine step_ldW h4 ?_
  exact part_end hK

end Cert.Cube

end
-- ==== Proof.Parts5.lean ====
/-
The parts of the kernel's text in which a device sends its row of maxima to the others, waits for theirs, and takes the
maximum of all.
-/
module

public import proofs.«01_k».proof.Proof.Parts1

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {m : (ℓ : Loc nD τ sig) → Buf (Elt F) ℓ} {K : Dev nD × Kd → ℕ} {c : Dev nD} {st : State}

/-! ## Sending the row of maxima -/

theorem part43 (a : BitVec 32) {Kt} (hv : valid P43 st) (hK : ∀ w, St m K c (exec P43 st) ⊢ Kt w) :
    St m K c st ⊢ WP c (onArgs (k0_part43 (F := F)) c a (yD m c 2 (org 2 7 c)) (run m c 24)) Kt := by
  obtain ⟨h1, h2, h3, h4, h5, h6, h7, -⟩ := hv
  rw [k0_part43_eq_skeleton]; unfold k0_part43_skel
  simp only [Prog.lift, Prog.bind_op, Prog.bind_ret, Prog.pure_eq_ret]
  refine step_peek 23 h1 fun _ => ?_
  refine step_st2 23 h2 (off16_344_eq c) rfl ?_
  refine step_gather h3 ?_
  refine step_rowLd h4 (off17_eq c) fun _ => ?_
  refine step_rowSt h5 (off17_eq c) rfl ?_
  refine step_asend 1 (by decide) h6 (dev25_eq c) (sem_asend _ (off18_eq c 0)) (sem_arecv _ (off19_eq c)) (row_eq _ (off20_eq c)) (row_eq _ (off20_eq c)) ?_
  refine step_asend 2 (by decide) h7 (dev26_eq c) (sem_asend _ (off18_eq c 1)) (sem_arecv _ (off19_eq c)) (row_eq _ (off20_eq c)) (row_eq _ (off20_eq c)) ?_
  exact part_end (hK _)

theorem part44 (a : BitVec 32) {Kt} (hv : valid P44 st) (hK : ∀ w, St m K c (exec P44 st) ⊢ Kt w) :
    St m K c st ⊢ WP c (onArgs (k0_part44 (F := F)) c a) Kt := by
  obtain ⟨h1, h2, h3, h4, -⟩ := hv
  rw [k0_part44_eq_skeleton]; unfold k0_part44_skel
  simp only [Prog.lift, Prog.bind_op, Prog.bind_ret, Prog.pure_eq_ret]
  refine step_asend 3 (by decide) h1 (dev27_eq c) (sem_asend _ (off18_eq c 2)) (sem_arecv _ (off19_eq c)) (row_eq _ (off20_eq c)) (row_eq _ (off20_eq c)) ?_
  refine step_asend 4 (by decide) h2 (dev28_eq c) (sem_asend _ (off18_eq c 3)) (sem_arecv _ (off19_eq c)) (row_eq _ (off20_eq c)) (row_eq _ (off20_eq c)) ?_
  refine step_asend 5 (by decide) h3 (dev29_eq c) (sem_asend _ (off18_eq c 4)) (sem_arecv _ (off19_eq c)) (row_eq _ (off20_eq c)) (row_eq _ (off20_eq c)) ?_
  refine step_asend 6 (by decide) h4 (dev30_eq c) (sem_asend _ (off18_eq c 5)) (sem_arecv _ (off19_eq c)) (row_eq _ (off20_eq c)) (row_eq _ (off20_eq c)) ?_
  exact part_end (hK _)

/-! ## Waiting for the others' rows -/

theorem part45 (a : BitVec 32) {Kt} (hv : valid P45 st) (hK : ∀ w, St m K c (exec P45 st) ⊢ Kt w) :
    St m K c st ⊢ WP c (onArgs (k0_part45 (F := F)) c a) Kt := by
  obtain ⟨h1, h2, h3, h4, h5, h6, h7, -⟩ := hv
  rw [k0_part45_eq_skeleton]; unfold k0_part45_skel
  simp only [Prog.lift, Prog.bind_op, Prog.bind_ret, Prog.pure_eq_ret]
  refine step_asend 7 (by decide) h1 (dev31_eq c) (sem_asend _ (off18_eq c 6)) (sem_arecv _ (off19_eq c)) (row_eq _ (off20_eq c)) (row_eq _ (off20_eq c)) ?_
  refine step_waitAS 1 (by decide) h2 (sem_asend _ (off18_eq c 0)) ?_
  refine step_waitAS 2 (by decide) h3 (sem_asend _ (off18_eq c 1)) ?_
  refine step_waitAS 3 (by decide) h4 (sem_asend _ (off18_eq c 2)) ?_
  refine step_waitAS 4 (by decide) h5 (sem_asend _ (off18_eq c 3)) ?_
  refine step_waitAS 5 (by decide) h6 (sem_asend _ (off18_eq c 4)) ?_
  refine step_waitAS 6 (by decide) h7 (sem_asend _ (off18_eq c 5)) ?_
  exact part_end (hK _)

theorem part46 (a : BitVec 32) {Kt} (hv : valid P46 st) (hK : ∀ w, St m K c (exec P46 st) ⊢ Kt w) :
    St m K c st ⊢ WP c (onArgs (k0_part46 (F := F)) c a) Kt := by
  obtain ⟨h1, h2, h3, h4, -⟩ := hv
  rw [k0_part46_eq_skeleton]; unfold k0_part46_skel
  simp only [Prog.lift, Prog.bind_op, Prog.bind_ret, Prog.pure_eq_ret]
  refine step_waitAS 7 (by decide) h1 (sem_asend _ (off18_eq c 6)) ?_
  refine step_waitAR 1 (by decide) h2 (sem_arecv _ (off18_eq c 0)) ?_
  refine step_waitAR 2 (by decide) h3 (sem_arecv _ (off18_eq c 1)) ?_
  refine step_waitAR 3 (by decide) h4 (sem_arecv _ (off18_eq c 2)) ?_
  exact part_end (hK _)

theorem part47 (a : BitVec 32) {Kt} (hv : valid P47 st) (hK : St m K c (exec P47 st) ⊢ Kt (top m)) :
    St m K c st ⊢ WP c (onArgs (k0_part47 (F := F)) c a) Kt := by
  obtain ⟨h1, h2, h3, h4, h5, h6, -⟩ := hv
  rw [k0_part47_eq_skeleton]; unfold k0_part47_skel
  simp only [Prog.lift, Prog.bind_op, Prog.bind_ret, Prog.pure_eq_ret]
  refine step_waitAR 4 (by decide) h1 (sem_arecv _ (off18_eq c 3)) ?_
  refine step_waitAR 5 (by decide) h2 (sem_arecv _ (off18_eq c 4)) ?_
  refine step_waitAR 6 (by decide) h3 (sem_arecv _ (off18_eq c 5)) ?_
  refine step_waitAR 7 (by decide) h4 (sem_arecv _ (off18_eq c 6)) ?_
  refine step_joinR h5 ?_
  refine step_ldR h6 ?_
  exact part_end hK

end Cert.Cube

end
-- ==== Proof.Run.lean ====
/-
The whole run of a device: the parts of the kernel in order, from what it holds at the start to what it holds at the end.
-/
module

public import proofs.«01_k».proof.Proof.Parts2
public import proofs.«01_k».proof.Proof.Parts3
public import proofs.«01_k».proof.Proof.Parts4
public import proofs.«01_k».proof.Proof.Parts5

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {m : (ℓ : Loc nD τ sig) → Buf (Elt F) ℓ} {K : Dev nD × Kd → ℕ} {c : Dev nD} {st : State}

theorem WP_bind {α β : Type} {p : Prog (TpuEff nD τ sig (Elt F) Λ₀ .tc) α} {k : α → Prog (TpuEff nD τ sig (Elt F) Λ₀ .tc) β}
    {Q : β → sProp (MT nD τ sig Unit (Elt F) ℕ UU ℕ)} (h : St m K c st ⊢ WP c p fun a => WP c (k a) Q) : St m K c st ⊢ WP c (p >>= k) Q := by
  rw [WP, wp_bind]; exact h

theorem exec_append (l l' : List Step) (st : State) : exec (l ++ l') st = exec l' (exec l st) := by
  induction l generalizing st with
  | nil => rfl
  | cons s l ih => exact ih _

theorem part1 {Kt} (hK : ∀ w, St m K c st ⊢ Kt ⟨c, w⟩) : St m K c st ⊢ WP c (onArgs (k0_part1 (F := F))) Kt := by
  rw [k0_part1_eq_skeleton]; unfold k0_part1_skel
  simp only [Prog.lift, Prog.bind_op, Prog.bind_ret, Prog.pure_eq_ret, WP, wp_deviceId]
  exact part_end (hK _)

/-- All parts in order. -/
theorem part48 {Kt} (hv : valid plan.flatten st)
    (hK : St m K c (exec plan.flatten st) ⊢ Kt ⟨k0_pay53 (top m), k0_pay54 (top m) (yAll m c), k0_pay55 (F := F)⟩) :
    St m K c st ⊢ WP c (onArgs (k0_part48 (F := F))) Kt := by
  simp only [plan, List.flatten_cons, List.flatten_nil, List.append_nil, valid_append, exec_append] at hv hK
  obtain ⟨h2, h3, h4, h5, h6, h7, h8, h9, h10, h11, h12, h13, h14, h15, h16, h17, h18, h19, h20, h21, h22, h23, h24, h25, h26, h27, h28, h29,
    h30, h31, h32, h33, h34, h35, h36, h37, h38, h39, h40, h41, h42, h43, h44, h45, h46, h47, h48⟩ := hv
  rw [k0_part48_eq_skeleton]; unfold k0_part48_skel
  refine WP_bind (part1 fun ⟨_, _, _, _⟩ => ?_)
  refine WP_bind (part2 _ _ _ h2 fun ⟨_, _, _, _⟩ => ?_)
  refine WP_bind (part3 _ _ h3 fun _ => ?_)
  refine WP_bind (part4 _ _ _ h4 fun _ => ?_)
  refine WP_bind (part5 _ _ _ h5 fun _ => ?_)
  refine WP_bind (part6 _ _ _ h6 fun _ => ?_)
  refine WP_bind (part7 _ _ h7 fun _ => ?_)
  refine WP_bind (part8 _ _ h8 fun _ => ?_)
  refine WP_bind (part9 _ _ h9 fun ⟨_, _⟩ => ?_)
  refine WP_bind (part10 _ _ _ h10 fun _ => ?_)
  refine WP_bind (part11 _ _ _ _ h11 fun _ _ => ?_)
  refine WP_bind (part12 _ _ _ _ _ h12 fun _ _ => ?_)
  refine WP_bind (part13 _ _ _ _ _ h13 fun _ _ => ?_)
  refine WP_bind (part14 _ _ _ h14 fun _ => ?_)
  refine WP_bind (part15 _ _ h15 fun _ => ?_)
  refine WP_bind (part16 _ _ _ h16 fun _ => ?_)
  refine WP_bind (part17 _ _ _ _ h17 ?_)
  refine WP_bind (part18 _ _ _ h18 fun _ _ => ?_)
  refine WP_bind (part19 _ _ _ _ _ h19 fun _ _ => ?_)
  refine WP_bind (part20 _ _ _ h20 fun _ => ?_)
  refine WP_bind (part21 _ h21 fun _ => ?_)
  refine WP_bind (part22 _ _ h22 fun _ => ?_)
  refine WP_bind (part23 _ _ h23 fun _ => ?_)
  refine WP_bind (part24 _ _ _ h24 ?_)
  refine WP_bind (part25 _ _ _ h25 ?_)
  refine WP_bind (part26 _ _ _ _ h26 ?_)
  refine WP_bind (part27 _ h27 fun _ => ?_)
  refine WP_bind (part28 _ _ _ h28 fun _ _ => ?_)
  refine WP_bind (part29 _ _ _ _ _ h29 ?_)
  refine WP_bind (part30 _ _ _ h30 fun _ => ?_)
  refine WP_bind (part31 _ _ _ _ h31 ?_)
  refine WP_bind (part32 _ _ h32 fun _ => ?_)
  refine WP_bind (part33 _ _ _ h33 fun _ _ => ?_)
  refine WP_bind (part34 _ _ _ _ _ h34 ?_)
  refine WP_bind (part35 _ _ _ _ h35 ?_)
  refine WP_bind (part36 _ h36 fun _ => ?_)
  refine WP_bind (part37 _ _ _ _ h37 ?_)
  refine WP_bind (part38 _ _ _ h38 fun _ _ _ _ => ?_)
  refine WP_bind (part39 _ _ _ _ _ h39 fun _ => ?_)
  refine WP_bind (part40 _ _ h40 fun _ => ?_)
  refine WP_bind (part41 _ _ _ h41 ?_)
  refine WP_bind (part42 _ _ _ h42 ?_)
  refine WP_bind (part43 _ h43 fun _ => ?_)
  refine WP_bind (part44 _ h44 fun _ => ?_)
  refine WP_bind (part45 _ h45 fun _ => ?_)
  refine WP_bind (part46 _ h46 fun _ => ?_)
  refine WP_bind (part47 _ h47 ?_)
  obtain ⟨i1, i2, i3, i4, -⟩ := h48
  simp only [Prog.lift, Prog.bind_op, Prog.bind_ret, Prog.pure_eq_ret]
  refine step_closeA i1 ?_
  refine step_closeS 0 i2 ?_
  refine step_closeS 1 i3 ?_
  refine step_ldO i4 ?_
  exact part_end hK

/-- What a device must have at the end beside the weights and the result. -/
def endRest : List Res :=
  [.rows, .slots 0, .slots 1, .cbar, .cstage 0, .cstage 1]
    ++ ((List.finRange 3 ×ˢ List.finRange 4).map fun p => .land p.1 p.2)
    ++ allJI.map (fun p => .csend p.1 p.2) ++ allJI.map (fun p => .crecv p.1 p.2)
    ++ (List.finRange 8).map (fun k => .casend k) ++ (List.finRange 8).map (fun k => .carecv k)

/-- What a device ends with. -/
def Ended (m : (ℓ : Loc nD τ sig) → Buf (Elt F) ℓ) (c : Dev nD) : sProp (MT nD τ sig Unit (Elt F) ℕ UU ℕ) :=
  iprop(Ow c 31 ∗ (((c : Thread nD τ).loc cc0_stg0_0) ↦{fullShare} (wst m c : Buf (Elt F) ((c : Thread nD τ).loc cc0_stg0_0)))
    ∗ (((c : Thread nD τ).loc cc0_stg1_0) ↦{fullShare} (outFin m c : Buf (Elt F) ((c : Thread nD τ).loc cc0_stg1_0))) ∗ bigSepL endRest (res m c))

theorem run_end (h1 : st.1 = 31) (h2 : (end₀.all fun x => decide (end₀.count x ≤ st.2.count x)) = true) :
    St m K c st ⊢ iprop(Ow c 31 ∗ (((c : Thread nD τ).loc cc0_stg0_0) ↦{fullShare} (wst m c : Buf (Elt F) ((c : Thread nD τ).loc cc0_stg0_0)))
      ∗ (∃ f : Buf (Elt F) ((c : Thread nD τ).loc cc0_stg1_0), (((c : Thread nD τ).loc cc0_stg1_0) ↦{fullShare} f)) ∗ bigSepL endRest (res m c)) := by
  unfold St
  rw [h1]
  iintro ⟨-, HO, Hl⟩
  ihave H := (take_out h2 (res m c)) $$ Hl
  icases H with ⟨H, -⟩
  ihave H := (show bigSepL end₀ (res m c) ⊢ iprop((((c : Thread nD τ).loc cc0_stg0_0) ↦{fullShare} (wst m c : Buf (Elt F) ((c : Thread nD τ).loc cc0_stg0_0)))
      ∗ (∃ f : Buf (Elt F) ((c : Thread nD τ).loc cc0_stg1_0), ⌜OutOk m c 24 f⌝ ∗ (((c : Thread nD τ).loc cc0_stg1_0) ↦{fullShare} f)) ∗ bigSepL endRest (res m c)) from by
    rw [show end₀ = Res.wts :: Res.out 24 :: endRest from rfl, bigSepL_cons', bigSepL_cons']; exact Entails.refl _) $$ H
  icases H with ⟨Hw, ⟨%f, -, Ho⟩, Hr⟩
  isplitl [HO]; · iexact HO
  isplitl [Hw]; · iexact Hw
  isplitl [Ho]; · iexists f; iexact Ho
  iexact Hr

/-- The kernel's body, from the start to the end. -/
theorem run_body : St m K c (0, start₀) ⊢ WP c (onArgs (cc0_body (F := F))) fun _ => Ended m c := by
  rw [cc0_body_eq_skeleton]; unfold cc0_body_skel
  refine WP_bind (part48 plan_valid ?_)
  simp only [Prog.lift, Prog.bind_op, Prog.bind_ret, Prog.pure_eq_ret]
  refine (run_end plan_paid plan_end).trans ?_
  unfold Ended
  iintro ⟨HO, Hw, ⟨%f, Hx⟩, Hr⟩
  iapply (wp_load 𝒱₀ (c : Thread nD τ) none Set.univ (cs := .vmem) (m := (Memref.whole cc0_stg1_0 : Memref sig .tc .vmem S4096x256 .f32)) (S := Finset.univ)
    (Finset.subset_univ _)) $$ [Hx]
  · iexact Hx
  iintro Hx
  iapply (wp_store 𝒱₀ (c : Thread nD τ) none Set.univ (cs := .vmem) (m := (Memref.whole cc0_stg1_0 : Memref sig .tc .vmem S4096x256 .f32)) (Mk := Finset.univ) (S := Finset.univ)
    (Finset.subset_univ _)) $$ [Hx]
  · iexact Hx
  iintro Hx
  rw [wp_ret, show ((Memref.whole cc0_stg1_0 : Memref sig .tc .vmem S4096x256 .f32).access
      (Rect.unit (s := S4096x256) ![0, 0] S4096x256.size inb_S4096x256_S4096x256_0_0)).write (Elt F) f
        (k0_pay1 (k0_pay53 (top m)) (k0_pay54 (top m) (yAll m c)) (k0_pay55 (F := F))) Finset.univ = outFin m c from
    Memref.write_access_unit_zero_univ (Elt F) cc0_stg1_0 (by funext a; fin_cases a <;> rfl) inb_S4096x256_S4096x256_0_0 f (outFin m c)]
  imodintro
  isplitl [HO]; · iexact HO
  isplitl [Hw]; · iexact Hw
  isplitl [Hx]
  · iexact Hx
  iexact Hr

end Cert.Cube

end
-- ==== Proof.Memory.lean ====
/-
The buffers of a device, cut into the pieces it starts with and joined again from those it ends with.
-/
module

public import proofs.«01_k».proof.Proof.Run
public import proofs.«01_k».proof.Proof.Rows

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots of a buffer -/

/-- A buffer of `n` slots of `a` rows. -/
abbrev box (n a : ℕ) : Shape := ⟨3, ![n, a, 4096]⟩
theorem inbG (n a : ℕ) (k : Fin n) (x : Fin 3) :
    (![k.val, 0, 0] : Fin 3 → Nat) x + (box 1 a).size x ≤ (box n a).size x := by
  fin_cases x
  · exact k.isLt
  · exact le_of_eq (Nat.zero_add _)
  · exact le_refl _
/-- Slot `k`. -/
def slotG (n a : ℕ) (k : Fin n) : Finset (box n a).Idx := (Rect.unit (s := box n a) ![k.val, 0, 0] (box 1 a).size (inbG n a k)).set
theorem slot_apart (n a : ℕ) (k k' : Fin n) (h : k ≠ k') : Disjoint (slotG n a k) (slotG n a k') := by
  refine Rect.unit_disjoint 0 ?_
  have : k.val ≠ k'.val := fun e => h (Fin.ext e)
  show k.val + 1 ≤ k'.val ∨ k'.val + 1 ≤ k.val
  omega
theorem mem_slot (n a : ℕ) (i : (box n a).Idx) : i ∈ slotG n a ⟨(i 0).val, (i 0).isLt⟩ := by
  refine Rect.mem_set_unit.mpr fun x => ?_
  fin_cases x
  · exact ⟨le_refl _, Nat.lt_succ_self _⟩
  · exact ⟨Nat.zero_le _, (i 1).isLt.trans_le (le_of_eq (Nat.zero_add _).symm)⟩
  · exact ⟨Nat.zero_le _, (i 2).isLt.trans_le (le_of_eq (Nat.zero_add _).symm)⟩

theorem set_part0 (k : Fin 8) : ((partM 0 k).view.set : Finset (box 8 176).Idx) = slotG 8 176 k := (View.set_reshape _ _).trans (View.set_slice_whole _ _)
theorem set_part1 (k : Fin 8) : ((partM 1 k).view.set : Finset (box 8 168).Idx) = slotG 8 168 k := (View.set_reshape _ _).trans (View.set_slice_whole _ _)
theorem set_part2 (k : Fin 8) : ((partM 2 k).view.set : Finset (box 8 168).Idx) = slotG 8 168 k := (View.set_reshape _ _).trans (View.set_slice_whole _ _)
theorem set_land0 (k : Fin 4) : ((landM 0 k).view.set : Finset (box 4 176).Idx) = slotG 4 176 k := (View.set_reshape _ _).trans (View.set_slice_whole _ _)
theorem set_land1 (k : Fin 4) : ((landM 1 k).view.set : Finset (box 4 168).Idx) = slotG 4 168 k := (View.set_reshape _ _).trans (View.set_slice_whole _ _)
theorem set_land2 (k : Fin 4) : ((landM 2 k).view.set : Finset (box 4 168).Idx) = slotG 4 168 k := (View.set_reshape _ _).trans (View.set_slice_whole _ _)
theorem set_stg (k : Fin 2) : ((stgM 0 k).view.set : Finset (box 2 176).Idx) = slotG 2 176 k := (View.set_reshape _ _).trans (View.set_slice_whole _ _)
theorem set_row (t : Fin 8) : ((rowM t).view.set : Finset S8x128.Idx) = (Rect.unit (s := S8x128) ![t.val, 0] S1x128.size (inbR t)).set :=
  View.set_slice_whole _ _

/-! ## Cutting a buffer into pieces and joining them again -/

/-- A region at whatever contents. -/
abbrev Any (ℓ : Loc nD τ sig) (S : Finset (Idx ℓ)) : sProp (MT nD τ sig Unit (Elt F) ℕ UU ℕ) := iprop(∃ f : Buf (Elt F) ℓ, ℓ ↦[S]{fullShare} f)

theorem cut_list {I : Type} {ℓ : Loc nD τ sig} (S : I → Finset (Idx ℓ)) : ∀ (l : List I) (T : Finset (Idx ℓ)),
    l.Pairwise (fun i k => Disjoint (S i) (S k)) → (∀ i ∈ l, S i ⊆ T) → Any (F := F) ℓ T ⊢ bigSepL l fun i => Any (F := F) ℓ (S i)
  | [], _, _, _ => by iintro H; iempintro
  | i :: l, T, hd, hs => by
    rw [bigSepL_cons']
    refine (cut_any (hs i List.mem_cons_self)).trans (sep_mono_right (cut_list S l _ (List.pairwise_cons.mp hd).2 fun k hk => ?_))
    exact Finset.subset_sdiff.mpr ⟨hs k (List.mem_cons_of_mem _ hk), ((List.pairwise_cons.mp hd).1 k hk).symm⟩

/-- All the elements of a list of regions. -/
def allOf {I : Type} {ℓ : Loc nD τ sig} (S : I → Finset (Idx ℓ)) : List I → Finset (Idx ℓ)
  | [] => ∅
  | i :: l => S i ∪ allOf S l

theorem mem_allOf {I : Type} {ℓ : Loc nD τ sig} (S : I → Finset (Idx ℓ)) {i : I} {x : Idx ℓ} (hx : x ∈ S i) : ∀ {l : List I}, i ∈ l → x ∈ allOf S l
  | [], h => absurd h List.not_mem_nil
  | k :: l, h => by
    rcases List.mem_cons.mp h with rfl | h
    · exact Finset.mem_union_left _ hx
    · exact Finset.mem_union_right _ (mem_allOf S hx h)

theorem apart_allOf {I : Type} {ℓ : Loc nD τ sig} (S : I → Finset (Idx ℓ)) {T : Finset (Idx ℓ)} : ∀ {l : List I}, (∀ i ∈ l, Disjoint T (S i)) → Disjoint T (allOf S l)
  | [], _ => Finset.disjoint_empty_right _
  | i :: l, h => Finset.disjoint_union_right.mpr ⟨h i List.mem_cons_self, apart_allOf S fun k hk => h k (List.mem_cons_of_mem _ hk)⟩

theorem join_list {I : Type} {ℓ : Loc nD τ sig} (f₀ : Buf (Elt F) ℓ) (S : I → Finset (Idx ℓ)) : ∀ (l : List I),
    l.Pairwise (fun i k => Disjoint (S i) (S k)) → (bigSepL l fun i => Any (F := F) ℓ (S i)) ⊢ Any (F := F) ℓ (allOf S l)
  | [], _ => by
    show _ ⊢ Any (F := F) ℓ ∅
    iintro H; iexists f₀; rw [pointsTo_empty]; iempintro
  | i :: l, hd => by
    rw [bigSepL_cons']
    refine (sep_mono_right (join_list f₀ S l (List.pairwise_cons.mp hd).2)).trans ?_
    iintro ⟨⟨%f, H⟩, ⟨%g, H'⟩⟩
    iexists _
    iapply (pointsTo_join (f := f) (g := g) (apart_allOf S (List.pairwise_cons.mp hd).1))
    isplitl [H] <;> iassumption

theorem slots_join {ℓ : Loc nD τ sig} {n : ℕ} (f₀ : Buf (Elt F) ℓ) (S : Fin n → Finset (Idx ℓ)) (hd : ∀ k k', k ≠ k' → Disjoint (S k) (S k')) (hc : ∀ x, ∃ k, x ∈ S k) :
    (bigSepL (List.finRange n) fun k => Any (F := F) ℓ (S k)) ⊢ iprop(∃ f : Buf (Elt F) ℓ, ℓ ↦{fullShare} f) := by
  refine (join_list f₀ S (List.finRange n) ((List.nodup_finRange n).imp fun h => hd _ _ h)).trans (Entails.of_eq ?_)
  rw [show allOf S (List.finRange n) = Finset.univ from Finset.eq_univ_of_forall fun x => by
    obtain ⟨k, hk⟩ := hc x
    exact mem_allOf S hk (List.mem_finRange k)]

theorem slots_cut {ℓ : Loc nD τ sig} {n : ℕ} (S : Fin n → Finset (Idx ℓ)) (hd : ∀ k k', k ≠ k' → Disjoint (S k) (S k')) (l : List (Fin n)) (hl : l.Nodup) :
    iprop(∃ f : Buf (Elt F) ℓ, ℓ ↦{fullShare} f) ⊢ bigSepL l fun k => Any (F := F) ℓ (S k) :=
  cut_list S l Finset.univ (hl.imp fun h => hd _ _ h) fun _ _ => Finset.subset_univ _

/-! ## The kernel's buffers -/

variable (c : Dev nD)

theorem cut_part0 : iprop(∃ f : Buf (Elt F) ((c : Thread nD τ).loc main_v1_1), ((c : Thread nD τ).loc main_v1_1) ↦{fullShare} f)
    ⊢ (bigSepL [1, 2, 3] fun k => AnyP c ⟨.hbm, partM 0 k⟩ : sProp (MT nD τ sig Unit (Elt F) ℕ UU ℕ)) :=
  slots_cut (ℓ := (c : Thread nD τ).loc main_v1_1) (fun k : Fin 8 => (partM 0 k).view.set)
    (fun k k' h => by have := slot_apart 8 176 k k' h; rwa [← set_part0, ← set_part0] at this) [1, 2, 3] (by decide)
theorem cut_land0 : iprop(∃ f : Buf (Elt F) ((c : Thread nD τ).loc cc0_scratch0), ((c : Thread nD τ).loc cc0_scratch0) ↦{fullShare} f)
    ⊢ (bigSepL (List.finRange 4) fun k => AnyP c ⟨.vmem, landM 0 k⟩ : sProp (MT nD τ sig Unit (Elt F) ℕ UU ℕ)) :=
  slots_cut (ℓ := (c : Thread nD τ).loc cc0_scratch0) (fun k : Fin 4 => (landM 0 k).view.set)
    (fun k k' h => by have := slot_apart 4 176 k k' h; rwa [← set_land0, ← set_land0] at this) _ (List.nodup_finRange 4)
include m in
theorem join_land0 : (bigSepL (List.finRange 4) fun k => AnyP c ⟨.vmem, landM 0 k⟩ : sProp (MT nD τ sig Unit (Elt F) ℕ UU ℕ))
    ⊢ iprop(∃ f : Buf (Elt F) ((c : Thread nD τ).loc cc0_scratch0), ((c : Thread nD τ).loc cc0_scratch0) ↦{fullShare} f) :=
  slots_join (ℓ := (c : Thread nD τ).loc cc0_scratch0) (m _) (fun k : Fin 4 => (landM 0 k).view.set)
    (fun k k' h => by have := slot_apart 4 176 k k' h; rwa [← set_land0, ← set_land0] at this)
    (fun x => ⟨⟨(x 0).val, (x 0).isLt⟩, (Finset.ext_iff.mp (set_land0 _) x).mpr (mem_slot 4 176 x)⟩)

theorem cut_part1 : iprop(∃ f : Buf (Elt F) ((c : Thread nD τ).loc main_v1_2), ((c : Thread nD τ).loc main_v1_2) ↦{fullShare} f)
    ⊢ (bigSepL [1, 2, 3] fun k => AnyP c ⟨.hbm, partM 1 k⟩ : sProp (MT nD τ sig Unit (Elt F) ℕ UU ℕ)) :=
  slots_cut (ℓ := (c : Thread nD τ).loc main_v1_2) (fun k : Fin 8 => (partM 1 k).view.set)
    (fun k k' h => by have := slot_apart 8 168 k k' h; rwa [← set_part1, ← set_part1] at this) [1, 2, 3] (by decide)
theorem cut_land1 : iprop(∃ f : Buf (Elt F) ((c : Thread nD τ).loc cc0_scratch1), ((c : Thread nD τ).loc cc0_scratch1) ↦{fullShare} f)
    ⊢ (bigSepL (List.finRange 4) fun k => AnyP c ⟨.vmem, landM 1 k⟩ : sProp (MT nD τ sig Unit (Elt F) ℕ UU ℕ)) :=
  slots_cut (ℓ := (c : Thread nD τ).loc cc0_scratch1) (fun k : Fin 4 => (landM 1 k).view.set)
    (fun k k' h => by have := slot_apart 4 168 k k' h; rwa [← set_land1, ← set_land1] at this) _ (List.nodup_finRange 4)
include m in
theorem join_land1 : (bigSepL (List.finRange 4) fun k => AnyP c ⟨.vmem, landM 1 k⟩ : sProp (MT nD τ sig Unit (Elt F) ℕ UU ℕ))
    ⊢ iprop(∃ f : Buf (Elt F) ((c : Thread nD τ).loc cc0_scratch1), ((c : Thread nD τ).loc cc0_scratch1) ↦{fullShare} f) :=
  slots_join (ℓ := (c : Thread nD τ).loc cc0_scratch1) (m _) (fun k : Fin 4 => (landM 1 k).view.set)
    (fun k k' h => by have := slot_apart 4 168 k k' h; rwa [← set_land1, ← set_land1] at this)
    (fun x => ⟨⟨(x 0).val, (x 0).isLt⟩, (Finset.ext_iff.mp (set_land1 _) x).mpr (mem_slot 4 168 x)⟩)

theorem cut_part2 : iprop(∃ f : Buf (Elt F) ((c : Thread nD τ).loc main_v1_3), ((c : Thread nD τ).loc main_v1_3) ↦{fullShare} f)
    ⊢ (bigSepL [1, 2, 3] fun k => AnyP c ⟨.hbm, partM 2 k⟩ : sProp (MT nD τ sig Unit (Elt F) ℕ UU ℕ)) :=
  slots_cut (ℓ := (c : Thread nD τ).loc main_v1_3) (fun k : Fin 8 => (partM 2 k).view.set)
    (fun k k' h => by have := slot_apart 8 168 k k' h; rwa [← set_part2, ← set_part2] at this) [1, 2, 3] (by decide)
theorem cut_land2 : iprop(∃ f : Buf (Elt F) ((c : Thread nD τ).loc cc0_scratch2), ((c : Thread nD τ).loc cc0_scratch2) ↦{fullShare} f)
    ⊢ (bigSepL (List.finRange 4) fun k => AnyP c ⟨.vmem, landM 2 k⟩ : sProp (MT nD τ sig Unit (Elt F) ℕ UU ℕ)) :=
  slots_cut (ℓ := (c : Thread nD τ).loc cc0_scratch2) (fun k : Fin 4 => (landM 2 k).view.set)
    (fun k k' h => by have := slot_apart 4 168 k k' h; rwa [← set_land2, ← set_land2] at this) _ (List.nodup_finRange 4)
include m in
theorem join_land2 : (bigSepL (List.finRange 4) fun k => AnyP c ⟨.vmem, landM 2 k⟩ : sProp (MT nD τ sig Unit (Elt F) ℕ UU ℕ))
    ⊢ iprop(∃ f : Buf (Elt F) ((c : Thread nD τ).loc cc0_scratch2), ((c : Thread nD τ).loc cc0_scratch2) ↦{fullShare} f) :=
  slots_join (ℓ := (c : Thread nD τ).loc cc0_scratch2) (m _) (fun k : Fin 4 => (landM 2 k).view.set)
    (fun k k' h => by have := slot_apart 4 168 k k' h; rwa [← set_land2, ← set_land2] at this)
    (fun x => ⟨⟨(x 0).val, (x 0).isLt⟩, (Finset.ext_iff.mp (set_land2 _) x).mpr (mem_slot 4 168 x)⟩)

theorem cut_stg : iprop(∃ f : Buf (Elt F) ((c : Thread nD τ).loc cc0_scratch3), ((c : Thread nD τ).loc cc0_scratch3) ↦{fullShare} f)
    ⊢ (bigSepL (List.finRange 2) fun k => AnyP c ⟨.vmem, stgM 0 k⟩ : sProp (MT nD τ sig Unit (Elt F) ℕ UU ℕ)) :=
  slots_cut (ℓ := (c : Thread nD τ).loc cc0_scratch3) (fun k : Fin 2 => (stgM 0 k).view.set)
    (fun k k' h => by have := slot_apart 2 176 k k' h; rwa [← set_stg, ← set_stg] at this) _ (List.nodup_finRange 2)
include m in
theorem join_stg : (bigSepL (List.finRange 2) fun k => AnyP c ⟨.vmem, stgM 0 k⟩ : sProp (MT nD τ sig Unit (Elt F) ℕ UU ℕ))
    ⊢ iprop(∃ f : Buf (Elt F) ((c : Thread nD τ).loc cc0_scratch3), ((c : Thread nD τ).loc cc0_scratch3) ↦{fullShare} f) :=
  slots_join (ℓ := (c : Thread nD τ).loc cc0_scratch3) (m _) (fun k : Fin 2 => (stgM 0 k).view.set)
    (fun k k' h => by have := slot_apart 2 176 k k' h; rwa [← set_stg, ← set_stg] at this)
    (fun x => ⟨⟨(x 0).val, (x 0).isLt⟩, (Finset.ext_iff.mp (set_stg _) x).mpr (mem_slot 2 176 x)⟩)

/-- The rows of a device's own buffer, named from it. -/
theorem cut_rows : iprop(∃ f : Buf (Elt F) ((c : Thread nD τ).loc cc0_scratch4), ((c : Thread nD τ).loc cc0_scratch4) ↦{fullShare} f)
    ⊢ (bigSepL (List.finRange 8) fun y => arow c 0 y : sProp (MT nD τ sig Unit (Elt F) ℕ UU ℕ)) := by
  refine (slots_cut (ℓ := (c : Thread nD τ).loc cc0_scratch4) (fun y : Fin 8 => (rowM (org 0 y c)).view.set) (fun y y' h => ?_) _ (List.nodup_finRange 8)).trans ?_
  · have := rows_apart (org 0 y c) (org 0 y' c) fun e => h (org_inj 0 c y y' e)
    rwa [← set_row, ← set_row] at this
  · refine Entails.of_eq (congrArg (bigSepL (List.finRange 8)) (funext fun y => ?_))
    unfold arow
    rw [org_zero]
    rfl

/-- The rows come back whole. -/
theorem join_all : owns (c : Thread nD τ) (Memref.whole cc0_scratch4 : Memref sig .tc .vmem S8x128 .f32) fullShare (rowsAll m)
    ⊢ (iprop(∃ f : Buf (Elt F) ((c : Thread nD τ).loc cc0_scratch4), ((c : Thread nD τ).loc cc0_scratch4) ↦{fullShare} f) : sProp (MT nD τ sig Unit (Elt F) ℕ UU ℕ)) := by
  unfold owns
  rw [Memref.view_whole, View.set_whole]
  iintro ⟨%f, -, H⟩
  iexists f
  iexact H

/-- A device's own rows, read at a share. -/
theorem src_intro (q : PosShare TreeShare) (j : Fin 3) : (((c : Thread nD τ).loc main_arg0) ↦{q} m ((c : Thread nD τ).loc main_arg0))
    ⊢ (iprop(∃ q, owns (c : Thread nD τ) (srcM j 0) q (XP m j (org j 0 c))) : sProp (MT nD τ sig Unit (Elt F) ℕ UU ℕ)) := by
  rw [show org j 0 c = c from by revert j c; decide]
  refine BIBase.Entails.trans ?_ (exists_intro (Φ := fun q => owns (c : Thread nD τ) (srcM j 0) q (XP m j c)) q)
  have key (S : Finset (Idx ((c : Thread nD τ).loc main_arg0))) : (((c : Thread nD τ).loc main_arg0) ↦{q} m ((c : Thread nD τ).loc main_arg0))
      ⊢ (((c : Thread nD τ).loc main_arg0) ↦[S]{q} m ((c : Thread nD τ).loc main_arg0) : sProp (MT nD τ sig Unit (Elt F) ℕ UU ℕ)) :=
    (pointsTo_split_subset (Finset.subset_univ S)).1.trans (Laws.sep_and.trans and_elimL)
  fin_cases j
  · exact (key _).trans (owns_intro (c : Thread nD τ) (xM 0) q _)
  · exact (key _).trans (owns_intro (c : Thread nD τ) (xM 1) q _)
  · exact (key _).trans (owns_intro (c : Thread nD τ) (xM 2) q _)

end Cert.Cube

end
-- ==== Proof.Ghost.lean ====
/-
What the launch sets up once for the whole machine.

Every counter of every device gets its invariant; every device keeps the positions of its own counters and the tokens of
the raises it will make, wherever they land. The tokens are minted by who uses them, so none has to change hands.
-/
module

public import proofs.«01_k».proof.Proof.Machine
public import proofs.«01_k».proof.Proof.Plan

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## All the counters of a device, listed -/

/-- With those for the rows of maxima counted from the device itself. -/
def kindList (c : Dev nD) : List Kd :=
  [.bar] ++ allJI.map (fun p => .send p.1 p.2) ++ allJI.map (fun p => .recv p.1 p.2) ++ (List.finRange 8).map (fun k => .asend (rot c k))
    ++ (List.finRange 8).map (fun k => .arecv (rot c k)) ++ [.stage 0, .stage 1]

theorem kindList_univ (c : Dev nD) : (Finset.univ : Finset Kd) = (kindList c).toFinset := by revert c; decide +kernel
theorem kindList_nodup (c : Dev nD) : (kindList c).Nodup := by revert c; decide +kernel

theorem kinds_split (c : Dev nD) (Φ : Kd → sProp (MT nD τ sig Unit (Elt F) ℕ UU ℕ)) :
    bigSep Finset.univ Φ = bigSepL (kindList c) Φ := bigSep_univ_eq_bigSepL _ (kindList_univ c) (kindList_nodup c) Φ

theorem kinds_erase_bar (Φ : Kd → sProp (MT nD τ sig Unit (Elt F) ℕ UU ℕ)) :
    (bigSep Finset.univ fun k : {k : Kd // k ≠ .bar} => Φ k) = bigSep (Finset.univ.erase Kd.bar) Φ := by
  have h : (Finset.univ.erase Kd.bar) = (Finset.univ : Finset {k : Kd // k ≠ .bar}).map (Function.Embedding.subtype _) := by
    ext k; simp
  rw [h, bigSep_map]; rfl

/-- The kernel's own counters. -/
abbrev osem : {k : Kd // k ≠ .bar} → SemLoc sig := fun k => semOf k

theorem scoped_of (k : Kd) (h : k ≠ .bar) : (semOf k).isScoped .tc = true := by
  revert k; decide +kernel

theorem ownSemFacts : Pipeline.OwnSemFacts cfg0.spec osem where
  isScoped k := scoped_of k.1 k.2
  inj a b h := Subtype.ext (semOf_injective h)
  disj k w s h := by
    have h1 : kindOf (SemLoc.dma ((cfg0.spec w).sem s)) = none := by clear h; revert w s; decide
    have h2 := kindOf_semOf k.1
    rw [show semOf k.1 = _ from h, h1] at h2
    cases h2

theorem unscopedSems0_eq (c : Dev nD) : (unscopedSems0 c : sProp (MT nD τ sig Unit (Elt F) ℕ UU ℕ)) = semVal (cell c .bar) 0 := by
  unfold unscopedSems0; rw [bigSep_eq_bigSepL_of_eq [SemLoc.reg barS] (by decide) (by decide)]; rfl

/-- The kernel's own counters and the barrier are all of them. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Kd => semVal (cell c k) 0 : sProp (MT nD τ sig Unit (Elt F) ℕ UU ℕ)) := by
  rw [unscopedSems0_eq, bigSep_univ_split Kd.bar, ← kinds_erase_bar]; rfl

/-! ## Who uses which token -/

/-- The raises a device makes: its signals, the two ends of its transfers, the two ends of its rows', its stagings. -/
inductive Use : Type
  | sig (e : Fin 3) | snd (j : Fin 3) (i : Fin 7) | rcv (j : Fin 3) (i : Fin 7) | ash (k : Fin 8) | arc (k : Fin 8) | stg (n : Fin 12)
  deriving DecidableEq

def useList : List Use :=
  (List.finRange 3).map (fun e => .sig e) ++ allJI.map (fun p => .snd p.1 p.2) ++ allJI.map (fun p => .rcv p.1 p.2)
    ++ (List.finRange 8).map (fun k => .ash k) ++ (List.finRange 8).map (fun k => .arc k) ++ (List.finRange 12).map (fun n => .stg n)

theorem mem_useList (u : Use) : u ∈ useList := by
  cases u with
  | sig e => revert e; decide
  | snd j i => revert j i; decide
  | rcv j i => revert j i; decide
  | ash k => revert k; decide
  | arc k => revert k; decide
  | stg n => revert n; decide

instance : Fintype Use := ⟨useList.toFinset, fun u => List.mem_toFinset.mpr (mem_useList u)⟩
theorem useList_nodup : useList.Nodup := by decide +kernel

/-- Where a device's raise lands: device, counter, round, and the raiser's place in it. -/
def useAt (c : Dev nD) : Use → (Dev nD × Kd) × ℕ × Fin 3
  | .sig e => ((fl e c, .bar), 0, e)
  | .snd j i => ((c, .send j i), 0, 0)
  | .rcv j i => ((peer j i c, .recv j i), 0, 0)
  | .ash k => ((c, .asend (rot c k)), 0, 0)
  | .arc k => ((rot c k, .arecv c), 0, 0)
  | .stg n => ((c, .stage (slot n.val)), n.val / 2, 0)

/-- Who makes a raise. -/
def useBy : (Dev nD × Kd) × ℕ × Fin 3 → Dev nD × Use
  | ((d, .bar), _, e) => (fl e d, .sig e)
  | ((d, .send j i), _, _) => (d, .snd j i)
  | ((d, .recv j i), _, _) => (peer j i d, .rcv j i)
  | ((d, .asend t), _, _) => (d, .ash (unrot d t))
  | ((d, .arecv t), _, _) => (t, .arc (unrot t d))
  | ((d, .stage s), r, _) => (d, .stg ⟨(2 * r + s.val) % 12, Nat.mod_lt _ (by decide)⟩)

theorem useBy_useAt (c : Dev nD) (u : Use) : useBy (useAt c u) = (c, u) := by
  cases u with
  | sig e => revert c e; decide
  | snd j i => rfl
  | rcv j i => show (peer j i (peer j i c), Use.rcv j i) = _; rw [peer_peer]
  | ash k => show (c, Use.ash (unrot c (rot c k))) = _; rw [unrot_rot]
  | arc k => show (c, Use.arc (unrot c (rot c k))) = _; rw [unrot_rot]
  | stg n => revert c n; decide

def cellOf (ck : Dev nD × Kd) : GSem nD τ sig := cell ck.1 ck.2
theorem cellOf_injective : Function.Injective cellOf := by
  rintro ⟨c, k⟩ ⟨c', k'⟩ h
  have h1 : c = c' := congrArg (fun g : GSem nD τ sig => g.1.1) h
  have h2 : k = k' := semOf_injective (congrArg (fun g : GSem nD τ sig => g.2) h)
  rw [h1, h2]

def tokOf (cu : Dev nD × Use) : GSem nD τ sig × ℕ × Fin 3 := (cellOf (useAt cu.1 cu.2).1, (useAt cu.1 cu.2).2)
theorem tokOf_injective : Function.Injective tokOf := by
  rintro ⟨c, u⟩ ⟨c', u'⟩ h
  have h1 : useAt c u = useAt c' u' :=
    Prod.ext (cellOf_injective (show cellOf (useAt c u).1 = cellOf (useAt c' u').1 from congrArg (fun x : GSem nD τ sig × ℕ × Fin 3 => x.1) h))
      (show (useAt c u).2 = (useAt c' u').2 from congrArg (fun x : GSem nD τ sig × ℕ × Fin 3 => x.2) h)
  rw [← useBy_useAt c u, ← useBy_useAt c' u', h1]

def allCells : Finset (GSem nD τ sig) := Finset.univ.map ⟨cellOf, cellOf_injective⟩
def allToks : Finset (GSem nD τ sig × ℕ × Fin 3) := Finset.univ.map ⟨tokOf, tokOf_injective⟩

/-- The element the launch starts from. -/
def u₀ : UU := (initOf (Pipeline.cells cfgs cellOf_inj) (Pipeline.launchToks cfgs cellOf_inj), initOf allCells allToks)

/-! ## The set-up -/

/-- The tokens device `c` will use. -/
def toks (c : Dev nD) : sProp (MT nD τ sig Unit (Elt F) ℕ UU ℕ) :=
  bigSep Finset.univ fun u : Use => dutyTok ER (cellOf (useAt c u).1) (useAt c u).2.1 (useAt c u).2.2
/-- The positions of its counters. -/
def spots (c : Dev nD) : sProp (MT nD τ sig Unit (Elt F) ℕ UU ℕ) := bigSep Finset.univ fun k : Kd => atPos ER (cell c k) 0 ∅ 0

/-- What is dealt to device `c`; -/
def G (c : Dev nD) : sProp (MT nD τ sig Unit (Elt F) ℕ UU ℕ) :=
  iprop((bigSep Finset.univ fun k : Kd => roundState ER (Rd m) (cell c k) 0) ∗ spots c
    ∗ (bigSep Finset.univ fun k : Kd => reached ER (cell c k) 0) ∗ toks c)

/-- the records everyone shares; -/
def records (K : Dev nD × Kd → ℕ) : sProp (MT nD τ sig Unit (Elt F) ℕ UU ℕ) :=
  iprop((bigSep Finset.univ fun ck : Dev nD × Kd => cellInv ER (Rd m) (K ck) (cell ck.1 ck.2))
    ∗ bigSep Finset.univ fun ck : Dev nD × Kd => reached ER (cell ck.1 ck.2) 0)

instance records_persistent (K : Dev nD × Kd → ℕ) : BI.Persistent (records (F := F) m K) := by unfold records; infer_instance

/-- and what it starts with once every invariant stands. -/
def G' (c : Dev nD) : sProp (MT nD τ sig Unit (Elt F) ℕ UU ℕ) := iprop(∃ K, records m K ∗ spots c ∗ toks c)

theorem fund : BI.own (ER (initOf allCells allToks)) ⊢ (|==> bigSep Finset.univ (G m) : sProp (MT nD τ sig Unit (Elt F) ℕ UU ℕ)) := by
  have hX (Φ : GSem nD τ sig → sProp (MT nD τ sig Unit (Elt F) ℕ UU ℕ)) :
      bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp (MT nD τ sig Unit (Elt F) ℕ UU ℕ))) = bigSep Finset.univ fun c : Dev nD => toks c := by
    unfold allToks; rw [bigSep_map, bigSep_univ_prod]; rfl
  iintro H
  imod (Rounds.fund ER (Rd m) allCells allToks) $$ H with ⟨Hs, Hr, Ha, Ht⟩
  imodintro
  ihave Hs := (Entails.of_eq (hX fun g => roundState ER (Rd m) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G spots
  rw [bigSep_sep', bigSep_sep', bigSep_sep']
  isplitl [Hs]; · iexact Hs
  isplitl [Ha]; · iexact Ha
  isplitl [Hr]; · iexact Hr
  iexact Ht

theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd m) κ (cell c k)))
          ∗ (bigSep Finset.univ fun k : Kd => reached ER (cell c k) 0) ∗ (spots c ∗ toks c)) := by
  unfold G
  iintro ⟨Ho, Hu, Hs, Ha, Hr, Ht⟩
  imod (show iprop((unscopedSems0 c ∗ Pipeline.ownSems0 (Ix := Unit) (Name := ℕ) (U := UU) (Lvl := ℕ) (Val := Elt F) (τ := τ) osem c)
        ∗ bigSep Finset.univ fun k : Kd => roundState ER (Rd m) (cell c k) 0)
      ⊢ (|={Set.univ}=> bigSep Finset.univ fun k : Kd => iprop(∃ κ : ℕ, cellInv ER (Rd m) κ (cell c k)) : sProp (MT nD τ sig Unit (Elt F) ℕ UU ℕ)) from by
        rw [sems_eq, ← bigSep_sep']
        exact (bigSep_mono fun k _ => (Rounds.body_intro ER (Rd m) (cell c k)).trans inv_alloc).trans (bigSep_fupd _ _)) $$ [Ho Hu Hs] with HI
  · isplitl [Ho Hu]
    · isplitl [Hu]; · iexact Hu
      iexact Ho
    iexact Hs
  imodintro
  isplitl [HI]; · iexact HI
  isplitl [Hr]; · iexact Hr
  isplitl [Ha]; · iexact Ha
  iexact Ht

theorem share_out {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem pool :
    (bigSep Finset.univ fun c : Dev nD => iprop((bigSep Finset.univ fun k : Kd => iprop(∃ κ : ℕ, cellInv ER (Rd m) κ (cell c k)))
        ∗ (bigSep Finset.univ fun k : Kd => reached ER (cell c k) 0) ∗ (spots c ∗ toks c)) : sProp (MT nD τ sig Unit (Elt F) ℕ UU ℕ))
      ⊢ bigSep Finset.univ (G' m) := by
  rw [bigSep_sep', bigSep_sep', ← bigSep_univ_prod (fun ck : Dev nD × Kd => iprop(∃ κ : ℕ, cellInv ER (Rd m) κ (cell ck.1 ck.2))),
    ← bigSep_univ_prod (fun ck : Dev nD × Kd => (reached ER (cell ck.1 ck.2) 0 : sProp (MT nD τ sig Unit (Elt F) ℕ UU ℕ)))]
  iintro ⟨HI, #HR, Hl⟩
  ihave HK := (BI.bigSep_exists_pi Finset.univ (fun (ck : Dev nD × Kd) (κ : ℕ) => (cellInv ER (Rd m) κ (cell ck.1 ck.2) : sProp (MT nD τ sig Unit (Elt F) ℕ UU ℕ)))) $$ HI
  icases HK with ⟨%K, #HI⟩
  iapply (share_out (R := records m K) (Φ := fun c => iprop(spots c ∗ toks c)) fun c _ => show _ ⊢ G' m c from by
    unfold G'; iintro ⟨Hr, Hs⟩; iexists K; isplitl [Hr]; · iexact Hr
    iexact Hs)
  isplitr
  · unfold records; isplitl; · iexact HI
    iexact HR
  iexact Hl

theorem glob : (bigSep Finset.univ fun c => iprop(Pipeline.ownSems0 (Ix := Unit) (Name := ℕ) (U := UU) (Lvl := ℕ) (Val := Elt F) (τ := τ) osem c
      ∗ unscopedSems0 c ∗ G m c) : sProp (MT nD τ sig Unit (Elt F) ℕ UU ℕ)) ⊢ |={Set.univ}=> bigSep Finset.univ (G' m) :=
  ((bigSep_mono fun c _ => alloc_one m c).trans (bigSep_fupd _ _)).trans (BI.fupd_mono (pool m))

end Cert.Cube

end
-- ==== Proof.Credits.lean ====
/-
What each counter is owed at the launch.

The debts of all devices, sorted by the counter they fall on: a barrier is owed one signal by each neighbour, the landing
of a transfer its piece, the landing of a row of maxima its row.
-/
module

public import proofs.«01_k».proof.Proof.Ghost

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What counter `k` of device `c` is owed. -/
def want (c : Dev nD) : Kd → ℕ
  | .bar => 3
  | .recv j _ => credit j
  | .arecv t => if t = c then 0 else creditR
  | _ => 0

/-- Debts of one amount. -/
def sort : Due → Due
  | .sig _ => .sig 0
  | .tr j _ => .tr j 0
  | .am _ => .am 0

theorem amt_sort (x : Due) : (sort x).amt = x.amt := by cases x <;> rfl

def wantL (c : Dev nD) : Kd → List Due
  | .bar => [.sig 0, .sig 0, .sig 0]
  | .recv j _ => [.tr j 0]
  | .arecv t => if t = c then [] else [.am 0]
  | _ => []

theorem want_eq (c : Dev nD) (k : Kd) : ((wantL c k).map Due.amt).sum = want c k := by
  cases k with
  | arecv t => unfold wantL want; by_cases h : t = c <;> simp [h, Due.amt]
  | _ => rfl

/-- Device `d`'s debts on counter `k` of device `c`. -/
def hits (c : Dev nD) (k : Kd) (d : Dev nD) : List Due := dueList.filter fun x => decide (x.dev d = c) && decide (x.kd d = k)

/-- All the debts on a counter, up to their sort. -/
theorem all_hits (c : Dev nD) (k : Kd) : ((List.finRange 8).flatMap fun d => (hits c k d).map sort) = wantL c k := by
  revert c k; decide +kernel

theorem owedL_cell (c d : Dev nD) (k : Kd) (l : List Due) :
    owedL d l (cell c k) () = ((l.filter fun x => decide (x.dev d = c) && decide (x.kd d = k)).map Due.amt).sum := by
  induction l with
  | nil => rfl
  | cons x l ih =>
    have e : owedL d (x :: l) (cell c k) () = owedL d l (cell c k) () + tallyAt (cell (x.dev d) (x.kd d)) () x.amt (cell c k) () := rfl
    rw [e, tallyAt_apply, ih]
    by_cases h : x.dev d = c ∧ x.kd d = k
    · obtain ⟨h1, h2⟩ := h
      rw [if_pos ⟨by rw [h1, h2], rfl⟩, List.filter_cons_of_pos (by simp [h1, h2]), List.map_cons, List.sum_cons, Nat.add_comm]
    · rw [if_neg, List.filter_cons_of_neg (by simpa using h), Nat.add_zero]
      rintro ⟨h', -⟩
      have h'' := @cellOf_injective (c, k) (x.dev d, x.kd d) h'
      exact h ⟨(congrArg Prod.fst h'').symm, (congrArg Prod.snd h'').symm⟩

theorem owed_total (c : Dev nD) (k : Kd) : ∑ d : Dev nD, owedAt d 0 (cell c k) () = want c k := by
  rw [← want_eq, ← all_hits]
  have hu : (Finset.univ : Finset (Dev nD)) = (List.finRange 8).toFinset := by decide
  have he (d : Dev nD) : owedAt d 0 (cell c k) () = ((hits c k d).map Due.amt).sum := owedL_cell c d k dueList
  rw [Finset.sum_congr rfl fun d _ => he d, hu, List.sum_toFinset _ (List.nodup_finRange 8)]
  have h (l : List (Fin 8)) : (l.map fun d => ((hits c k d).map Due.amt).sum).sum = ((l.flatMap fun d => (hits c k d).map sort).map Due.amt).sum := by
    induction l with
    | nil => rfl
    | cons d l ih =>
      rw [List.map_cons, List.sum_cons, ih, List.flatMap_cons, List.map_append, List.sum_append, List.map_map]
      congr 2
      exact List.map_congr_left fun x _ => (amt_sort x).symm
  exact h _

theorem launch_cell (c : Dev nD) (k : Kd) :
    tallyOn (cell c k) (launchCredit (Pipeline.owing fun d => owedAt d 0) 0 (cell c k)) = tallyAt (cell c k) () (want c k) := by
  unfold tallyAt
  refine congrArg _ (Finsupp.ext fun u => ?_)
  cases u
  rw [Pipeline.launchCredit_owing, Finsupp.single_eq_same]
  exact owed_total c k

/-- The credits device `c` starts with. -/
theorem creds (c : Dev nD) : (Pipeline.launchCred (fun d => owedAt d 0) c : sProp (MT nD τ sig Unit (Elt F) ℕ UU ℕ))
    ⊢ bigSepL (kindList c) fun k => cred (tallyAt (cell c k) () (want c k)) := by
  rw [← kinds_split]
  unfold Pipeline.launchCred
  refine (bigSep_subset (Finset.subset_univ (Finset.univ.map ⟨semOf, semOf_injective⟩))).trans ?_
  rw [bigSep_map]
  exact bigSep_mono fun k _ => Entails.of_eq (congrArg cred (launch_cell c k))

end Cert.Cube

end
-- ==== Proof.Start.lean ====
/-
What a device holds at its start, gathered from the launch: the list of `Plan.lean`.
-/
module

public import proofs.«01_k».proof.Proof.Memory
public import proofs.«01_k».proof.Proof.Credits

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Lists -/

theorem zip_list {I : Type} (Φ Ψ : I → sProp (MT nD τ sig Unit (Elt F) ℕ UU ℕ)) : ∀ l : List I, iprop(bigSepL l Φ ∗ bigSepL l Ψ) ⊢ bigSepL l fun i => iprop(Φ i ∗ Ψ i)
  | [] => by iintro H; iempintro
  | i :: l => by
    rw [bigSepL_cons', bigSepL_cons', bigSepL_cons']
    iintro ⟨⟨H1, H1'⟩, ⟨H2, H2'⟩⟩
    isplitl [H1 H2]
    · isplitl [H1] <;> iassumption
    · iapply (zip_list Φ Ψ l); isplitl [H1'] <;> iassumption

theorem kinds_parts (Φ : Kd → sProp (MT nD τ sig Unit (Elt F) ℕ UU ℕ)) : bigSepL (kindList c) Φ
    = iprop(bigSepL [.bar] Φ ∗ (bigSepL allJI fun p => Φ (.send p.1 p.2)) ∗ (bigSepL allJI fun p => Φ (.recv p.1 p.2))
      ∗ (bigSepL (List.finRange 8) fun k => Φ (.asend (rot c k))) ∗ (bigSepL (List.finRange 8) fun k => Φ (.arecv (rot c k))) ∗ bigSepL [.stage 0, .stage 1] Φ) := by
  unfold kindList
  simp only [List.append_assoc, bigSepL_append, bigSepL_map]

theorem uses_parts (Φ : Use → sProp (MT nD τ sig Unit (Elt F) ℕ UU ℕ)) : bigSep Finset.univ Φ
    = iprop((bigSepL (List.finRange 3) fun e => Φ (.sig e)) ∗ (bigSepL allJI fun p => Φ (.snd p.1 p.2)) ∗ (bigSepL allJI fun p => Φ (.rcv p.1 p.2))
      ∗ (bigSepL (List.finRange 8) fun k => Φ (.ash k)) ∗ (bigSepL (List.finRange 8) fun k => Φ (.arc k)) ∗ bigSepL (List.finRange 12) fun n => Φ (.stg n)) := by
  rw [bigSep_univ_eq_bigSepL useList rfl useList_nodup Φ]
  unfold useList
  simp only [List.append_assoc, bigSepL_append, bigSepL_map]

theorem ji_parts (Φ : Fin 3 × Fin 7 → sProp (MT nD τ sig Unit (Elt F) ℕ UU ℕ)) : bigSepL allJI Φ
    = iprop((bigSepL [0, 1, 2] fun i => Φ (0, i)) ∗ (bigSepL [3, 4, 5, 6] fun i => Φ (0, i)) ∗ (bigSepL [0, 1, 2] fun i => Φ (1, i)) ∗ (bigSepL [3, 4, 5, 6] fun i => Φ (1, i))
      ∗ (bigSepL [0, 1, 2] fun i => Φ (2, i)) ∗ bigSepL [3, 4, 5, 6] fun i => Φ (2, i)) := by
  rw [show allJI = [0, 1, 2].map (fun i => ((0 : Fin 3), (i : Fin 7))) ++ [3, 4, 5, 6].map (fun i => ((0 : Fin 3), (i : Fin 7)))
      ++ [0, 1, 2].map (fun i => ((1 : Fin 3), (i : Fin 7))) ++ [3, 4, 5, 6].map (fun i => ((1 : Fin 3), (i : Fin 7)))
      ++ [0, 1, 2].map (fun i => ((2 : Fin 3), (i : Fin 7))) ++ [3, 4, 5, 6].map (fun i => ((2 : Fin 3), (i : Fin 7))) from by decide]
  simp only [List.append_assoc, bigSepL_append, bigSepL_map]

theorem eight_parts (Φ : Fin 8 → sProp (MT nD τ sig Unit (Elt F) ℕ UU ℕ)) : bigSepL (List.finRange 8) Φ = iprop(Φ 0 ∗ bigSepL others Φ) := by
  rw [show List.finRange 8 = 0 :: others from by decide, bigSepL_cons']

theorem start_parts : bigSepL start₀ (res m c)
    = iprop(bigSepL [.sigk 0, .sigk 1, .sigk 2, .bark] (res m c) ∗ (bigSepL allJI fun p => res m c (.own p.1 p.2)) ∗ (bigSepL (List.finRange 8) fun y => res m c (.arow 0 y))
      ∗ (bigSepL allJI fun p => res m c (.skit p.1 p.2)) ∗ (bigSepL allJI fun p => res m c (.rkit p.1 p.2))
      ∗ bigSepL [.src 0 0, .src 1 0, .src 2 0, .idle 0 0, .idle 1 0] (res m c) ∗ (bigSepL (List.range 12) fun n => res m c (.stok n))
      ∗ bigSepL [.wts, .out 0, .aself] (res m c) ∗ (bigSepL others fun k => res m c (.askit k)) ∗ bigSepL others fun k => res m c (.arkit k)) := by
  unfold start₀
  simp only [List.append_assoc, bigSepL_append, bigSepL_map]

theorem toks_parts : toks (F := F) c
    = iprop((bigSepL (List.finRange 3) fun e => dutyTok ER (cell (fl e c) .bar) 0 e) ∗ (bigSepL allJI fun p => dutyTok ER (cell c (.send p.1 p.2)) 0 0)
      ∗ (bigSepL allJI fun p => dutyTok ER (cell (peer p.1 p.2 c) (.recv p.1 p.2)) 0 0) ∗ (bigSepL (List.finRange 8) fun k => dutyTok ER (cell c (.asend (rot c k))) 0 0)
      ∗ (bigSepL (List.finRange 8) fun k => dutyTok ER (cell (rot c k) (.arecv c)) 0 0)
      ∗ bigSepL (List.finRange 12) fun n => dutyTok ER (cell c (.stage (slot n.val))) (n.val / 2) 0) := by
  unfold toks; exact uses_parts _

/-! ## What a device starts with -/

/-- Its counters' side: positions, tokens, credits. -/
theorem kits :
    iprop(spots c ∗ toks c ∗ bigSepL (kindList c) fun k => cred (tallyAt (cell c k) () (want c k)))
      ⊢ (iprop(bigSepL [.sigk 0, .sigk 1, .sigk 2, .bark] (res m c) ∗ (bigSepL allJI fun p => res m c (.skit p.1 p.2)) ∗ (bigSepL allJI fun p => res m c (.rkit p.1 p.2))
        ∗ (bigSepL (List.range 12) fun n => res m c (.stok n)) ∗ res m c .aself ∗ (bigSepL others fun k => res m c (.askit k)) ∗ (bigSepL others fun k => res m c (.arkit k))
        ∗ atPos ER (cell c (.stage 0)) 0 ∅ 0 ∗ atPos ER (cell c (.stage 1)) 0 ∅ 0) : sProp (MT nD τ sig Unit (Elt F) ℕ UU ℕ)) := by
  unfold spots
  rw [kinds_split c, kinds_parts, kinds_parts, toks_parts]
  iintro ⟨⟨Pb, Ps, Pr, Pas, Par, Pst⟩, ⟨Tg, Ts, Tr, Ta, Tc, Tt⟩, ⟨Cb, -, Cr, -, Ca, -⟩⟩
  ihave Pas := (Entails.of_eq (eight_parts fun k => (atPos ER (cell c (.asend (rot c k))) 0 ∅ 0 : sProp (MT nD τ sig Unit (Elt F) ℕ UU ℕ)))) $$ Pas
  ihave Par := (Entails.of_eq (eight_parts fun k => (atPos ER (cell c (.arecv (rot c k))) 0 ∅ 0 : sProp (MT nD τ sig Unit (Elt F) ℕ UU ℕ)))) $$ Par
  ihave Ta := (Entails.of_eq (eight_parts fun k => (dutyTok ER (cell c (.asend (rot c k))) 0 0 : sProp (MT nD τ sig Unit (Elt F) ℕ UU ℕ)))) $$ Ta
  ihave Tc := (Entails.of_eq (eight_parts fun k => (dutyTok ER (cell (rot c k) (.arecv c)) 0 0 : sProp (MT nD τ sig Unit (Elt F) ℕ UU ℕ)))) $$ Tc
  ihave Ca := (Entails.of_eq (eight_parts fun k => (cred (tallyAt (cell c (.arecv (rot c k))) () (want c (.arecv (rot c k)))) : sProp (MT nD τ sig Unit (Elt F) ℕ UU ℕ)))) $$ Ca
  icases Pas with ⟨Pas0, Pas⟩
  icases Par with ⟨Par0, Par⟩
  icases Ta with ⟨-, Ta⟩
  icases Tc with ⟨-, Tc⟩
  icases Ca with ⟨-, Ca⟩
  isplitl [Tg Pb Cb]
  · ihave Tg := (show (bigSepL (List.finRange 3) fun e => (dutyTok ER (cell (fl e c) .bar) 0 e : sProp (MT nD τ sig Unit (Elt F) ℕ UU ℕ)))
      ⊢ iprop(res m c (.sigk 0) ∗ res m c (.sigk 1) ∗ res m c (.sigk 2)) from by
        rw [show List.finRange 3 = [0, 1, 2] from by decide]; exact Entails.refl _) $$ Tg
    icases Tg with ⟨T0, T1, T2⟩
    iapply (show iprop(res m c (.sigk 0) ∗ res m c (.sigk 1) ∗ res m c (.sigk 2) ∗ (atPos ER (cell c .bar) 0 ∅ 0 ∗ cred (tallyAt (cell c .bar) () 3)))
      ⊢ bigSepL [.sigk 0, .sigk 1, .sigk 2, .bark] (res m c) from Entails.refl _)
    isplitl [T0]; · iexact T0
    isplitl [T1]; · iexact T1
    isplitl [T2]; · iexact T2
    isplitl [Pb]
    · iapply (show bigSepL [Kd.bar] (fun k => (atPos ER (cell c k) 0 ∅ 0 : sProp (MT nD τ sig Unit (Elt F) ℕ UU ℕ))) ⊢ atPos ER (cell c .bar) 0 ∅ 0 from Entails.refl _); iexact Pb
    iapply (show bigSepL [Kd.bar] (fun k => (cred (tallyAt (cell c k) () (want c k)) : sProp (MT nD τ sig Unit (Elt F) ℕ UU ℕ))) ⊢ cred (tallyAt (cell c .bar) () 3) from Entails.refl _)
    iexact Cb
  isplitl [Ps Ts Tr]
  · iapply (zip_list (fun p : Fin 3 × Fin 7 => (atPos ER (cell c (.send p.1 p.2)) 0 ∅ 0 : sProp (MT nD τ sig Unit (Elt F) ℕ UU ℕ)))
      (fun p => iprop(dutyTok ER (cell c (.send p.1 p.2)) 0 0 ∗ dutyTok ER (cell (peer p.1 p.2 c) (.recv p.1 p.2)) 0 0)) allJI)
    isplitl [Ps]; · iexact Ps
    iapply (zip_list (fun p : Fin 3 × Fin 7 => (dutyTok ER (cell c (.send p.1 p.2)) 0 0 : sProp (MT nD τ sig Unit (Elt F) ℕ UU ℕ))) (fun p => dutyTok ER (cell (peer p.1 p.2 c) (.recv p.1 p.2)) 0 0) allJI)
    isplitl [Ts]; · iexact Ts
    iexact Tr
  isplitl [Pr Cr]
  · iapply (zip_list (fun p : Fin 3 × Fin 7 => (atPos ER (cell c (.recv p.1 p.2)) 0 ∅ 0 : sProp (MT nD τ sig Unit (Elt F) ℕ UU ℕ))) (fun p => cred (tallyAt (cell c (.recv p.1 p.2)) () (credit p.1))) allJI)
    isplitl [Pr]; · iexact Pr
    iexact Cr
  isplitl [Tt]
  · iapply (show (bigSepL (List.finRange 12) fun n => (dutyTok ER (cell c (.stage (slot n.val))) (n.val / 2) 0 : sProp (MT nD τ sig Unit (Elt F) ℕ UU ℕ)))
      ⊢ bigSepL (List.range 12) fun n => res m c (.stok n) from by
        rw [show List.range 12 = (List.finRange 12).map Fin.val from by decide, bigSepL_map]; exact Entails.refl _)
    iexact Tt
  isplitl [Pas0 Par0]
  · iapply (show iprop(atPos ER (cell c (.asend (rot c 0))) 0 ∅ 0 ∗ atPos ER (cell c (.arecv (rot c 0))) 0 ∅ 0) ⊢ res m c .aself from by
      rw [show rot c 0 = c from by revert c; decide]; exact Entails.refl _)
    isplitl [Pas0] <;> iassumption
  isplitl [Pas Ta Tc]
  · iapply (zip_list (fun k => (atPos ER (cell c (.asend (rot c k))) 0 ∅ 0 : sProp (MT nD τ sig Unit (Elt F) ℕ UU ℕ)))
      (fun k => iprop(dutyTok ER (cell c (.asend (rot c k))) 0 0 ∗ dutyTok ER (cell (rot c k) (.arecv c)) 0 0)) others)
    isplitl [Pas]; · iexact Pas
    iapply (zip_list (fun k => (dutyTok ER (cell c (.asend (rot c k))) 0 0 : sProp (MT nD τ sig Unit (Elt F) ℕ UU ℕ))) (fun k => dutyTok ER (cell (rot c k) (.arecv c)) 0 0) others)
    isplitl [Ta]; · iexact Ta
    iexact Tc
  isplitl [Par Ca]
  · iapply (zip_list (fun k => (atPos ER (cell c (.arecv (rot c k))) 0 ∅ 0 : sProp (MT nD τ sig Unit (Elt F) ℕ UU ℕ))) (fun k => cred (tallyAt (cell c (.arecv (rot c k))) () creditR)) others)
    isplitl [Par]; · iexact Par
    iapply (bigSepL_mono fun k hk => Entails.of_eq (congrArg (fun n => (cred (tallyAt (cell c (.arecv (rot c k))) () n) : sProp (MT nD τ sig Unit (Elt F) ℕ UU ℕ)))
      (show want c (.arecv (rot c k)) = creditR from if_neg (show ¬ rot c k = c from by revert hk; revert k c; decide))))
    iexact Ca
  ihave Pst := (show bigSepL [Kd.stage 0, .stage 1] (fun k => (atPos ER (cell c k) 0 ∅ 0 : sProp (MT nD τ sig Unit (Elt F) ℕ UU ℕ)))
    ⊢ iprop(atPos ER (cell c (.stage 0)) 0 ∅ 0 ∗ atPos ER (cell c (.stage 1)) 0 ∅ 0) from Entails.refl _) $$ Pst
  iexact Pst

/-- The pieces of its memory others will write, its rows of maxima, its own rows to send, the staging slots. -/
def scratch : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What it has of main memory. -/
def mainMem : sProp (MT nD τ sig Unit (Elt F) ℕ UU ℕ) :=
  iprop((((c : Thread nD τ).loc main_arg0) ↦{fullShare.left} m ((c : Thread nD τ).loc main_arg0))
    ∗ (∃ f : Buf (Elt F) ((c : Thread nD τ).loc main_v1_1), ((c : Thread nD τ).loc main_v1_1) ↦{fullShare} f)
    ∗ (∃ f : Buf (Elt F) ((c : Thread nD τ).loc main_v1_2), ((c : Thread nD τ).loc main_v1_2) ↦{fullShare} f)
    ∗ (∃ f : Buf (Elt F) ((c : Thread nD τ).loc main_v1_3), ((c : Thread nD τ).loc main_v1_3) ↦{fullShare} f))

theorem pieces : iprop(scratch c ∗ mainMem m c)
    ⊢ (iprop((bigSepL allJI fun p => res m c (.own p.1 p.2)) ∗ (bigSepL (List.finRange 8) fun y => res m c (.arow 0 y))
      ∗ (res m c (.src 0 0) ∗ res m c (.src 1 0) ∗ res m c (.src 2 0)) ∗ AnyP (F := F) c ⟨.vmem, stgM 0 0⟩ ∗ AnyP (F := F) c ⟨.vmem, stgM 0 1⟩) : sProp (MT nD τ sig Unit (Elt F) ℕ UU ℕ)) := by
  unfold scratch mainMem
  rw [ji_parts]
  iintro ⟨⟨H0, H1, H2, H3, H4⟩, ⟨Hx, M0, M1, M2⟩⟩
  ihave H0 := (cut_land0 (F := F) c) $$ H0
  ihave H1 := (cut_land1 (F := F) c) $$ H1
  ihave H2 := (cut_land2 (F := F) c) $$ H2
  ihave M0 := (cut_part0 (F := F) c) $$ M0
  ihave M1 := (cut_part1 (F := F) c) $$ M1
  ihave M2 := (cut_part2 (F := F) c) $$ M2
  ihave H3 := (cut_stg (F := F) c) $$ H3
  ihave H4 := (cut_rows (F := F) c) $$ H4
  ihave Hx := (pointsTo_share (PosShare.mem_left_op_right fullShare.left)).1 $$ Hx
  icases Hx with ⟨X0, Hx⟩
  ihave Hx := (pointsTo_share (PosShare.mem_left_op_right fullShare.left.right)).1 $$ Hx
  icases Hx with ⟨X1, X2⟩
  isplitl [H0 H1 H2 M0 M1 M2]
  · isplitl [M0]; · iexact M0
    isplitl [H0]; · iexact H0
    isplitl [M1]; · iexact M1
    isplitl [H1]; · iexact H1
    isplitl [M2]; · iexact M2
    iexact H2
  isplitl [H4]; · iexact H4
  isplitl [X0 X1 X2]
  · isplitl [X0]; · iapply (show _ ⊢ res m c (.src 0 0) from src_intro m c _ 0); iexact X0
    isplitl [X1]; · iapply (show _ ⊢ res m c (.src 1 0) from src_intro m c _ 1); iexact X1
    iapply (show _ ⊢ res m c (.src 2 0) from src_intro m c _ 2); iexact X2
  ihave H3 := (show (bigSepL (List.finRange 2) fun k => (AnyP c ⟨.vmem, stgM 0 k⟩ : sProp (MT nD τ sig Unit (Elt F) ℕ UU ℕ))) ⊢ iprop(AnyP c ⟨.vmem, stgM 0 0⟩ ∗ AnyP c ⟨.vmem, stgM 0 1⟩) from by
    rw [show List.finRange 2 = [0, 1] from by decide]; exact Entails.refl _) $$ H3
  iexact H3

/-- The weights staged and the result's staging buffer beside all that: the run's start. -/
theorem start_all (K : Dev nD × Kd → ℕ) :
    iprop(Ctx m K ∗ (spots c ∗ toks c ∗ bigSepL (kindList c) fun k => cred (tallyAt (cell c k) () (want c k))) ∗ (scratch c ∗ mainMem m c)
        ∗ (((c : Thread nD τ).loc cc0_stg0_0) ↦{fullShare} (wst m c : Buf (Elt F) ((c : Thread nD τ).loc cc0_stg0_0)))
        ∗ (∃ f : Buf (Elt F) ((c : Thread nD τ).loc cc0_stg1_0), (((c : Thread nD τ).loc cc0_stg1_0) ↦{fullShare} f)))
      ⊢ bigSepL start₀ (res m c) := by
  rw [start_parts]
  iintro ⟨#HC, Hk, Hp, Hw, ⟨%f, Ho⟩⟩
  ihave Hk := (kits m c) $$ Hk
  ihave Hp := (pieces m c) $$ Hp
  icases Hk with ⟨Ksig, Ks, Kr, Kt, Ka, Kas, Kar, P0, P1⟩
  icases Hp with ⟨Po, Pr, ⟨X0, X1, X2⟩, S0, S1⟩
  isplitl [Ksig]; · iexact Ksig
  isplitl [Po]; · iexact Po
  isplitl [Pr]; · iexact Pr
  isplitl [Ks]; · iexact Ks
  isplitl [Kr]; · iexact Kr
  isplitl [X0 X1 X2 S0 S1 P0 P1]
  · rw [bigSepL_cons', bigSepL_cons', bigSepL_cons', bigSepL_cons']
    isplitl [X0]; · iexact X0
    isplitl [X1]; · iexact X1
    isplitl [X2]; · iexact X2
    isplitl [S0 P0]
    · iapply (show iprop(AnyP (F := F) c ⟨.vmem, stgM 0 0⟩ ∗ atPos ER (cell c (.stage 0)) 0 ∅ 0 ∗ reached ER (cell c (.stage 0)) 0) ⊢ res m c (.idle 0 0) from Entails.refl _)
      isplitl [S0]; · iexact S0
      isplitl [P0]; · iexact P0
      iapply (Ctx_reached m K c (.stage 0)); iexact HC
    · iapply (show iprop(AnyP (F := F) c ⟨.vmem, stgM 0 1⟩ ∗ atPos ER (cell c (.stage 1)) 0 ∅ 0 ∗ reached ER (cell c (.stage 1)) 0) ⊢ bigSepL [.idle 1 0] (res m c) from Entails.refl _)
      isplitl [S1]; · iexact S1
      isplitl [P1]; · iexact P1
      iapply (Ctx_reached m K c (.stage 1)); iexact HC
  isplitl [Kt]; · iexact Kt
  isplitl [Hw Ho Ka]
  · rw [bigSepL_cons', bigSepL_cons']
    isplitl [Hw]; · iapply (show (((c : Thread nD τ).loc cc0_stg0_0) ↦{fullShare} (wst m c : Buf (Elt F) ((c : Thread nD τ).loc cc0_stg0_0))) ⊢ res m c .wts from Entails.refl _); iexact Hw
    isplitl [Ho]
    · iapply (show iprop(∃ f : Buf (Elt F) ((c : Thread nD τ).loc cc0_stg1_0), ⌜OutOk m c 0 f⌝ ∗ (((c : Thread nD τ).loc cc0_stg1_0) ↦{fullShare} f)) ⊢ res m c (.out 0) from Entails.refl _)
      iexists f
      isplitr
      · ipureintro; exact fun s => ⟨fun h => absurd h (Nat.not_lt_zero _), fun h => absurd h (Nat.not_lt_zero _), fun h => absurd h (Nat.not_lt_zero _)⟩
      iexact Ho
    iapply (show res m c .aself ⊢ bigSepL [.aself] (res m c) from Entails.refl _); iexact Ka
  isplitl [Kas]; · iexact Kas
  iexact Kar

end Cert.Cube

end
-- ==== Proof.Launch.lean ====
/-
The launch: the eight devices' runs as one execution of the program.
-/
module

public import proofs.«01_k».proof.Proof.Start
public import proofs.«01_k».proof.Proof.Gen.KernelIdeal.Points
public import Idealize.ShloMosaic.Lib.Pipeline.CollectiveSegs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What the pipeline hands the body and gets back -/

/-- The one point of the grid. -/
abbrev pt : Fin cfg0.N := t0_0
theorem fin_pt (t : Fin cfg0.N) : t = pt := fin_N0 t

/-- What a device holds before its body beside the two staged windows; -/
def phiIn (c : Dev nD) : sProp (MT nD τ sig Unit (Elt F) ℕ UU ℕ) :=
  iprop((∃ K, Ctx m K) ∗ (spots c ∗ toks c ∗ bigSepL (kindList c) fun k => cred (tallyAt (cell c k) () (want c k))) ∗ mainMem m c ∗ scratch c)
/-- and after it. -/
def phiOut (c : Dev nD) : sProp (MT nD τ sig Unit (Elt F) ℕ UU ℕ) := bigSepL endRest (res m c)

def dats (_ : Fin 1) (c : Dev nD) : Dat τ (Elt F) Unit ℕ UU ℕ cfg0 c where
  A w := m ((cfg0.win w).arr.view.loc (c : Thread nD τ))
  after w _ := match w with | ⟨0, _⟩ => wst m c | ⟨1, _⟩ => outFin m c
  Φ t := match t with | ⟨0, _⟩ => phiIn m c | ⟨_ + 1, _⟩ => phiOut m c
  q _ := fullShare
  owed t := match t with | ⟨0, _⟩ => owedAt c 0 | ⟨_ + 1, _⟩ => 0

theorem share_full (c : Dev nD) (w : Fin cfg0.W) : (dats m 0 c).share w = fullShare := by unfold Dat.share; split <;> rfl

theorem owns_all (c : Dev nD) (b : Ref sig .tc) (X : b.ty.Contents (Elt F)) :
    (owns (c : Thread nD τ) (Memref.whole b) fullShare X : sProp (MT nD τ sig Unit (Elt F) ℕ UU ℕ))
      = (iprop(∃ f : Buf (Elt F) ((c : Thread nD τ).loc b), ⌜f = X⌝ ∗ (((c : Thread nD τ).loc b) ↦{fullShare} f)) : sProp (MT nD τ sig Unit (Elt F) ℕ UU ℕ)) := by
  unfold owns; simp only [Memref.view_whole, View.read_whole, View.set_whole]

/-! ## The body -/

theorem fetched (t : Fin cfg0.N) : (cfg0.win 0).fetch t = true := fetch0_0 t

theorem before_wts (c : Dev nD) (d) : (dats m 0 c).before (0 : Fin 2) pt d = wst m c := by
  unfold Dat.before; rw [if_pos (fetched pt)]; rfl

/-- A staging buffer, whole. -/
abbrev held (c : Dev nD) (b : Ref sig .tc) (X : Buf (Elt F) ((c : Thread nD τ).loc b)) : sProp (MT nD τ sig Unit (Elt F) ℕ UU ℕ) :=
  iprop(∃ f : Buf (Elt F) ((c : Thread nD τ).loc b), ⌜f = X⌝ ∗ (((c : Thread nD τ).loc b) ↦{fullShare} f))

def bodyIn (c : Dev nD) : sProp (MT nD τ sig Unit (Elt F) ℕ UU ℕ) :=
  iprop(phiIn m c ∗ (dats m 0 c).owesAt () pt.castSucc
    ∗ (∃ d, held c cc0_stg0_0 ((dats m 0 c).before (0 : Fin 2) pt d)) ∗ (∃ d, held c cc0_stg1_0 ((dats m 0 c).before (1 : Fin 2) pt d)))
def bodyOut (c : Dev nD) : sProp (MT nD τ sig Unit (Elt F) ℕ UU ℕ) :=
  iprop(phiOut m c ∗ (dats m 0 c).owesAt () pt.succ ∗ held c cc0_stg0_0 (wst m c) ∗ held c cc0_stg1_0 (outFin m c))

theorem body_in (c : Dev nD) : bodyIn m c ⊢ iprop(∃ K, St m K c (0, start₀)) := by
  unfold bodyIn phiIn Dat.owesAt Pipeline.owesWithin
  iintro ⟨⟨⟨%K, #HC⟩, Hk, Hm, Hs⟩, ⟨%W, -, HO⟩, ⟨%d, ⟨%f, %hf, Hw⟩⟩, ⟨%d', ⟨%g, -, Ho⟩⟩⟩
  rw [before_wts] at hf
  subst hf
  iexists K
  unfold St
  isplitr; · iexact HC
  isplitl [HO]
  · unfold Ow; iexists W; iexact HO
  iapply (start_all m c K)
  isplitr; · iexact HC
  isplitl [Hk]; · iexact Hk
  isplitl [Hm Hs]
  · isplitl [Hs] <;> iassumption
  isplitl [Hw]; · iexact Hw
  iexists g; iexact Ho

theorem body_out (c : Dev nD) : Ended m c ⊢ bodyOut m c := by
  unfold Ended bodyOut phiOut Dat.owesAt Pipeline.owesWithin Ow
  iintro ⟨⟨%W, HO⟩, Hw, Ho, Hr⟩
  isplitl [Hr]; · iexact Hr
  isplitl [HO]
  · iexists W
    isplitr; · ipureintro; exact fun _ _ => Or.inl trivial
    iexact HO
  isplitl [Hw]
  · iexists _; isplitr; · (ipureintro; rfl)
    iexact Hw
  iexists _; isplitr; · (ipureintro; rfl)
  iexact Ho

theorem called : defs₀ (F := F) Proc.tc 0 (pt, cfg0.slots pt) = onArgs (cc0_body (F := F)) := rfl
theorem phi_pre (c : Dev nD) : (dats m 0 c).Φ pt.castSucc = phiIn m c := rfl
theorem phi_post (c : Dev nD) : (dats m 0 c).Φ pt.succ = phiOut m c := rfl
theorem after_w (c : Dev nD) : (dats m 0 c).after (0 : Fin 2) pt = wst m c := rfl
theorem after_o (c : Dev nD) : (dats m 0 c).after (1 : Fin 2) pt = outFin m c := rfl

theorem body_run (c : Dev nD) : bodyIn m c ⊢ WP c (onArgs (cc0_body (F := F))) fun _ => bodyOut m c := by
  refine (body_in m c).trans ?_
  iintro ⟨%K, H⟩
  iapply ((run_body (m := m) (K := K) (c := c)).trans (wp_mono _ _ _ fun _ => body_out m c))
  iexact H

theorem body_obligation (c : Dev nD) : BodyObligation (dats (F := F) m 0 c) (defs₀ (F := F)) 𝒱₀ () Set.univ := fun t => by
  rw [fin_pt t, bigSep_W0, bigSep_W0]
  simp only [owns_all]
  rw [called, phi_pre, phi_post, after_w, after_o]
  have h := body_run m c
  unfold bodyIn bodyOut held at h
  convert h using 2

/-! ## Into the body and out of it -/

/-- What a device brings from outside. -/
def outer (c : Dev nD) : sProp (MT nD τ sig Unit (Elt F) ℕ UU ℕ) :=
  iprop((∃ K, Ctx m K) ∗ (spots c ∗ toks c ∗ bigSepL (kindList c) fun k => cred (tallyAt (cell c k) () (want c k))) ∗ mainMem m c)
/-- The half of its argument no step touches. -/
def kept (c : Dev nD) : sProp (MT nD τ sig Unit (Elt F) ℕ UU ℕ) := ((c : Thread nD τ).loc main_arg0) ↦{fullShare.right} m ((c : Thread nD τ).loc main_arg0)

theorem outer_intro (c : Dev nD) :
    iprop(Pipeline.unscopedRestP Pipeline.Prefetch.none cfg0.spec c (fun b => m ((c : Thread nD τ).loc b)) ∗ levAts L lv
        ∗ Pipeline.launchCred (fun d => owedAt d 0) c ∗ prngReg c (ρ c) ∗ G' m c)
      ⊢ |={Set.univ}=> iprop(outer m c ∗ kept m c) := by
  rw [Pipeline.unscopedRestP_none, unscopedRest0_eq]
  unfold G' outer mainMem kept
  iintro ⟨⟨Hx, M0, M1, M2⟩, Hlev, Hcr, -, ⟨%K, Hrec, Hs, Ht⟩⟩
  ihave Hc := (creds (F := F) c) $$ Hcr
  ihave Hx := (pointsTo_share (PosShare.mem_left_op_right fullShare)).1 $$ Hx
  icases Hx with ⟨Xl, Xr⟩
  imodintro
  isplitr [Xr]
  · isplitl [Hrec Hlev]
    · iexists K
      unfold Ctx records
      icases Hrec with ⟨HI, HR⟩
      isplitl [HI]; · iexact HI
      isplitl [HR] <;> iassumption
    isplitl [Hs Ht Hc]
    · isplitl [Hs]; · iexact Hs
      isplitl [Ht] <;> iassumption
    isplitl [Xl]; · iexact Xl
    isplitl [M0]; · iexists _; iexact M0
    isplitl [M1]; · iexists _; iexact M1
    iexists _; iexact M2
  iexact Xr

theorem enter (c : Dev nD) :
    iprop(outer m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phiIn m c from rfl, scopedRest0_eq]
  unfold outer phiIn scratch
  iintro ⟨⟨HC, Hk, Hm⟩, -, Hs⟩
  isplitl [HC]; · iexact HC
  isplitl [Hk]; · iexact Hk
  isplitl [Hm] <;> iassumption

theorem end_parts (c : Dev nD) : bigSepL endRest (res m c)
    = iprop(bigSepL [.rows, .slots 0, .slots 1, .cbar, .cstage 0, .cstage 1] (res m c)
      ∗ (bigSepL (List.finRange 3 ×ˢ List.finRange 4) fun p => res m c (.land p.1 p.2))
      ∗ (bigSepL allJI fun p => res m c (.csend p.1 p.2)) ∗ (bigSepL allJI fun p => res m c (.crecv p.1 p.2))
      ∗ (bigSepL (List.finRange 8) fun k => res m c (.casend k)) ∗ bigSepL (List.finRange 8) fun k => res m c (.carecv k)) := by
  unfold endRest
  simp only [List.append_assoc, bigSepL_append, bigSepL_map]

theorem land_parts (Φ : Fin 3 × Fin 4 → sProp (MT nD τ sig Unit (Elt F) ℕ UU ℕ)) : bigSepL (List.finRange 3 ×ˢ List.finRange 4) Φ
    = iprop((bigSepL (List.finRange 4) fun k => Φ (0, k)) ∗ (bigSepL (List.finRange 4) fun k => Φ (1, k)) ∗ bigSepL (List.finRange 4) fun k => Φ (2, k)) := by
  rw [show List.finRange 3 ×ˢ List.finRange 4 = (List.finRange 4).map (fun k => ((0 : Fin 3), k)) ++ (List.finRange 4).map (fun k => ((1 : Fin 3), k))
      ++ (List.finRange 4).map (fun k => ((2 : Fin 3), k)) from by decide]
  simp only [List.append_assoc, bigSepL_append, bigSepL_map]

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = phiOut m c from rfl, scopedRest0_eq]
  unfold phiOut
  rw [end_parts, land_parts]
  iintro ⟨H0, ⟨L0, L1, L2⟩, Hs, Hr, Ha, Hb⟩
  ihave H0 := (show bigSepL [.rows, .slots 0, .slots 1, .cbar, .cstage 0, .cstage 1] (res m c)
    ⊢ iprop(res m c .rows ∗ res m c (.slots 0) ∗ res m c (.slots 1) ∗ res m c .cbar ∗ bigSepL [Res.cstage 0, Res.cstage 1] (res m c)) from Entails.refl _) $$ H0
  icases H0 with ⟨Hrow, Hs0, Hs1, Hbar, Hst⟩
  ihave HS := (show iprop(res m c .cbar ∗ (bigSepL allJI fun p => res m c (.csend p.1 p.2)) ∗ (bigSepL allJI fun p => res m c (.crecv p.1 p.2))
      ∗ (bigSepL (List.finRange 8) fun k => res m c (.casend k)) ∗ (bigSepL (List.finRange 8) fun k => res m c (.carecv k)) ∗ bigSepL [Res.cstage 0, Res.cstage 1] (res m c))
    ⊢ iprop(unscopedSems0 c ∗ Pipeline.ownSems0 osem c) from Entails.of_eq ((kinds_parts c fun k => (semVal (cell c k) 0 : sProp (MT nD τ sig Unit (Elt F) ℕ UU ℕ))).symm.trans ((kinds_split c _).symm.trans (sems_eq c).symm))) $$ [Hbar Hs Hr Ha Hb Hst]
  · isplitl [Hbar]; · iexact Hbar
    isplitl [Hs]; · iexact Hs
    isplitl [Hr]; · iexact Hr
    isplitl [Ha]; · iexact Ha
    isplitl [Hb]; · iexact Hb
    iexact Hst
  icases HS with ⟨HU, HS⟩
  isplitl [HU]; · iexact HU
  isplitl [HS]; · iexact HS
  isplitl [L0]
  · iapply (join_land0 m c)
    iapply (bigSepL_mono fun k _ => show res m c (.land 0 k) ⊢ AnyP c ⟨.vmem, landM 0 k⟩ from any_of_has c _ _)
    iexact L0
  isplitl [L1]
  · iapply (join_land1 m c)
    iapply (bigSepL_mono fun k _ => show res m c (.land 1 k) ⊢ AnyP c ⟨.vmem, landM 1 k⟩ from any_of_has c _ _)
    iexact L1
  isplitl [L2]
  · iapply (join_land2 m c)
    iapply (bigSepL_mono fun k _ => show res m c (.land 2 k) ⊢ AnyP c ⟨.vmem, landM 2 k⟩ from any_of_has c _ _)
    iexact L2
  isplitl [Hs0 Hs1]
  · iapply (join_stg m c)
    iapply (show iprop(res m c (.slots 0) ∗ res m c (.slots 1)) ⊢ bigSepL (List.finRange 2) fun k => (AnyP c ⟨.vmem, stgM 0 k⟩ : sProp (MT nD τ sig Unit (Elt F) ℕ UU ℕ)) from by
      rw [show List.finRange 2 = [0, 1] from by decide]; exact Entails.refl _)
    isplitl [Hs0] <;> iassumption
  iapply (show res m c .rows ⊢ iprop(∃ f : Buf (Elt F) ((c : Thread nD τ).loc cc0_scratch4), (((c : Thread nD τ).loc cc0_scratch4) ↦{fullShare} f)) from join_all m c)
  iexact Hrow

theorem waits (c : Dev nD) : (levAts L lv : sProp (MT nD τ sig Unit (Elt F) ℕ UU ℕ)) ⊢ Pipeline.cellsWaits cfgs (dats m) () 0 c :=
  Pipeline.cellsWaits_intro cfgs (dats m) () 0 c fun w s t => by
    have hv : lv ((c : Thread nD τ), SemLoc.dma ((cfg0.spec w).sem s)) () ≤ 0 := by revert c w s; decide
    rcases t with ⟨_ | n, ht⟩
    · exact mayWait c _ 0 0 hv (by decide)
    · exact mayWait c _ 0 31 hv (by decide)

/-! ## The run -/

/-- What window `w`'s array holds at the end. -/
def finalA (c : Dev nD) (w : Fin cfg0.W) : Buf (Elt F) ((cfg0.win w).arr.view.loc (c : Thread nD τ)) := (dats m 0 c).arrAt w cfg0.N

set_option maxRecDepth 8000 in
/-- Every fair run of the eight devices ends, without a fault, with the windows' arrays as computed, the other argument
    unchanged and every counter at zero. -/
theorem run_main : θ_run defs (onTc (τ := τ) (main (F := F))) ⟨m, fun _ => 0, ρ⟩ (fun r =>
    (∀ c : Dev nD, (∀ w, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_full m)
    (hdistinct := winFacts0.arr_inj)
    (O₀ := fun d => owedAt d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := outer m) (Y := fun c => unscopedSems0 c) (Z := kept m)
    (hX := outer_intro m ρ) (hin := enter m) (hout := leave m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨Hu, Hk, HSI⟩
      unfold kept
      ihave %hk := (SI_pointsTo_agree) $$ [HSI Hk]
      · isplitl [HSI]; · iexact HSI
        iexact Hk
      imod (Pipeline.unscopedSems0_read (X := unscopedSems0 c) (c := c) fupd_intro s') $$ [Hu HSI] with ⟨%hs, HSI⟩
      · isplitl [Hu] <;> iassumption
      imodintro
      isplitr
      · ipureintro; exact ⟨funext fun i => hk i (Finset.mem_univ i), hs⟩
      iexact HSI)
    (hQ := fun _ h hs => ⟨fun c => ⟨(h c).1, (h c).2.2.1⟩, sem_eq_zero hs fun c => (h c).2.2.2⟩)

/-- The staged argument is left as it was. -/
theorem finalA_w (c : Dev nD) : finalA m c (0 : Fin 2) = m ((c : Thread nD τ).loc main_arg1) := (dats (F := F) m 0 c).arrAt_in (0 : Fin 2) rfl _

end Cert.Cube

end
-- ==== Proof.Frames.lean ====
/-
The kernel's runs end with the arguments unchanged and every counter at zero, at either reading of its text.
-/
module

public import proofs.«01_k».proof.Proof.Launch
public import proofs.«01_k».proof.Proof.Gen.Kernel
public import proofs.«01_k».proof.Defs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! The two frames of the kernel. -/

set_option maxRecDepth 10000

theorem arg1_kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2, ((h.1 c).1 (0 : Fin 2)).trans (finalA_w m c)⟩, h.2⟩) (run_main m ρ)

theorem frame_kernelIdeal : Cert.quiescent_KernelIdeal (hKernelIdeal := Cert.KernelIdeal.Gen.facts) := fun m ρ _ => arg1_kept m ρ

/-- The two readings of the text have one table of bodies. -/
theorem bodies_eq : Cert.Kernel.defs₀ (F := F) = Cert.KernelIdeal.defs₀ (F := F) := by
  unfold Cert.Kernel.defs₀ Cert.KernelIdeal.defs₀
  refine congrArg (Defs.onTc (nD := nD) (τ := τ) (sig := sig) (Λ := Λ₀)) (funext fun l => ?_)
  match l with
  | 0 => exact funext fun ⟨t, s⟩ => rfl

theorem defs_eq : Cert.Kernel.defs (F := F) = Cert.KernelIdeal.defs (F := F) :=
  congrArg (Idealize.ShloMosaic.Pipeline.defs pcfgs) bodies_eq

theorem frame_kernel : Cert.quiescent_Kernel (hKernel := Cert.Kernel.Gen.facts) := fun m ρ _ => by
  have h := arg1_kept (F := Bits) m ρ
  rw [← defs_eq] at h
  exact h

end Cert.Cube

end
-- ==== Proof.Value.lean ====
/-
What a device ends with, over the extended reals: the blocks of the product as sums, the maximum over all of them, and
the result at an index.
-/
module

public import proofs.«01_k».proof.Proof.Contents
public import Idealize.ShloMosaic.Lib.Pointwise

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-! ## The blocks of the product -/

theorem prod0 (X : S176x4096.Idx → Elt Ideal .f32) (W : Vec Ideal S4096x256 .f32) (i : S176x256.Idx) :
    k0_pay2 (up0 X) W i = ∑ k : Fin 4096, X (ix2 (i 0) k) * W (ix2 k (i 1)) := by
  unfold k0_pay2 up0
  pointwise

theorem prod1 (X : S168x4096.Idx → Elt Ideal .f32) (W : Vec Ideal S4096x256 .f32) (i : S168x256.Idx) :
    k0_pay4 (up1 X) W i = ∑ k : Fin 4096, X (ix2 (i 0) k) * W (ix2 k (i 1)) := by
  unfold k0_pay4 up1
  pointwise

/-! ## The maxima -/

theorem lowest : Ideal.ofBits .f32 0xFF800000#32 = (⊥ : EReal) := by simp [Ideal.ofBits, Ideal.ieee]

/-- A maximum taken of everything is at most `u` when everything is. -/
theorem max_le_iff {s : Shape} {axes : List (Fin s.rank)} (x : FVec Ideal s .f32) (h : s.Reduces axes S1) (j : S1.Idx) (u : EReal) :
    multiReduction .maximumf axes S1 x 0xFF800000#32 h (.inl rfl) rfl j ≤ u ↔ ∀ i, x i ≤ u := by
  refine (iff_of_eq (congrArg (· ≤ u) (multiReduction_maximumf_eq_fold x _ h _ _ j))).trans ?_
  have hall : (Finset.univ.filter fun i => h.drop i = j) = Finset.univ := Finset.filter_true_of_mem fun i _ => funext fun a => by
    match a with | ⟨0, _⟩ => exact Subsingleton.elim (α := Fin 1) _ _
  rw [hall]
  refine (Finset.fold_max_le (b := Ideal.ofBits .f32 0xFF800000#32) (f := x) u).trans ?_
  rw [lowest]
  simp

theorem cast_le_iff {s t : Shape} (x : s.Idx → EReal) (h : s.ShapeCasts t) (u : EReal) : (∀ i, shapeCast t x h i ≤ u) ↔ ∀ i, x i ≤ u :=
  ⟨fun H i => by simpa [shapeCast] using H ((Shape.reshapeEquiv h).symm i), fun H i => H _⟩

theorem step0_le (a : EReal) (X : Vec Ideal S1x176x4096 .f32) (W : Vec Ideal S4096x256 .f32) (u : EReal) :
    k0_pay9 (F := Ideal) a X W ≤ u ↔ a ≤ u ∧ ∀ i, k0_pay2 X W i ≤ u := by
  unfold k0_pay9
  refine _root_.max_le_iff.trans (and_congr Iff.rfl ?_)
  refine (max_le_iff _ _ _ u).trans (cast_le_iff _ _ u)
theorem step1_le (a : EReal) (X : Vec Ideal S1x168x4096 .f32) (W : Vec Ideal S4096x256 .f32) (u : EReal) :
    k0_pay5 (F := Ideal) a X W ≤ u ↔ a ≤ u ∧ ∀ i, k0_pay4 X W i ≤ u := by
  unfold k0_pay5
  refine _root_.max_le_iff.trans (and_congr Iff.rfl ?_)
  refine (max_le_iff _ _ _ u).trans (cast_le_iff _ _ u)

theorem stepMax_le (c : Dev nD) (a : EReal) (j : Fin 3) (d : Dev nD) (u : EReal) :
    stepMax (F := Ideal) m c a j d ≤ u ↔ a ≤ u ∧ ∀ i, yD m c j d i ≤ u := by
  match j with
  | 0 => exact step0_le a _ _ u
  | 1 => exact step1_le a _ _ u
  | 2 => exact step1_le a _ _ u

theorem zeroWord : Ideal.ofBits .f32 0x00000000#32 = (0 : EReal) := Ideal.ofBits_zero_f32

theorem run_le (c : Dev nD) (n : ℕ) (u : EReal) :
    run (F := Ideal) m c n ≤ u ↔ 0 ≤ u ∧ ∀ k < n, ∀ i, yD m c (uj k) (org (uj k) (us k) c) i ≤ u := by
  induction n with
  | zero =>
    show Ideal.ofBits .f32 0x00000000#32 ≤ u ↔ _
    rw [zeroWord]; simp
  | succ n ih =>
    refine (stepMax_le m c _ _ _ u).trans ?_
    rw [ih, and_assoc]
    refine and_congr Iff.rfl ⟨fun ⟨h, h'⟩ k hk => ?_, fun h => ⟨fun k hk => h k (by omega), h n (by omega)⟩⟩
    rcases Nat.lt_succ_iff_lt_or_eq.mp hk with hk | rfl
    · exact h k hk
    · exact h'

theorem org_onto (j : Fin 3) (c d : Dev nD) : ∃ n < 24, uj n = j ∧ org j (us n) c = d := by
  obtain ⟨s, hs⟩ := org_surj j c d
  have hn : us (3 * s.val + j.val) = s := Fin.ext (by show (3 * s.val + j.val) / 3 % 8 = s.val; omega)
  exact ⟨3 * s.val + j.val, by omega, Fin.ext (by show (3 * s.val + j.val) % 3 = j.val; omega), by rw [hn]; exact hs⟩

theorem run_all (c : Dev nD) (u : EReal) : run (F := Ideal) m c 24 ≤ u ↔ 0 ≤ u ∧ ∀ j d i, yD m c j d i ≤ u := by
  rw [run_le]
  refine and_congr Iff.rfl ⟨fun h j d => ?_, fun h k _ => h _ _⟩
  obtain ⟨n, hn, rfl, rfl⟩ := org_onto j c d
  exact h n hn

theorem row_le (a : EReal) (i : S1x128.Idx) (u : EReal) : k0_pay51 (F := Ideal) a i ≤ u ↔ a ≤ u ∧ 0 ≤ u := by
  show max a (Ideal.ofBits .f32 0x00000000#32) ≤ u ↔ _
  rw [zeroWord, _root_.max_le_iff]
theorem rows_le (R : Vec Ideal S8x128 .f32) (u : EReal) : k0_pay52 (F := Ideal) R ≤ u ↔ ∀ i, R i ≤ u := by
  unfold k0_pay52
  exact (max_le_iff _ _ _ u).trans (cast_le_iff _ _ u)

theorem rowVal_le (c : Dev nD) (i : S1x128.Idx) (u : EReal) : rowVal (F := Ideal) m c i ≤ u ↔ 0 ≤ u ∧ ∀ j d i, yD m c j d i ≤ u := by
  unfold rowVal
  rw [row_le, run_all]
  exact ⟨fun h => h.1, fun h => ⟨h, h.1⟩⟩

theorem top_le (u : EReal) : top (F := Ideal) m ≤ u ↔ 0 ≤ u ∧ ∀ c j d i, yD m c j d i ≤ u := by
  unfold top
  refine (rows_le _ u).trans ⟨fun h => ?_, fun h i => (rowVal_le m _ _ u).mpr ⟨h.1, h.2 _⟩⟩
  have h' (c : Dev nD) := (rowVal_le m c _ u).mp (h (ix2 (n0 := 8) (n1 := 128) c 0))
  exact ⟨(h' 0).1, fun c => (h' c).2⟩

/-! ## The result at an index -/

theorem outFin_apply (c : Dev nD) (i : S4096x256.Idx) :
    outFin (F := Ideal) m c i = min (Ideal.div (max (yAll m c i) 0) (Ideal.div (top m) (Ideal.ofBits .f32 0x43E00000#32)))
      (Ideal.ofBits .f32 0x43E00000#32) * Ideal.div (top m) (Ideal.ofBits .f32 0x43E00000#32) := by
  unfold outFin k0_pay1 k0_pay54 k0_pay55 k0_pay53
  pointwise

end Cert.Cube

end
-- ==== Proof.Whole.lean ====
/-
What the reference leaves, over the extended reals.
-/
module

public import proofs.«01_k».proof.Proof.Gen.ReferenceIdeal.Value
public import Idealize.ShloMosaic.Lib.StableHlo.ReadAt
public import Idealize.ShloMosaic.Lib.Pointwise
public import Idealize.ShloMosaic.PureOps.Ideal.Laws

@[expose] public section

noncomputable section

namespace Cert.Whole

open Cert.ReferenceIdeal Cert.ReferenceIdeal.Gen
open Idealize.ShloMosaic
open Idealize.ShloMosaic.TcCoe

variable (m : (ℓ : Loc nD τ sig) → Buf (Elt Ideal) ℓ) (c : Dev nD)

/-- The product at row `r`, column `q`. -/
def Y (A : S4096x4096.Idx → EReal) (B : S4096x2048.Idx → EReal) (r : Fin 4096) (q : Fin 2048) : EReal :=
  ∑ k : Fin 4096, A (ix2 r k) * B (ix2 k q)

/-- The greatest absolute value of the product with its negative elements replaced by zero. -/
def peak (A : S4096x4096.Idx → EReal) (B : S4096x2048.Idx → EReal) : EReal := Finset.fold max (Ideal.ofBits .f32 0xFF800000#32)
  (fun x : Fin 4096 × Fin 2048 => (FloatOps.absf (F := Ideal) (φ := .f32) (max (Y A B x.1 x.2) 0) : EReal)) Finset.univ

/-- The unit of the rounded values. -/
def scale (A : S4096x4096.Idx → EReal) (B : S4096x2048.Idx → EReal) : EReal := Ideal.div (peak A B) (Ideal.ofBits .f32 0x43E00000#32)

theorem fold_le {α : Type} [Fintype α] (b : EReal) (f : α → EReal) (u : EReal) : Finset.fold max b f Finset.univ ≤ u ↔ b ≤ u ∧ ∀ x, f x ≤ u := by
  refine (Finset.fold_max_le u).trans ?_
  simp

theorem peak_le (A : S4096x4096.Idx → EReal) (B : S4096x2048.Idx → EReal) (u : EReal) : peak A B ≤ u ↔ ∀ r q, max (Y A B r q) 0 ≤ u := by
  have h0 : Ideal.ofBits .f32 0xFF800000#32 = (⊥ : EReal) := by simp [Ideal.ofBits, Ideal.ieee]
  have ha (x : EReal) (hx : 0 ≤ x) : (FloatOps.absf (F := Ideal) (φ := .f32) x : EReal) = x :=
    max_eq_left ((EReal.neg_le_neg_iff.mpr hx).trans (by simpa using hx))
  unfold peak
  rw [fold_le, h0]
  constructor
  · intro h r q
    exact (ha _ (le_max_right _ _)).symm.trans_le (h.2 (r, q))
  · intro h
    refine ⟨bot_le, fun x => (ha _ (le_max_right _ _)).trans_le (h x.1 x.2)⟩

/-- The arrays the reference is given. -/
def arr0 : S4096x4096.Idx → EReal := m ((c : Thread nD τ).loc main_arg0)
def arr1 : S4096x2048.Idx → EReal := m ((c : Thread nD τ).loc main_arg1)

theorem v9_at (i : S4096x2048.Idx) : (V m c main_v9 i : EReal) = min (Ideal.ofBits .f32 0x43E00000#32)
    (max (Ideal.ofBits .f32 0xC3E00000#32) (Ideal.div (max (Y (arr0 m c) (arr1 m c) (i 0) (i 1)) 0) (scale (arr0 m c) (arr1 m c)))) := by
  show StableHlo.after _ (fun b => m (c, b)) (Proc.devRef .tc main_v9) i = _
  after_reads_at
  rfl
theorem v10_at (i : S1x1.Idx) : (V m c main_v10 i : EReal) = scale (arr0 m c) (arr1 m c) := by
  show StableHlo.after _ (fun b => m (c, b)) (Proc.devRef .tc main_v10) i = _
  after_reads_at
  rfl

theorem blk0 (f : S4096x2048.Idx → Elt Ideal .fp8e4m3) (t : Fin cfg0.N) : ((cfg0.win 0).blk t).view.read (Elt Ideal) f = f := by
  funext i
  refine congrArg f (funext fun a => Fin.ext ?_)
  fin_cases t
  fin_cases a
  · show 0 + 1 * (i 0).val = (i 0).val; omega
  · show 0 + 1 * (i 1).val = (i 1).val; omega
theorem blk1 (f : S1x1.Idx → Elt Ideal .f32) (t : Fin cfg0.N) : ((cfg0.win 1).blk t).view.read (Elt Ideal) f = f := by
  funext i
  refine congrArg f (funext fun a => Fin.ext ?_)
  fin_cases t
  fin_cases a
  · show 0 + 1 * (i 0).val = (i 0).val; omega
  · show 0 + 1 * (i 1).val = (i 1).val; omega
theorem blk2 (f : S4096x2048.Idx → Elt Ideal .f32) (t : Fin cfg0.N) : ((cfg0.win 2).blk t).view.read (Elt Ideal) f = f := by
  funext i
  refine congrArg f (funext fun a => Fin.ext ?_)
  fin_cases t
  fin_cases a
  · show 0 + 1 * (i 0).val = (i 0).val; omega
  · show 0 + 1 * (i 1).val = (i 1).val; omega

/-- What the reference's result holds. -/
theorem result_at (i : S4096x2048.Idx) : ((dats m 0 c).arrAt 2 cfg0.N i : EReal) = min (Ideal.ofBits .f32 0x43E00000#32)
    (max (Ideal.ofBits .f32 0xC3E00000#32) (Ideal.div (max (Y (arr0 m c) (arr1 m c) (i 0) (i 1)) 0) (scale (arr0 m c) (arr1 m c)))) * scale (arr0 m c) (arr1 m c) := by
  have h1 := Value.blocks2 m c t0_0 (flush0_2 t0_0)
  rw [blk2, Value.flushed2] at h1
  rw [h1]
  have e0 : iblk m c 0 t0_0 = V m c main_v9 := blk0 _ _
  have e1 : iblk m c 1 t0_0 = V m c main_v10 := blk1 _ _
  rw [e0, e1]
  have e : out0_2 (V m c main_v9) (V m c main_v10) i = _ := Value.canon2_eq _ _ i
  refine Eq.trans e ?_
  show (fun x y : EReal => x * y) (View.ld (V m c main_v9) r0_0 (Value.ix2_0 i)) (View.ld (V m c main_v10) r0_1 (Value.ix2_1 i)) = _
  have h9 : View.ld (V m c main_v9) r0_0 (Value.ix2_0 i) = V m c main_v9 i := congrArg (V m c main_v9) (funext fun a => Fin.ext (by
    match a with
    | ⟨0, _⟩ => show 0 + 1 * (i 0).val = (i 0).val; omega
    | ⟨1, _⟩ => show 0 + 1 * (i 1).val = (i 1).val; omega))
  exact congrArg₂ (fun x y : EReal => x * y) (h9.trans (v9_at m c i)) (v10_at m c _)

end Cert.Whole

end
-- ==== Proof.Meet.lean ====
/-
The devices' results are the pieces of the reference's, over the extended reals: the blocks of the product make up the
whole product, the maximum over the devices is the maximum over it, and the two ways of cutting the quotients agree.
-/
module

public import proofs.«01_k».proof.Proof.Value
public import proofs.«01_k».proof.Proof.Whole

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Whole (Y peak scale peak_le)

variable (m : (ℓ : Loc nD τ sig) → Buf (Elt Ideal) ℓ)
variable (A : Cert.ReferenceIdeal.S4096x4096.Idx → EReal) (B : Cert.ReferenceIdeal.S4096x2048.Idx → EReal)

/-- Each device holds its rows of `A`; -/
def RowsOf : Prop := ∀ c : Dev nD, m ((c : Thread nD τ).loc main_arg0) = Layout.block ⟨2, ![512, 4096]⟩ ⟨2, ![4096, 4096]⟩ 0 8 c A
/-- its columns of `B`. -/
def ColsOf : Prop := ∀ c : Dev nD, m ((c : Thread nD τ).loc main_arg1) = Layout.block ⟨2, ![4096, 256]⟩ ⟨2, ![4096, 2048]⟩ 1 8 c B

variable {m A B}

/-- An element of the rows; -/
theorem row_at (hA : RowsOf m A) (d : Dev nD) (i : S512x4096.Idx) (r : Fin 4096) (k : Fin 4096) (hr : r.val = d.val * 512 + (i 0).val)
    (hk : k.val = (i 1).val) : (m ((d : Thread nD τ).loc main_arg0) i : EReal) = A (ix2 r k) := by
  refine (congrFun (hA d) i).trans ?_
  refine congrArg A (funext fun a => Fin.ext ((Layout.Tiles.idx_val _ d i a).trans ?_))
  match a with
  | ⟨0, _⟩ => exact hr.symm
  | ⟨1, _⟩ => exact hk.symm
/-- of the columns. -/
theorem col_at (hB : ColsOf m B) (c : Dev nD) (i : S4096x256.Idx) (k : Fin 4096) (q : Fin 2048) (hk : k.val = (i 0).val)
    (hq : q.val = c.val * 256 + (i 1).val) : (m ((c : Thread nD τ).loc main_arg1) i : EReal) = B (ix2 k q) := by
  refine (congrFun (hB c) i).trans ?_
  refine congrArg B (funext fun a => Fin.ext ((Layout.Tiles.idx_val _ c i a).trans ?_))
  match a with
  | ⟨0, _⟩ => exact hk.symm
  | ⟨1, _⟩ => exact hq.symm

theorem wst_at (hB : ColsOf m B) (c : Dev nD) (k : Fin 4096) (j : Fin 256) (q : Fin 2048) (hq : q.val = c.val * 256 + j.val) :
    wst m c (ix2 k j) = B (ix2 k q) :=
  col_at hB c _ k q (by show k.val = 0 + 1 * k.val; omega) (by show q.val = _ + (0 + 1 * j.val); omega)

/-- Row `r` of a part of a device's rows, against the columns. -/
theorem yD_at (hA : RowsOf m A) (hB : ColsOf m B) (c d : Dev nD) (j : Fin 3) (i : (shO j).Idx) (r : Fin 4096) (q : Fin 2048)
    (hr : r.val = d.val * 512 + base j + (i ⟨0, by fin_cases j <;> decide⟩).val)
    (hq : q.val = c.val * 256 + (i ⟨1, by fin_cases j <;> decide⟩).val) : yD m c j d i = Y A B r q := by
  match j with
  | 0 =>
    refine (prod0 _ _ i).trans (Finset.sum_congr rfl fun k _ => congrArg₂ (fun x y : EReal => x * y) ?_ (wst_at hB c k _ q hq))
    exact row_at hA d _ r k (by rw [hr]; show d.val * 512 + 0 + (i 0).val = d.val * 512 + (0 + 1 * (i 0).val); omega)
      (by show k.val = 0 + 1 * k.val; omega)
  | 1 =>
    refine (prod1 _ _ i).trans (Finset.sum_congr rfl fun k _ => congrArg₂ (fun x y : EReal => x * y) ?_ (wst_at hB c k _ q hq))
    exact row_at hA d _ r k (by rw [hr]; show d.val * 512 + 176 + (i 0).val = d.val * 512 + (176 + 1 * (i 0).val); omega)
      (by show k.val = 0 + 1 * k.val; omega)
  | 2 =>
    refine (prod1 _ _ i).trans (Finset.sum_congr rfl fun k _ => congrArg₂ (fun x y : EReal => x * y) ?_ (wst_at hB c k _ q hq))
    exact row_at hA d _ r k (by rw [hr]; show d.val * 512 + 344 + (i 0).val = d.val * 512 + (344 + 1 * (i 0).val); omega)
      (by show k.val = 0 + 1 * k.val; omega)

/-- The whole product on a device. -/
theorem yAll_at (hA : RowsOf m A) (hB : ColsOf m B) (c : Dev nD) (i : S4096x256.Idx) (r : Fin 4096) (q : Fin 2048) (hr : r.val = (i 0).val)
    (hq : q.val = c.val * 256 + (i 1).val) : yAll m c i = Y A B r q := by
  unfold yAll
  dsimp only
  split
  · exact yD_at hA hB c _ 0 _ r q (by show r.val = (i 0).val / 512 * 512 + 0 + (i 0).val % 512; omega) hq
  · split
    · exact yD_at hA hB c _ 1 _ r q (by show r.val = (i 0).val / 512 * 512 + 176 + ((i 0).val % 512 - 176); omega) hq
    · exact yD_at hA hB c _ 2 _ r q (by show r.val = (i 0).val / 512 * 512 + 344 + ((i 0).val % 512 - 344); omega) hq

/-- Everything the devices compute is an element of the product, -/
theorem yD_mem (hA : RowsOf m A) (hB : ColsOf m B) (c d : Dev nD) (j : Fin 3) (i : (shO j).Idx) : ∃ r q, yD m c j d i = Y A B r q := by
  have hc : c.val < 8 := c.isLt
  have hd : d.val < 8 := d.isLt
  match j, i with
  | 0, i =>
    have h0 : (i 0).val < 176 := (i 0).isLt
    have h1 : (i 1).val < 256 := (i 1).isLt
    exact ⟨⟨d.val * 512 + 0 + (i 0).val, by omega⟩, ⟨c.val * 256 + (i 1).val, by omega⟩, yD_at hA hB c d 0 i _ _ rfl rfl⟩
  | 1, i =>
    have h0 : (i 0).val < 168 := (i 0).isLt
    have h1 : (i 1).val < 256 := (i 1).isLt
    exact ⟨⟨d.val * 512 + 176 + (i 0).val, by omega⟩, ⟨c.val * 256 + (i 1).val, by omega⟩, yD_at hA hB c d 1 i _ _ rfl rfl⟩
  | 2, i =>
    have h0 : (i 0).val < 168 := (i 0).isLt
    have h1 : (i 1).val < 256 := (i 1).isLt
    exact ⟨⟨d.val * 512 + 344 + (i 0).val, by omega⟩, ⟨c.val * 256 + (i 1).val, by omega⟩, yD_at hA hB c d 2 i _ _ rfl rfl⟩

/-- and each element of the product is computed by some device. -/
theorem Y_le (hA : RowsOf m A) (hB : ColsOf m B) (u : EReal) (h : ∀ c j d i, yD m c j d i ≤ u) (r : Fin 4096) (q : Fin 2048) : Y A B r q ≤ u := by
  have hq : q.val < 2048 := q.isLt
  let c : Dev nD := ⟨q.val / 256, by show _ < 8; omega⟩
  refine (yAll_at hA hB c (ix2 (n0 := 4096) (n1 := 256) r ⟨q.val % 256, Nat.mod_lt _ (by decide)⟩) r q rfl ?_).symm.trans_le ?_
  · show q.val = q.val / 256 * 256 + q.val % 256; omega
  · unfold yAll
    dsimp only
    split
    · exact h _ _ _ _
    · split <;> exact h _ _ _ _

/-- So the devices' maximum is the maximum over the product. -/
theorem top_eq (hA : RowsOf m A) (hB : ColsOf m B) : top (F := Ideal) m = peak A B := by
  refine eq_of_forall_ge_iff fun u => ?_
  rw [top_le, peak_le]
  constructor
  · exact fun h r q => max_le (Y_le hA hB u h.2 r q) h.1
  · intro h
    refine ⟨(le_max_right _ _).trans (h 0 0), fun c j d i => ?_⟩
    obtain ⟨r, q, e⟩ := yD_mem hA hB c d j i
    exact e.trans_le ((le_max_left _ _).trans (h r q))

theorem peak_nonneg : 0 ≤ peak A B := (le_max_right _ _).trans ((peak_le A B _).mp le_rfl 0 0)

/-! ## The two ways of rounding agree -/

theorem unit_pos : 0 < Ideal.ofBits .f32 0x43E00000#32 := by
  simp only [Ideal.ofBits, Ideal.ieee]
  simp
  norm_cast
  positivity
theorem low_neg : Ideal.ofBits .f32 0xC3E00000#32 ≤ 0 := by
  simp only [Ideal.ofBits, Ideal.ieee]
  simp
  norm_cast
  positivity

theorem div_nonneg {x y : EReal} (hx : 0 ≤ x) (hy : 0 ≤ y) (h : y ≠ 0) : 0 ≤ Ideal.div x y := by
  unfold Ideal.div
  rw [if_neg h]
  exact mul_nonneg hx (EReal.inv_nonneg_of_nonneg hy)

/-- Cutting a nonnegative quotient at `k` from above is cutting it on both sides, once multiplied by the divisor. -/
theorem cut_same (y p k n : EReal) (hy : 0 ≤ y) (hp : 0 ≤ p) (hk : 0 < k) (hn : n ≤ 0) :
    min (Ideal.div y (Ideal.div p k)) k * Ideal.div p k = min k (max n (Ideal.div y (Ideal.div p k))) * Ideal.div p k := by
  by_cases h : Ideal.div p k = 0
  · rw [h, mul_zero, mul_zero]
  · rw [max_eq_right (hn.trans (div_nonneg hy (div_nonneg hp hk.le hk.ne') h)), min_comm]

/-- What a device ends with, at an index. -/
theorem outFin_at (hA : RowsOf m A) (hB : ColsOf m B) (c : Dev nD) (i : S4096x256.Idx) (r : Fin 4096) (q : Fin 2048) (hr : r.val = (i 0).val)
    (hq : q.val = c.val * 256 + (i 1).val) : outFin (F := Ideal) m c i = min (Ideal.ofBits .f32 0x43E00000#32)
      (max (Ideal.ofBits .f32 0xC3E00000#32) (Ideal.div (max (Y A B r q) 0) (scale A B))) * scale A B := by
  rw [outFin_apply, yAll_at hA hB c i r q hr hq, top_eq hA hB]
  exact cut_same _ _ _ _ (le_max_right _ _) peak_nonneg unit_pos low_neg

end Cert.Cube

end
-- ==== Proof.Agree.lean ====
/-
The kernel's result on eight devices and the reference's on one agree, over the extended reals.
-/
module

public import proofs.«01_k».proof.Proof.Launch
public import proofs.«01_k».proof.Proof.Meet
public import proofs.«01_k».proof.Defs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

theorem idx_inj (t t' : Fin cfg0.N) (_ : win0_1.index t = win0_1.index t') : t = t' := (fin_pt t).trans (fin_pt t').symm

theorem disj (t t' : Fin cfg0.N) (_ : (cfg0.win 1).flush t = true) (_ : (cfg0.win 1).flush t' = true) (h : t ≠ t') :
    Disjoint ((cfg0.win 1).blk t).view.set ((cfg0.win 1).blk t').view.set :=
  (cfg0.win 1).disjoint_blk fun e => h (idx_inj t t' e)

theorem blk_out (f : S4096x256.Idx → Elt F .f32) (t : Fin cfg0.N) : ((cfg0.win 1).blk t).view.read (Elt F) f = f := by
  funext i
  refine congrArg f (funext fun a => Fin.ext ?_)
  fin_cases t
  fin_cases a
  · show 0 + 1 * (i 0).val = (i 0).val; omega
  · show 0 + 1 * (i 1).val = (i 1).val; omega

/-- The result array ends with what the body leaves in its window. -/
theorem finalA_o (c : Dev nD) : finalA m c (1 : Fin 2) = outFin m c := by
  have h := (dats m 0 c).read_blk_arrAt_eq_flushed 1 disj cfg0.N pt pt.isLt (flush0_1 pt)
  rw [blk_out] at h
  exact h.trans (after_o m c)

/-- On one device over the whole arrays and on eight over their parts, the results agree. -/
theorem agree : Cert.algebraic_KernelIdeal_ReferenceIdeal (hKernelIdeal := Cert.KernelIdeal.Gen.facts)
    (hReferenceIdeal := Cert.ReferenceIdeal.Gen.facts) := by
  intro m ρ m' ρ' _ hm
  have hA : RowsOf m (Cert.Whole.arr0 m' 0) := fun c => (hm c).1
  have hB : ColsOf m (Cert.Whole.arr1 m' 0) := fun c => (hm c).2
  refine ⟨(Cert.ReferenceIdeal.Gen.dats m' 0 0).arrAt 2 Cert.ReferenceIdeal.cfg0.N, ?_, ?_⟩
  · refine (θ_run defs _ _).mono (fun r h c => ⟨?_, (h.1 c).2, ((h.1 c).1 (0 : Fin 2)).trans (finalA_w m c)⟩) (run_main m ρ)
    refine (((h.1 c).1 (1 : Fin 2)).trans (finalA_o m c)).trans (funext fun i => ?_)
    refine (outFin_at hA hB c i _ _ ?_ ?_).trans (Cert.Whole.result_at m' 0 _).symm
    · exact Layout.Tiles.idx_val (S := ⟨2, ![4096, 256]⟩) (T := ⟨2, ![4096, 2048]⟩) (a := 1) (k := 8) _ c i 0
    · exact Layout.Tiles.idx_val (S := ⟨2, ![4096, 256]⟩) (T := ⟨2, ![4096, 2048]⟩) (a := 1) (k := 8) _ c i 1
  · exact (θ_run Cert.ReferenceIdeal.defs _ _).mono (fun r h => h 0) (Cert.ReferenceIdeal.Value.run_blocks m' ρ')

end Cert.Cube

end
-- ==== Proof.lean ====
/-
The proof of the claims about the kernel and its reference: every run of either ends, with the arguments unchanged and
every semaphore at zero; and over the extended reals the eight devices' results are the parts of the reference's result.
-/
module

public import proofs.«01_k».proof.Defs
public import proofs.«01_k».proof.Proof.Gen.Kernel
public import proofs.«01_k».proof.Proof.Gen.KernelIdeal
public import proofs.«01_k».proof.Proof.Gen.ReferenceIdeal.Value
public import proofs.«01_k».proof.Proof.Frames
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts,
    Cert.Cube.frame_kernel, Cert.Cube.frame_kernelIdeal, fun m ρ _ => Cert.ReferenceIdeal.Gen.frame m ρ, trivial, Cert.Cube.agree⟩

end Cert.Proof

end
